-- ==== Defs.lean ====
def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_PostMix (m : (ℓ : Loc Cert.PostMix.nD Cert.PostMix.τ Cert.PostMix.sig) → Buf (Elt Bits) ℓ) : Prop :=
  True

def Pre_PostMixIdeal (m : (ℓ : Loc Cert.PostMixIdeal.nD Cert.PostMixIdeal.τ Cert.PostMixIdeal.sig) → Buf (Elt Ideal) ℓ) : Prop :=
  True

def Pre_PostMixReferenceIdeal (m : (ℓ : Loc Cert.PostMixReferenceIdeal.nD Cert.PostMixReferenceIdeal.τ Cert.PostMixReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7)
      ∧ r.2.mem ((c.tc : Thread Cert.MixIn.nD Cert.MixIn.τ).loc Cert.MixIn.main_arg8) = m ((c.tc : Thread Cert.MixIn.nD Cert.MixIn.τ).loc Cert.MixIn.main_arg8))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5)
      ∧ r.2.mem ((c.tc : Thread Cert.MixInReferenceIdeal.nD Cert.MixInReferenceIdeal.τ).loc Cert.MixInReferenceIdeal.main_arg6) = m ((c.tc : Thread Cert.MixInReferenceIdeal.nD Cert.MixInReferenceIdeal.τ).loc Cert.MixInReferenceIdeal.main_arg6)
      ∧ r.2.mem ((c.tc : Thread Cert.MixInReferenceIdeal.nD Cert.MixInReferenceIdeal.τ).loc Cert.MixInReferenceIdeal.main_arg7) = m ((c.tc : Thread Cert.MixInReferenceIdeal.nD Cert.MixInReferenceIdeal.τ).loc Cert.MixInReferenceIdeal.main_arg7)
      ∧ r.2.mem ((c.tc : Thread Cert.MixInReferenceIdeal.nD Cert.MixInReferenceIdeal.τ).loc Cert.MixInReferenceIdeal.main_arg8) = m ((c.tc : Thread Cert.MixInReferenceIdeal.nD Cert.MixInReferenceIdeal.τ).loc Cert.MixInReferenceIdeal.main_arg8))
      ∧ r.2.sem = fun _ => 0)

def quiescent_PostMix [hPostMix : Cert.PostMix.Facts] : Prop :=
  ∀ (m : (ℓ : Loc Cert.PostMix.nD Cert.PostMix.τ Cert.PostMix.sig) → Buf (Elt Bits) ℓ) (g : Dev Cert.PostMix.nD → PrngReg), Pre_PostMix m →
    θ_run (Cert.PostMix.defs (F := Bits)) (onTc (τ := Cert.PostMix.τ) (Cert.PostMix.main (F := Bits))) ⟨m, fun _ => 0, g⟩ (fun r => (∀ c : Dev Cert.PostMix.nD,
      r.2.mem ((c.tc : Thread Cert.PostMix.nD Cert.PostMix.τ).loc Cert.PostMix.main_arg0) = m ((c.tc : Thread Cert.PostMix.nD Cert.PostMix.τ).loc Cert.PostMix.main_arg0)
      ∧ r.2.mem ((c.tc : Thread Cert.PostMix.nD Cert.PostMix.τ).loc Cert.PostMix.main_arg1) = m ((c.tc : Thread Cert.PostMix.nD Cert.PostMix.τ).loc Cert.PostMix.main_arg1)
      ∧ r.2.mem ((c.tc : Thread Cert.PostMix.nD Cert.PostMix.τ).loc Cert.PostMix.main_arg2) = m ((c.tc : Thread Cert.PostMix.nD Cert.PostMix.τ).loc Cert.PostMix.main_arg2)
      ∧ r.2.mem ((c.tc : Thread Cert.PostMix.nD Cert.PostMix.τ).loc Cert.PostMix.main_arg3) = m ((c.tc : Thread Cert.PostMix.nD Cert.PostMix.τ).loc Cert.PostMix.main_arg3)
      ∧ r.2.mem ((c.tc : Thread Cert.PostMix.nD Cert.PostMix.τ).loc Cert.PostMix.main_arg4) = m ((c.tc : Thread Cert.PostMix.nD Cert.PostMix.τ).loc Cert.PostMix.main_arg4)
      ∧ r.2.mem ((c.tc : Thread Cert.PostMix.nD Cert.PostMix.τ).loc Cert.PostMix.main_arg5) = m ((c.tc : Thread Cert.PostMix.nD Cert.PostMix.τ).loc Cert.PostMix.main_arg5)
      ∧ r.2.mem ((c.tc : Thread Cert.PostMix.nD Cert.PostMix.τ).loc Cert.PostMix.main_arg6) = m ((c.tc : Thread Cert.PostMix.nD Cert.PostMix.τ).loc Cert.PostMix.main_arg6)
      ∧ r.2.mem ((c.tc : Thread Cert.PostMix.nD Cert.PostMix.τ).loc Cert.PostMix.main_arg7) = m ((c.tc : Thread Cert.PostMix.nD Cert.PostMix.τ).loc Cert.PostMix.main_arg7)
      ∧ r.2.mem ((c.tc : Thread Cert.PostMix.nD Cert.PostMix.τ).loc Cert.PostMix.main_arg8) = m ((c.tc : Thread Cert.PostMix.nD Cert.PostMix.τ).loc Cert.PostMix.main_arg8)
      ∧ r.2.mem ((c.tc : Thread Cert.PostMix.nD Cert.PostMix.τ).loc Cert.PostMix.main_arg9) = m ((c.tc : Thread Cert.PostMix.nD Cert.PostMix.τ).loc Cert.PostMix.main_arg9)
      ∧ r.2.mem ((c.tc : Thread Cert.PostMix.nD Cert.PostMix.τ).loc Cert.PostMix.main_arg10) = m ((c.tc : Thread Cert.PostMix.nD Cert.PostMix.τ).loc Cert.PostMix.main_arg10)
      ∧ r.2.mem ((c.tc : Thread Cert.PostMix.nD Cert.PostMix.τ).loc Cert.PostMix.main_arg11) = m ((c.tc : Thread Cert.PostMix.nD Cert.PostMix.τ).loc Cert.PostMix.main_arg11))
      ∧ r.2.sem = fun _ => 0)

def quiescent_PostMixIdeal [hPostMixIdeal : Cert.PostMixIdeal.Facts] : Prop :=
  ∀ (m : (ℓ : Loc Cert.PostMixIdeal.nD Cert.PostMixIdeal.τ Cert.PostMixIdeal.sig) → Buf (Elt Ideal) ℓ) (g : Dev Cert.PostMixIdeal.nD → PrngReg), Pre_PostMixIdeal m →
    θ_run (Cert.PostMixIdeal.defs (F := Ideal)) (onTc (τ := Cert.PostMixIdeal.τ) (Cert.PostMixIdeal.main (F := Ideal))) ⟨m, fun _ => 0, g⟩ (fun r => (∀ c : Dev Cert.PostMixIdeal.nD,
      r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
      ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
      ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
      ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3)
      ∧ r.2.mem ((c.tc : Thread Cert.PostMixIdeal.nD Cert.PostMixIdeal.τ).loc Cert.PostMixIdeal.main_arg4) = m ((c.tc : Thread Cert.PostMixIdeal.nD Cert.PostMixIdeal.τ).loc Cert.PostMixIdeal.main_arg4)
      ∧ r.2.mem ((c.tc : Thread Cert.PostMixIdeal.nD Cert.PostMixIdeal.τ).loc Cert.PostMixIdeal.main_arg5) = m ((c.tc : Thread Cert.PostMixIdeal.nD Cert.PostMixIdeal.τ).loc Cert.PostMixIdeal.main_arg5)
      ∧ r.2.mem ((c.tc : Thread Cert.PostMixIdeal.nD Cert.PostMixIdeal.τ).loc Cert.PostMixIdeal.main_arg6) = m ((c.tc : Thread Cert.PostMixIdeal.nD Cert.PostMixIdeal.τ).loc Cert.PostMixIdeal.main_arg6)
      ∧ r.2.mem ((c.tc : Thread Cert.PostMixIdeal.nD Cert.PostMixIdeal.τ).loc Cert.PostMixIdeal.main_arg7) = m ((c.tc : Thread Cert.PostMixIdeal.nD Cert.PostMixIdeal.τ).loc Cert.PostMixIdeal.main_arg7)
      ∧ r.2.mem ((c.tc : Thread Cert.PostMixIdeal.nD Cert.PostMixIdeal.τ).loc Cert.PostMixIdeal.main_arg8) = m ((c.tc : Thread Cert.PostMixIdeal.nD Cert.PostMixIdeal.τ).loc Cert.PostMixIdeal.main_arg8)
      ∧ r.2.mem ((c.tc : Thread Cert.PostMixIdeal.nD Cert.PostMixIdeal.τ).loc Cert.PostMixIdeal.main_arg9) = m ((c.tc : Thread Cert.PostMixIdeal.nD Cert.PostMixIdeal.τ).loc Cert.PostMixIdeal.main_arg9)
      ∧ r.2.mem ((c.tc : Thread Cert.PostMixIdeal.nD Cert.PostMixIdeal.τ).loc Cert.PostMixIdeal.main_arg10) = m ((c.tc : Thread Cert.PostMixIdeal.nD Cert.PostMixIdeal.τ).loc Cert.PostMixIdeal.main_arg10)
      ∧ r.2.mem ((c.tc : Thread Cert.PostMixIdeal.nD Cert.PostMixIdeal.τ).loc Cert.PostMixIdeal.main_arg11) = m ((c.tc : Thread Cert.PostMixIdeal.nD Cert.PostMixIdeal.τ).loc Cert.PostMixIdeal.main_arg11))
      ∧ r.2.sem = fun _ => 0)

def quiescent_PostMixReferenceIdeal [hPostMixReferenceIdeal : Cert.PostMixReferenceIdeal.Facts] : Prop :=
  ∀ (m : (ℓ : Loc Cert.PostMixReferenceIdeal.nD Cert.PostMixReferenceIdeal.τ Cert.PostMixReferenceIdeal.sig) → Buf (Elt Ideal) ℓ) (g : Dev Cert.PostMixReferenceIdeal.nD → PrngReg), Pre_PostMixReferenceIdeal m →
    θ_run (Cert.PostMixReferenceIdeal.defs (F := Ideal)) (onTc (τ := Cert.PostMixReferenceIdeal.τ) (Cert.PostMixReferenceIdeal.main (F := Ideal))) ⟨m, fun _ => 0, g⟩ (fun r => (∀ c : Dev Cert.PostMixReferenceIdeal.nD,
      r.2.mem ((c.tc : Thread Cert.PostMixReferenceIdeal.nD Cert.PostMixReferenceIdeal.τ).loc Cert.PostMixReferenceIdeal.main_arg0) = m ((c.tc : Thread Cert.PostMixReferenceIdeal.nD Cert.PostMixReferenceIdeal.τ).loc Cert.PostMixReferenceIdeal.main_arg0)
      ∧ r.2.mem ((c.tc : Thread Cert.PostMixReferenceIdeal.nD Cert.PostMixReferenceIdeal.τ).loc Cert.PostMixReferenceIdeal.main_arg1) = m ((c.tc : Thread Cert.PostMixReferenceIdeal.nD Cert.PostMixReferenceIdeal.τ).loc Cert.PostMixReferenceIdeal.main_arg1)
      ∧ r.2.mem ((c.tc : Thread Cert.PostMixReferenceIdeal.nD Cert.PostMixReferenceIdeal.τ).loc Cert.PostMixReferenceIdeal.main_arg2) = m ((c.tc : Thread Cert.PostMixReferenceIdeal.nD Cert.PostMixReferenceIdeal.τ).loc Cert.PostMixReferenceIdeal.main_arg2)
      ∧ r.2.mem ((c.tc : Thread Cert.PostMixReferenceIdeal.nD Cert.PostMixReferenceIdeal.τ).loc Cert.PostMixReferenceIdeal.main_arg3) = m ((c.tc : Thread Cert.PostMixReferenceIdeal.nD Cert.PostMixReferenceIdeal.τ).loc Cert.PostMixReferenceIdeal.main_arg3)
      ∧ r.2.mem ((c.tc : Thread Cert.PostMixReferenceIdeal.nD Cert.PostMixReferenceIdeal.τ).loc Cert.PostMixReferenceIdeal.main_arg4) = m ((c.tc : Thread Cert.PostMixReferenceIdeal.nD Cert.PostMixReferenceIdeal.τ).loc Cert.PostMixReferenceIdeal.main_arg4)
      ∧ r.2.mem ((c.tc : Thread Cert.PostMixReferenceIdeal.nD Cert.PostMixReferenceIdeal.τ).loc Cert.PostMixReferenceIdeal.main_arg5) = m ((c.tc : Thread Cert.PostMixReferenceIdeal.nD Cert.PostMixReferenceIdeal.τ).loc Cert.PostMixReferenceIdeal.main_arg5)
      ∧ r.2.mem ((c.tc : Thread Cert.PostMixReferenceIdeal.nD Cert.PostMixReferenceIdeal.τ).loc Cert.PostMixReferenceIdeal.main_arg6) = m ((c.tc : Thread Cert.PostMixReferenceIdeal.nD Cert.PostMixReferenceIdeal.τ).loc Cert.PostMixReferenceIdeal.main_arg6)
      ∧ r.2.mem ((c.tc : Thread Cert.PostMixReferenceIdeal.nD Cert.PostMixReferenceIdeal.τ).loc Cert.PostMixReferenceIdeal.main_arg7) = m ((c.tc : Thread Cert.PostMixReferenceIdeal.nD Cert.PostMixReferenceIdeal.τ).loc Cert.PostMixReferenceIdeal.main_arg7)
      ∧ r.2.mem ((c.tc : Thread Cert.PostMixReferenceIdeal.nD Cert.PostMixReferenceIdeal.τ).loc Cert.PostMixReferenceIdeal.main_arg8) = m ((c.tc : Thread Cert.PostMixReferenceIdeal.nD Cert.PostMixReferenceIdeal.τ).loc Cert.PostMixReferenceIdeal.main_arg8)
      ∧ r.2.mem ((c.tc : Thread Cert.PostMixReferenceIdeal.nD Cert.PostMixReferenceIdeal.τ).loc Cert.PostMixReferenceIdeal.main_arg9) = m ((c.tc : Thread Cert.PostMixReferenceIdeal.nD Cert.PostMixReferenceIdeal.τ).loc Cert.PostMixReferenceIdeal.main_arg9)
      ∧ r.2.mem ((c.tc : Thread Cert.PostMixReferenceIdeal.nD Cert.PostMixReferenceIdeal.τ).loc Cert.PostMixReferenceIdeal.main_arg10) = m ((c.tc : Thread Cert.PostMixReferenceIdeal.nD Cert.PostMixReferenceIdeal.τ).loc Cert.PostMixReferenceIdeal.main_arg10)
      ∧ r.2.mem ((c.tc : Thread Cert.PostMixReferenceIdeal.nD Cert.PostMixReferenceIdeal.τ).loc Cert.PostMixReferenceIdeal.main_arg11) = m ((c.tc : Thread Cert.PostMixReferenceIdeal.nD Cert.PostMixReferenceIdeal.τ).loc Cert.PostMixReferenceIdeal.main_arg11))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v47) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)
      ∧ m' ((c.tc : Thread Cert.MixInReferenceIdeal.nD Cert.MixInReferenceIdeal.τ).loc Cert.MixInReferenceIdeal.main_arg2) = m ((c.tc : Thread Cert.MixInIdeal.nD Cert.MixInIdeal.τ).loc Cert.MixInIdeal.main_arg2)
      ∧ m' ((c.tc : Thread Cert.MixInReferenceIdeal.nD Cert.MixInReferenceIdeal.τ).loc Cert.MixInReferenceIdeal.main_arg3) = m ((c.tc : Thread Cert.MixInIdeal.nD Cert.MixInIdeal.τ).loc Cert.MixInIdeal.main_arg3)
      ∧ m' ((c.tc : Thread Cert.MixInReferenceIdeal.nD Cert.MixInReferenceIdeal.τ).loc Cert.MixInReferenceIdeal.main_arg4) = m ((c.tc : Thread Cert.MixInIdeal.nD Cert.MixInIdeal.τ).loc Cert.MixInIdeal.main_arg4)
      ∧ m' ((c.tc : Thread Cert.MixInReferenceIdeal.nD Cert.MixInReferenceIdeal.τ).loc Cert.MixInReferenceIdeal.main_arg5) = m ((c.tc : Thread Cert.MixInIdeal.nD Cert.MixInIdeal.τ).loc Cert.MixInIdeal.main_arg5)
      ∧ m' ((c.tc : Thread Cert.MixInReferenceIdeal.nD Cert.MixInReferenceIdeal.τ).loc Cert.MixInReferenceIdeal.main_arg6) = m ((c.tc : Thread Cert.MixInIdeal.nD Cert.MixInIdeal.τ).loc Cert.MixInIdeal.main_arg6)
      ∧ m' ((c.tc : Thread Cert.MixInReferenceIdeal.nD Cert.MixInReferenceIdeal.τ).loc Cert.MixInReferenceIdeal.main_arg7) = m ((c.tc : Thread Cert.MixInIdeal.nD Cert.MixInIdeal.τ).loc Cert.MixInIdeal.main_arg7)
      ∧ m' ((c.tc : Thread Cert.MixInReferenceIdeal.nD Cert.MixInReferenceIdeal.τ).loc Cert.MixInReferenceIdeal.main_arg8) = m ((c.tc : Thread Cert.MixInIdeal.nD Cert.MixInIdeal.τ).loc Cert.MixInIdeal.main_arg8)) →
    ∃ (v0 : (c : Dev Cert.MixInIdeal.nD) → Buf (Elt Ideal) ((c.tc : Thread Cert.MixInIdeal.nD Cert.MixInIdeal.τ).loc Cert.MixInIdeal.main_v6_0)) (v1 : (c : Dev Cert.MixInIdeal.nD) → Buf (Elt Ideal) ((c.tc : Thread Cert.MixInIdeal.nD Cert.MixInIdeal.τ).loc Cert.MixInIdeal.main_v6_1)) (v2 : (c : Dev Cert.MixInIdeal.nD) → Buf (Elt Ideal) ((c.tc : Thread Cert.MixInIdeal.nD Cert.MixInIdeal.τ).loc Cert.MixInIdeal.main_v6_2)) (v3 : (c : Dev Cert.MixInIdeal.nD) → Buf (Elt Ideal) ((c.tc : Thread Cert.MixInIdeal.nD Cert.MixInIdeal.τ).loc Cert.MixInIdeal.main_v6_3)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v6_0) = v0 c
          ∧ r.2.mem ((c.tc : Thread Cert.MixInIdeal.nD Cert.MixInIdeal.τ).loc Cert.MixInIdeal.main_v6_1) = v1 c
          ∧ r.2.mem ((c.tc : Thread Cert.MixInIdeal.nD Cert.MixInIdeal.τ).loc Cert.MixInIdeal.main_v6_2) = v2 c
          ∧ r.2.mem ((c.tc : Thread Cert.MixInIdeal.nD Cert.MixInIdeal.τ).loc Cert.MixInIdeal.main_v6_3) = v3 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
          ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v108) = v0 c
          ∧ r.2.mem ((c.tc : Thread Cert.MixInReferenceIdeal.nD Cert.MixInReferenceIdeal.τ).loc Cert.MixInReferenceIdeal.main_v109) = v1 c
          ∧ r.2.mem ((c.tc : Thread Cert.MixInReferenceIdeal.nD Cert.MixInReferenceIdeal.τ).loc Cert.MixInReferenceIdeal.main_v110) = v2 c
          ∧ r.2.mem ((c.tc : Thread Cert.MixInReferenceIdeal.nD Cert.MixInReferenceIdeal.τ).loc Cert.MixInReferenceIdeal.main_v111) = v3 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4)
          ∧ r.2.mem ((c.tc : Thread Cert.MixInReferenceIdeal.nD Cert.MixInReferenceIdeal.τ).loc Cert.MixInReferenceIdeal.main_arg5) = m' ((c.tc : Thread Cert.MixInReferenceIdeal.nD Cert.MixInReferenceIdeal.τ).loc Cert.MixInReferenceIdeal.main_arg5)
          ∧ r.2.mem ((c.tc : Thread Cert.MixInReferenceIdeal.nD Cert.MixInReferenceIdeal.τ).loc Cert.MixInReferenceIdeal.main_arg6) = m' ((c.tc : Thread Cert.MixInReferenceIdeal.nD Cert.MixInReferenceIdeal.τ).loc Cert.MixInReferenceIdeal.main_arg6)
          ∧ r.2.mem ((c.tc : Thread Cert.MixInReferenceIdeal.nD Cert.MixInReferenceIdeal.τ).loc Cert.MixInReferenceIdeal.main_arg7) = m' ((c.tc : Thread Cert.MixInReferenceIdeal.nD Cert.MixInReferenceIdeal.τ).loc Cert.MixInReferenceIdeal.main_arg7)
          ∧ r.2.mem ((c.tc : Thread Cert.MixInReferenceIdeal.nD Cert.MixInReferenceIdeal.τ).loc Cert.MixInReferenceIdeal.main_arg8) = m' ((c.tc : Thread Cert.MixInReferenceIdeal.nD Cert.MixInReferenceIdeal.τ).loc Cert.MixInReferenceIdeal.main_arg8))

def preserves_PostMix_PostMixIdeal : Prop :=
  True

def algebraic_PostMixIdeal_PostMixReferenceIdeal_on_token_rows [hPostMixIdeal : Cert.PostMixIdeal.Facts] [hPostMixReferenceIdeal : Cert.PostMixReferenceIdeal.Facts] [hOn_token_rows : Cert.On_token_rows.Facts] : Prop :=
  ∀ (m : (ℓ : Loc Cert.PostMixIdeal.nD Cert.PostMixIdeal.τ Cert.PostMixIdeal.sig) → Buf (Elt Ideal) ℓ) (g : Dev Cert.PostMixIdeal.nD → PrngReg)
    (m' : (ℓ : Loc Cert.PostMixReferenceIdeal.nD Cert.PostMixReferenceIdeal.τ Cert.PostMixReferenceIdeal.sig) → Buf (Elt Ideal) ℓ) (g' : Dev Cert.PostMixReferenceIdeal.nD → PrngReg), Pre_PostMixIdeal m →
    (∀ c : Dev Cert.PostMixIdeal.nD,
      m' ((c.tc : Thread Cert.PostMixReferenceIdeal.nD Cert.PostMixReferenceIdeal.τ).loc Cert.PostMixReferenceIdeal.main_arg0) = m ((c.tc : Thread Cert.PostMixIdeal.nD Cert.PostMixIdeal.τ).loc Cert.PostMixIdeal.main_arg0)
      ∧ m' ((c.tc : Thread Cert.PostMixReferenceIdeal.nD Cert.PostMixReferenceIdeal.τ).loc Cert.PostMixReferenceIdeal.main_arg1) = m ((c.tc : Thread Cert.PostMixIdeal.nD Cert.PostMixIdeal.τ).loc Cert.PostMixIdeal.main_arg1)
      ∧ m' ((c.tc : Thread Cert.PostMixReferenceIdeal.nD Cert.PostMixReferenceIdeal.τ).loc Cert.PostMixReferenceIdeal.main_arg2) = m ((c.tc : Thread Cert.PostMixIdeal.nD Cert.PostMixIdeal.τ).loc Cert.PostMixIdeal.main_arg2)
      ∧ m' ((c.tc : Thread Cert.PostMixReferenceIdeal.nD Cert.PostMixReferenceIdeal.τ).loc Cert.PostMixReferenceIdeal.main_arg3) = m ((c.tc : Thread Cert.PostMixIdeal.nD Cert.PostMixIdeal.τ).loc Cert.PostMixIdeal.main_arg3)
      ∧ m' ((c.tc : Thread Cert.PostMixReferenceIdeal.nD Cert.PostMixReferenceIdeal.τ).loc Cert.PostMixReferenceIdeal.main_arg4) = m ((c.tc : Thread Cert.PostMixIdeal.nD Cert.PostMixIdeal.τ).loc Cert.PostMixIdeal.main_arg4)
      ∧ m' ((c.tc : Thread Cert.PostMixReferenceIdeal.nD Cert.PostMixReferenceIdeal.τ).loc Cert.PostMixReferenceIdeal.main_arg5) = m ((c.tc : Thread Cert.PostMixIdeal.nD Cert.PostMixIdeal.τ).loc Cert.PostMixIdeal.main_arg5)
      ∧ m' ((c.tc : Thread Cert.PostMixReferenceIdeal.nD Cert.PostMixReferenceIdeal.τ).loc Cert.PostMixReferenceIdeal.main_arg6) = m ((c.tc : Thread Cert.PostMixIdeal.nD Cert.PostMixIdeal.τ).loc Cert.PostMixIdeal.main_arg6)
      ∧ m' ((c.tc : Thread Cert.PostMixReferenceIdeal.nD Cert.PostMixReferenceIdeal.τ).loc Cert.PostMixReferenceIdeal.main_arg7) = m ((c.tc : Thread Cert.PostMixIdeal.nD Cert.PostMixIdeal.τ).loc Cert.PostMixIdeal.main_arg7)
      ∧ m' ((c.tc : Thread Cert.PostMixReferenceIdeal.nD Cert.PostMixReferenceIdeal.τ).loc Cert.PostMixReferenceIdeal.main_arg8) = m ((c.tc : Thread Cert.PostMixIdeal.nD Cert.PostMixIdeal.τ).loc Cert.PostMixIdeal.main_arg8)
      ∧ m' ((c.tc : Thread Cert.PostMixReferenceIdeal.nD Cert.PostMixReferenceIdeal.τ).loc Cert.PostMixReferenceIdeal.main_arg9) = m ((c.tc : Thread Cert.PostMixIdeal.nD Cert.PostMixIdeal.τ).loc Cert.PostMixIdeal.main_arg9)
      ∧ m' ((c.tc : Thread Cert.PostMixReferenceIdeal.nD Cert.PostMixReferenceIdeal.τ).loc Cert.PostMixReferenceIdeal.main_arg10) = m ((c.tc : Thread Cert.PostMixIdeal.nD Cert.PostMixIdeal.τ).loc Cert.PostMixIdeal.main_arg10)
      ∧ m' ((c.tc : Thread Cert.PostMixReferenceIdeal.nD Cert.PostMixReferenceIdeal.τ).loc Cert.PostMixReferenceIdeal.main_arg11) = m ((c.tc : Thread Cert.PostMixIdeal.nD Cert.PostMixIdeal.τ).loc Cert.PostMixIdeal.main_arg11)) →
    ∃ (v0 : (c : Dev Cert.PostMixIdeal.nD) → Buf (Elt Ideal) ((c.tc : Thread Cert.PostMixIdeal.nD Cert.PostMixIdeal.τ).loc Cert.PostMixIdeal.main_v12_0)) (v1 : (c : Dev Cert.PostMixIdeal.nD) → Buf (Elt Ideal) ((c.tc : Thread Cert.PostMixIdeal.nD Cert.PostMixIdeal.τ).loc Cert.PostMixIdeal.main_v12_1)) (v2 : (c : Dev Cert.PostMixIdeal.nD) → Buf (Elt Ideal) ((c.tc : Thread Cert.PostMixIdeal.nD Cert.PostMixIdeal.τ).loc Cert.PostMixIdeal.main_v12_2)) (v3 : (c : Dev Cert.PostMixIdeal.nD) → Buf (Elt Ideal) ((c.tc : Thread Cert.PostMixIdeal.nD Cert.PostMixIdeal.τ).loc Cert.PostMixIdeal.main_v12_3)) (v4 : (c : Dev Cert.PostMixIdeal.nD) → Buf (Elt Ideal) ((c.tc : Thread Cert.PostMixIdeal.nD Cert.PostMixIdeal.τ).loc Cert.PostMixIdeal.main_v12_4)) (v5 : (c : Dev Cert.PostMixIdeal.nD) → Buf (Elt Ideal) ((c.tc : Thread Cert.PostMixIdeal.nD Cert.PostMixIdeal.τ).loc Cert.PostMixIdeal.main_v12_5)),
      θ_run (Cert.PostMixIdeal.defs (F := Ideal)) (onTc (τ := Cert.PostMixIdeal.τ) (Cert.PostMixIdeal.main (F := Ideal))) ⟨m, fun _ => 0, g⟩ (fun r => ∀ c : Dev Cert.PostMixIdeal.nD,
          (∀ i : (⟨3, ![16, 4096, 1024]⟩ : Shape).Idx, (Cert.On_token_rows.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7)) (m ((c.tc : Thread Cert.PostMixIdeal.nD Cert.PostMixIdeal.τ).loc Cert.PostMixIdeal.main_arg8)) (m ((c.tc : Thread Cert.PostMixIdeal.nD Cert.PostMixIdeal.τ).loc Cert.PostMixIdeal.main_arg9)) (m ((c.tc : Thread Cert.PostMixIdeal.nD Cert.PostMixIdeal.τ).loc Cert.PostMixIdeal.main_arg10)) (m ((c.tc : Thread Cert.PostMixIdeal.nD Cert.PostMixIdeal.τ).loc Cert.PostMixIdeal.main_arg11))).1 i = 1#1 → r.2.mem ((c.tc : Thread Cert.PostMixIdeal.nD Cert.PostMixIdeal.τ).loc Cert.PostMixIdeal.main_v12_0) i = v0 c i)
          ∧ (∀ i : (⟨2, ![65536, 1024]⟩ : Shape).Idx, (Cert.On_token_rows.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7)) (m ((c.tc : Thread Cert.PostMixIdeal.nD Cert.PostMixIdeal.τ).loc Cert.PostMixIdeal.main_arg8)) (m ((c.tc : Thread Cert.PostMixIdeal.nD Cert.PostMixIdeal.τ).loc Cert.PostMixIdeal.main_arg9)) (m ((c.tc : Thread Cert.PostMixIdeal.nD Cert.PostMixIdeal.τ).loc Cert.PostMixIdeal.main_arg10)) (m ((c.tc : Thread Cert.PostMixIdeal.nD Cert.PostMixIdeal.τ).loc Cert.PostMixIdeal.main_arg11))).2.1 i = 1#1 → r.2.mem ((c.tc : Thread Cert.PostMixIdeal.nD Cert.PostMixIdeal.τ).loc Cert.PostMixIdeal.main_v12_1) i = v1 c i)
          ∧ (∀ i : (⟨2, ![8, 65536]⟩ : Shape).Idx, (Cert.On_token_rows.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7)) (m ((c.tc : Thread Cert.PostMixIdeal.nD Cert.PostMixIdeal.τ).loc Cert.PostMixIdeal.main_arg8)) (m ((c.tc : Thread Cert.PostMixIdeal.nD Cert.PostMixIdeal.τ).loc Cert.PostMixIdeal.main_arg9)) (m ((c.tc : Thread Cert.PostMixIdeal.nD Cert.PostMixIdeal.τ).loc Cert.PostMixIdeal.main_arg10)) (m ((c.tc : Thread Cert.PostMixIdeal.nD Cert.PostMixIdeal.τ).loc Cert.PostMixIdeal.main_arg11))).2.2.1 i = 1#1 → r.2.mem ((c.tc : Thread Cert.PostMixIdeal.nD Cert.PostMixIdeal.τ).loc Cert.PostMixIdeal.main_v12_2) i = v2 c i)
          ∧ (∀ i : (⟨2, ![8, 65536]⟩ : Shape).Idx, (Cert.On_token_rows.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7)) (m ((c.tc : Thread Cert.PostMixIdeal.nD Cert.PostMixIdeal.τ).loc Cert.PostMixIdeal.main_arg8)) (m ((c.tc : Thread Cert.PostMixIdeal.nD Cert.PostMixIdeal.τ).loc Cert.PostMixIdeal.main_arg9)) (m ((c.tc : Thread Cert.PostMixIdeal.nD Cert.PostMixIdeal.τ).loc Cert.PostMixIdeal.main_arg10)) (m ((c.tc : Thread Cert.PostMixIdeal.nD Cert.PostMixIdeal.τ).loc Cert.PostMixIdeal.main_arg11))).2.2.2.1 i = 1#1 → r.2.mem ((c.tc : Thread Cert.PostMixIdeal.nD Cert.PostMixIdeal.τ).loc Cert.PostMixIdeal.main_v12_3) i = v3 c i)
          ∧ (∀ i : (⟨2, ![8, 65536]⟩ : Shape).Idx, (Cert.On_token_rows.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7)) (m ((c.tc : Thread Cert.PostMixIdeal.nD Cert.PostMixIdeal.τ).loc Cert.PostMixIdeal.main_arg8)) (m ((c.tc : Thread Cert.PostMixIdeal.nD Cert.PostMixIdeal.τ).loc Cert.PostMixIdeal.main_arg9)) (m ((c.tc : Thread Cert.PostMixIdeal.nD Cert.PostMixIdeal.τ).loc Cert.PostMixIdeal.main_arg10)) (m ((c.tc : Thread Cert.PostMixIdeal.nD Cert.PostMixIdeal.τ).loc Cert.PostMixIdeal.main_arg11))).2.2.2.2.1 i = 1#1 → r.2.mem ((c.tc : Thread Cert.PostMixIdeal.nD Cert.PostMixIdeal.τ).loc Cert.PostMixIdeal.main_v12_4) i = v4 c i)
          ∧ (∀ i : (⟨2, ![256, 1]⟩ : Shape).Idx, (Cert.On_token_rows.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7)) (m ((c.tc : Thread Cert.PostMixIdeal.nD Cert.PostMixIdeal.τ).loc Cert.PostMixIdeal.main_arg8)) (m ((c.tc : Thread Cert.PostMixIdeal.nD Cert.PostMixIdeal.τ).loc Cert.PostMixIdeal.main_arg9)) (m ((c.tc : Thread Cert.PostMixIdeal.nD Cert.PostMixIdeal.τ).loc Cert.PostMixIdeal.main_arg10)) (m ((c.tc : Thread Cert.PostMixIdeal.nD Cert.PostMixIdeal.τ).loc Cert.PostMixIdeal.main_arg11))).2.2.2.2.2 i = 1#1 → r.2.mem ((c.tc : Thread Cert.PostMixIdeal.nD Cert.PostMixIdeal.τ).loc Cert.PostMixIdeal.main_v12_5) i = v5 c i)
          ∧ r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
          ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
          ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
          ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3)
          ∧ r.2.mem ((c.tc : Thread Cert.PostMixIdeal.nD Cert.PostMixIdeal.τ).loc Cert.PostMixIdeal.main_arg4) = m ((c.tc : Thread Cert.PostMixIdeal.nD Cert.PostMixIdeal.τ).loc Cert.PostMixIdeal.main_arg4)
          ∧ r.2.mem ((c.tc : Thread Cert.PostMixIdeal.nD Cert.PostMixIdeal.τ).loc Cert.PostMixIdeal.main_arg5) = m ((c.tc : Thread Cert.PostMixIdeal.nD Cert.PostMixIdeal.τ).loc Cert.PostMixIdeal.main_arg5)
          ∧ r.2.mem ((c.tc : Thread Cert.PostMixIdeal.nD Cert.PostMixIdeal.τ).loc Cert.PostMixIdeal.main_arg6) = m ((c.tc : Thread Cert.PostMixIdeal.nD Cert.PostMixIdeal.τ).loc Cert.PostMixIdeal.main_arg6)
          ∧ r.2.mem ((c.tc : Thread Cert.PostMixIdeal.nD Cert.PostMixIdeal.τ).loc Cert.PostMixIdeal.main_arg7) = m ((c.tc : Thread Cert.PostMixIdeal.nD Cert.PostMixIdeal.τ).loc Cert.PostMixIdeal.main_arg7)
          ∧ r.2.mem ((c.tc : Thread Cert.PostMixIdeal.nD Cert.PostMixIdeal.τ).loc Cert.PostMixIdeal.main_arg8) = m ((c.tc : Thread Cert.PostMixIdeal.nD Cert.PostMixIdeal.τ).loc Cert.PostMixIdeal.main_arg8)
          ∧ r.2.mem ((c.tc : Thread Cert.PostMixIdeal.nD Cert.PostMixIdeal.τ).loc Cert.PostMixIdeal.main_arg9) = m ((c.tc : Thread Cert.PostMixIdeal.nD Cert.PostMixIdeal.τ).loc Cert.PostMixIdeal.main_arg9)
          ∧ r.2.mem ((c.tc : Thread Cert.PostMixIdeal.nD Cert.PostMixIdeal.τ).loc Cert.PostMixIdeal.main_arg10) = m ((c.tc : Thread Cert.PostMixIdeal.nD Cert.PostMixIdeal.τ).loc Cert.PostMixIdeal.main_arg10)
          ∧ r.2.mem ((c.tc : Thread Cert.PostMixIdeal.nD Cert.PostMixIdeal.τ).loc Cert.PostMixIdeal.main_arg11) = m ((c.tc : Thread Cert.PostMixIdeal.nD Cert.PostMixIdeal.τ).loc Cert.PostMixIdeal.main_arg11))
      ∧ θ_run (Cert.PostMixReferenceIdeal.defs (F := Ideal)) (onTc (τ := Cert.PostMixReferenceIdeal.τ) (Cert.PostMixReferenceIdeal.main (F := Ideal))) ⟨m', fun _ => 0, g'⟩ (fun r => ∀ c : Dev Cert.PostMixReferenceIdeal.nD,
          (∀ i : (⟨3, ![16, 4096, 1024]⟩ : Shape).Idx, (Cert.On_token_rows.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7)) (m ((c.tc : Thread Cert.PostMixIdeal.nD Cert.PostMixIdeal.τ).loc Cert.PostMixIdeal.main_arg8)) (m ((c.tc : Thread Cert.PostMixIdeal.nD Cert.PostMixIdeal.τ).loc Cert.PostMixIdeal.main_arg9)) (m ((c.tc : Thread Cert.PostMixIdeal.nD Cert.PostMixIdeal.τ).loc Cert.PostMixIdeal.main_arg10)) (m ((c.tc : Thread Cert.PostMixIdeal.nD Cert.PostMixIdeal.τ).loc Cert.PostMixIdeal.main_arg11))).1 i = 1#1 → r.2.mem ((c.tc : Thread Cert.PostMixReferenceIdeal.nD Cert.PostMixReferenceIdeal.τ).loc Cert.PostMixReferenceIdeal.main_v102) i = v0 c i)
          ∧ (∀ i : (⟨2, ![65536, 1024]⟩ : Shape).Idx, (Cert.On_token_rows.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7)) (m ((c.tc : Thread Cert.PostMixIdeal.nD Cert.PostMixIdeal.τ).loc Cert.PostMixIdeal.main_arg8)) (m ((c.tc : Thread Cert.PostMixIdeal.nD Cert.PostMixIdeal.τ).loc Cert.PostMixIdeal.main_arg9)) (m ((c.tc : Thread Cert.PostMixIdeal.nD Cert.PostMixIdeal.τ).loc Cert.PostMixIdeal.main_arg10)) (m ((c.tc : Thread Cert.PostMixIdeal.nD Cert.PostMixIdeal.τ).loc Cert.PostMixIdeal.main_arg11))).2.1 i = 1#1 → r.2.mem ((c.tc : Thread Cert.PostMixReferenceIdeal.nD Cert.PostMixReferenceIdeal.τ).loc Cert.PostMixReferenceIdeal.main_v103) i = v1 c i)
          ∧ (∀ i : (⟨2, ![8, 65536]⟩ : Shape).Idx, (Cert.On_token_rows.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7)) (m ((c.tc : Thread Cert.PostMixIdeal.nD Cert.PostMixIdeal.τ).loc Cert.PostMixIdeal.main_arg8)) (m ((c.tc : Thread Cert.PostMixIdeal.nD Cert.PostMixIdeal.τ).loc Cert.PostMixIdeal.main_arg9)) (m ((c.tc : Thread Cert.PostMixIdeal.nD Cert.PostMixIdeal.τ).loc Cert.PostMixIdeal.main_arg10)) (m ((c.tc : Thread Cert.PostMixIdeal.nD Cert.PostMixIdeal.τ).loc Cert.PostMixIdeal.main_arg11))).2.2.1 i = 1#1 → r.2.mem ((c.tc : Thread Cert.PostMixReferenceIdeal.nD Cert.PostMixReferenceIdeal.τ).loc Cert.PostMixReferenceIdeal.main_v104) i = v2 c i)
          ∧ (∀ i : (⟨2, ![8, 65536]⟩ : Shape).Idx, (Cert.On_token_rows.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7)) (m ((c.tc : Thread Cert.PostMixIdeal.nD Cert.PostMixIdeal.τ).loc Cert.PostMixIdeal.main_arg8)) (m ((c.tc : Thread Cert.PostMixIdeal.nD Cert.PostMixIdeal.τ).loc Cert.PostMixIdeal.main_arg9)) (m ((c.tc : Thread Cert.PostMixIdeal.nD Cert.PostMixIdeal.τ).loc Cert.PostMixIdeal.main_arg10)) (m ((c.tc : Thread Cert.PostMixIdeal.nD Cert.PostMixIdeal.τ).loc Cert.PostMixIdeal.main_arg11))).2.2.2.1 i = 1#1 → r.2.mem ((c.tc : Thread Cert.PostMixReferenceIdeal.nD Cert.PostMixReferenceIdeal.τ).loc Cert.PostMixReferenceIdeal.main_v105) i = v3 c i)
          ∧ (∀ i : (⟨2, ![8, 65536]⟩ : Shape).Idx, (Cert.On_token_rows.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7)) (m ((c.tc : Thread Cert.PostMixIdeal.nD Cert.PostMixIdeal.τ).loc Cert.PostMixIdeal.main_arg8)) (m ((c.tc : Thread Cert.PostMixIdeal.nD Cert.PostMixIdeal.τ).loc Cert.PostMixIdeal.main_arg9)) (m ((c.tc : Thread Cert.PostMixIdeal.nD Cert.PostMixIdeal.τ).loc Cert.PostMixIdeal.main_arg10)) (m ((c.tc : Thread Cert.PostMixIdeal.nD Cert.PostMixIdeal.τ).loc Cert.PostMixIdeal.main_arg11))).2.2.2.2.1 i = 1#1 → r.2.mem ((c.tc : Thread Cert.PostMixReferenceIdeal.nD Cert.PostMixReferenceIdeal.τ).loc Cert.PostMixReferenceIdeal.main_v106) i = v4 c i)
          ∧ (∀ i : (⟨2, ![256, 1]⟩ : Shape).Idx, (Cert.On_token_rows.fn (F := Ideal) (m ((c.tc : Thread Cert.PostMixIdeal.nD Cert.PostMixIdeal.τ).loc Cert.PostMixIdeal.main_arg0)) (m ((c.tc : Thread Cert.PostMixIdeal.nD Cert.PostMixIdeal.τ).loc Cert.PostMixIdeal.main_arg1)) (m ((c.tc : Thread Cert.PostMixIdeal.nD Cert.PostMixIdeal.τ).loc Cert.PostMixIdeal.main_arg2)) (m ((c.tc : Thread Cert.PostMixIdeal.nD Cert.PostMixIdeal.τ).loc Cert.PostMixIdeal.main_arg3)) (m ((c.tc : Thread Cert.PostMixIdeal.nD Cert.PostMixIdeal.τ).loc Cert.PostMixIdeal.main_arg4)) (m ((c.tc : Thread Cert.PostMixIdeal.nD Cert.PostMixIdeal.τ).loc Cert.PostMixIdeal.main_arg5)) (m ((c.tc : Thread Cert.PostMixIdeal.nD Cert.PostMixIdeal.τ).loc Cert.PostMixIdeal.main_arg6)) (m ((c.tc : Thread Cert.PostMixIdeal.nD Cert.PostMixIdeal.τ).loc Cert.PostMixIdeal.main_arg7)) (m ((c.tc : Thread Cert.PostMixIdeal.nD Cert.PostMixIdeal.τ).loc Cert.PostMixIdeal.main_arg8)) (m ((c.tc : Thread Cert.PostMixIdeal.nD Cert.PostMixIdeal.τ).loc Cert.PostMixIdeal.main_arg9)) (m ((c.tc : Thread Cert.PostMixIdeal.nD Cert.PostMixIdeal.τ).loc Cert.PostMixIdeal.main_arg10)) (m ((c.tc : Thread Cert.PostMixIdeal.nD Cert.PostMixIdeal.τ).loc Cert.PostMixIdeal.main_arg11))).2.2.2.2.2 i = 1#1 → r.2.mem ((c.tc : Thread Cert.PostMixReferenceIdeal.nD Cert.PostMixReferenceIdeal.τ).loc Cert.PostMixReferenceIdeal.main_v108) i = v5 c i)
          ∧ r.2.mem ((c.tc : Thread Cert.PostMixReferenceIdeal.nD Cert.PostMixReferenceIdeal.τ).loc Cert.PostMixReferenceIdeal.main_arg0) = m' ((c.tc : Thread Cert.PostMixReferenceIdeal.nD Cert.PostMixReferenceIdeal.τ).loc Cert.PostMixReferenceIdeal.main_arg0)
          ∧ r.2.mem ((c.tc : Thread Cert.PostMixReferenceIdeal.nD Cert.PostMixReferenceIdeal.τ).loc Cert.PostMixReferenceIdeal.main_arg1) = m' ((c.tc : Thread Cert.PostMixReferenceIdeal.nD Cert.PostMixReferenceIdeal.τ).loc Cert.PostMixReferenceIdeal.main_arg1)
          ∧ r.2.mem ((c.tc : Thread Cert.PostMixReferenceIdeal.nD Cert.PostMixReferenceIdeal.τ).loc Cert.PostMixReferenceIdeal.main_arg2) = m' ((c.tc : Thread Cert.PostMixReferenceIdeal.nD Cert.PostMixReferenceIdeal.τ).loc Cert.PostMixReferenceIdeal.main_arg2)
          ∧ r.2.mem ((c.tc : Thread Cert.PostMixReferenceIdeal.nD Cert.PostMixReferenceIdeal.τ).loc Cert.PostMixReferenceIdeal.main_arg3) = m' ((c.tc : Thread Cert.PostMixReferenceIdeal.nD Cert.PostMixReferenceIdeal.τ).loc Cert.PostMixReferenceIdeal.main_arg3)
          ∧ r.2.mem ((c.tc : Thread Cert.PostMixReferenceIdeal.nD Cert.PostMixReferenceIdeal.τ).loc Cert.PostMixReferenceIdeal.main_arg4) = m' ((c.tc : Thread Cert.PostMixReferenceIdeal.nD Cert.PostMixReferenceIdeal.τ).loc Cert.PostMixReferenceIdeal.main_arg4)
          ∧ r.2.mem ((c.tc : Thread Cert.PostMixReferenceIdeal.nD Cert.PostMixReferenceIdeal.τ).loc Cert.PostMixReferenceIdeal.main_arg5) = m' ((c.tc : Thread Cert.PostMixReferenceIdeal.nD Cert.PostMixReferenceIdeal.τ).loc Cert.PostMixReferenceIdeal.main_arg5)
          ∧ r.2.mem ((c.tc : Thread Cert.PostMixReferenceIdeal.nD Cert.PostMixReferenceIdeal.τ).loc Cert.PostMixReferenceIdeal.main_arg6) = m' ((c.tc : Thread Cert.PostMixReferenceIdeal.nD Cert.PostMixReferenceIdeal.τ).loc Cert.PostMixReferenceIdeal.main_arg6)
          ∧ r.2.mem ((c.tc : Thread Cert.PostMixReferenceIdeal.nD Cert.PostMixReferenceIdeal.τ).loc Cert.PostMixReferenceIdeal.main_arg7) = m' ((c.tc : Thread Cert.PostMixReferenceIdeal.nD Cert.PostMixReferenceIdeal.τ).loc Cert.PostMixReferenceIdeal.main_arg7)
          ∧ r.2.mem ((c.tc : Thread Cert.PostMixReferenceIdeal.nD Cert.PostMixReferenceIdeal.τ).loc Cert.PostMixReferenceIdeal.main_arg8) = m' ((c.tc : Thread Cert.PostMixReferenceIdeal.nD Cert.PostMixReferenceIdeal.τ).loc Cert.PostMixReferenceIdeal.main_arg8)
          ∧ r.2.mem ((c.tc : Thread Cert.PostMixReferenceIdeal.nD Cert.PostMixReferenceIdeal.τ).loc Cert.PostMixReferenceIdeal.main_arg9) = m' ((c.tc : Thread Cert.PostMixReferenceIdeal.nD Cert.PostMixReferenceIdeal.τ).loc Cert.PostMixReferenceIdeal.main_arg9)
          ∧ r.2.mem ((c.tc : Thread Cert.PostMixReferenceIdeal.nD Cert.PostMixReferenceIdeal.τ).loc Cert.PostMixReferenceIdeal.main_arg10) = m' ((c.tc : Thread Cert.PostMixReferenceIdeal.nD Cert.PostMixReferenceIdeal.τ).loc Cert.PostMixReferenceIdeal.main_arg10)
          ∧ r.2.mem ((c.tc : Thread Cert.PostMixReferenceIdeal.nD Cert.PostMixReferenceIdeal.τ).loc Cert.PostMixReferenceIdeal.main_arg11) = m' ((c.tc : Thread Cert.PostMixReferenceIdeal.nD Cert.PostMixReferenceIdeal.τ).loc Cert.PostMixReferenceIdeal.main_arg11))

def preserves_Ada_AdaIdeal : Prop :=
  True

def algebraic_AdaIdeal_AdaReferenceIdeal_on_finite_rows [hAdaIdeal : Cert.AdaIdeal.Facts] [hAdaReferenceIdeal : Cert.AdaReferenceIdeal.Facts] [hOn_finite_rows : Cert.On_finite_rows.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          (∀ i : (⟨2, ![16, 6144]⟩ : Shape).Idx, (Cert.On_finite_rows.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))) i = 1#1 → r.2.mem ((c.tc : Thread Cert.AdaIdeal.nD Cert.AdaIdeal.τ).loc Cert.AdaIdeal.main_v1) i = v0 c i)
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          (∀ i : (⟨2, ![16, 6144]⟩ : Shape).Idx, (Cert.On_finite_rows.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))) i = 1#1 → r.2.mem ((c.tc : Thread Cert.AdaReferenceIdeal.nD Cert.AdaReferenceIdeal.τ).loc Cert.AdaReferenceIdeal.main_v10) i = v0 c i)
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hExperts : Cert.Experts.Facts) (hExpertsIdeal : Cert.ExpertsIdeal.Facts) (hExpertsReferenceIdeal : Cert.ExpertsReferenceIdeal.Facts) (hMixIn : Cert.MixIn.Facts) (hMixInIdeal : Cert.MixInIdeal.Facts) (hMixInReferenceIdeal : Cert.MixInReferenceIdeal.Facts) (hPostMix : Cert.PostMix.Facts) (hPostMixIdeal : Cert.PostMixIdeal.Facts) (hPostMixReferenceIdeal : Cert.PostMixReferenceIdeal.Facts) (hAda : Cert.Ada.Facts) (hAdaIdeal : Cert.AdaIdeal.Facts) (hAdaReferenceIdeal : Cert.AdaReferenceIdeal.Facts) (hPre_routed : Cert.Pre_routed.Facts) (hOn_token_rows : Cert.On_token_rows.Facts) (hOn_finite_rows : Cert.On_finite_rows.Facts),
    quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_PostMix (hPostMix := hPostMix)
    ∧ quiescent_PostMixIdeal (hPostMixIdeal := hPostMixIdeal)
    ∧ quiescent_PostMixReferenceIdeal (hPostMixReferenceIdeal := hPostMixReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Experts_ExpertsIdeal
    ∧ algebraic_ExpertsIdeal_ExpertsReferenceIdeal (hExpertsIdeal := hExpertsIdeal) (hExpertsReferenceIdeal := hExpertsReferenceIdeal) (hPre_routed := hPre_routed)
    ∧ preserves_MixIn_MixInIdeal
    ∧ algebraic_MixInIdeal_MixInReferenceIdeal (hMixInIdeal := hMixInIdeal) (hMixInReferenceIdeal := hMixInReferenceIdeal)
    ∧ preserves_PostMix_PostMixIdeal
    ∧ algebraic_PostMixIdeal_PostMixReferenceIdeal_on_token_rows (hPostMixIdeal := hPostMixIdeal) (hPostMixReferenceIdeal := hPostMixReferenceIdeal) (hOn_token_rows := hOn_token_rows)
    ∧ preserves_Ada_AdaIdeal
    ∧ algebraic_AdaIdeal_AdaReferenceIdeal_on_finite_rows (hAdaIdeal := hAdaIdeal) (hAdaReferenceIdeal := hAdaReferenceIdeal) (hOn_finite_rows := hOn_finite_rows)
-- ==== On_finite_rows.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16 : Shape := ⟨1, ![16]⟩
abbrev S16x1 : Shape := ⟨2, ![16, 1]⟩
abbrev S1x6144 : Shape := ⟨2, ![1, 6144]⟩
abbrev S16x6144 : Shape := ⟨2, ![16, 6144]⟩

class Facts : Prop where
  bcast_S_S16x1024 : S_.BroadcastsInDim S16x1024 (![] : Fin 0 → Fin S16x1024.rank)
  reducesTo_S16x1024_S16_d1 : S16x1024.ReducesTo [1] S16
  h_S_ : 0 < S_.numel
  bcast_S_S1024x6144 : S_.BroadcastsInDim S1024x6144 (![] : Fin 0 → Fin S1024x6144.rank)
  reducesTo_S1024x6144_S6144_d0 : S1024x6144.ReducesTo [0] S6144
  bcast_S16_S16x1_0 : S16.BroadcastsInDim S16x1 (![0] : Fin 1 → Fin S16x1.rank)
  bcast_S6144_S1x6144_1 : S6144.BroadcastsInDim S1x6144 (![1] : Fin 1 → Fin S1x6144.rank)
  bcast_S16x1_S16x6144_0_1 : S16x1.BroadcastsInDim S16x6144 (![0, 1] : Fin 2 → Fin S16x6144.rank)
  bcast_S1x6144_S16x6144_0_1 : S1x6144.BroadcastsInDim S16x6144 (![0, 1] : Fin 2 → Fin S16x6144.rank)

variable [Facts]

def fn {F : FTy → Type} [FloatOps F] (main_arg0 : FVec F S16x1024 .f32) (main_arg1 : FVec F S1024x6144 .f32) (main_arg2 : FVec F S6144 .f32) : IVec S16x6144 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S16 1 := (fun x v => Host.reduce IntOp.andi x v reducesTo_S16x1024_S16_d1 h_S_) main_v2 main_c
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S6144 1 := (fun x v => Host.reduce IntOp.andi x v reducesTo_S1024x6144_S6144_d0 h_S_) main_v6 main_c_1
  let main_v8 : IVec S16x1 1 := broadcastInDim S16x1 ![0] bcast_S16_S16x1_0 main_v3
  let main_v9 : IVec S1x6144 1 := broadcastInDim S1x6144 ![1] bcast_S6144_S1x6144_1 main_v7
  let main_v10 : IVec S16x6144 1 := broadcastInDim S16x6144 ![0, 1] bcast_S16x1_S16x6144_0_1 main_v8
  let main_v11 : IVec S16x6144 1 := broadcastInDim S16x6144 ![0, 1] bcast_S1x6144_S16x6144_0_1 main_v9
  let main_v12 : IVec S16x6144 1 := andi main_v10 main_v11
  main_v12
-- ==== On_token_rows.lean ====
abbrev S16x4096x512 : Shape := ⟨3, ![16, 4096, 512]⟩
abbrev S16x4096x1024 : Shape := ⟨3, ![16, 4096, 1024]⟩
abbrev S16x6x1024 : Shape := ⟨3, ![16, 6, 1024]⟩
abbrev S512 : Shape := ⟨1, ![512]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S_ : Shape := ⟨0, ![]⟩
abbrev S8x65536 : Shape := ⟨2, ![8, 65536]⟩
abbrev S65536x1024 : Shape := ⟨2, ![65536, 1024]⟩
abbrev S256x1 : Shape := ⟨2, ![256, 1]⟩

class Facts : Prop where
  bcast_S_S8x65536 : S_.BroadcastsInDim S8x65536 (![] : Fin 0 → Fin S8x65536.rank)
  bcast_S_S16x4096x1024 : S_.BroadcastsInDim S16x4096x1024 (![] : Fin 0 → Fin S16x4096x1024.rank)
  bcast_S_S65536x1024 : S_.BroadcastsInDim S65536x1024 (![] : Fin 0 → Fin S65536x1024.rank)
  bcast_S_S256x1 : S_.BroadcastsInDim S256x1 (![] : Fin 0 → Fin S256x1.rank)

variable [Facts]

def fn {F : FTy → Type} [FloatOps F] (main_arg0 : FVec F S16x4096x512 .bf16) (main_arg1 : FVec F S16x4096x512 .bf16) (main_arg2 : FVec F S16x4096x1024 .f32) (main_arg3 : FVec F S16x6x1024 .f32) (main_arg4 : FVec F S512 .f32) (main_arg5 : FVec F S1024x1024 .f32) (main_arg6 : FVec F S1024 .f32) (main_arg7 : FVec F S1024x256 .f32) (main_arg8 : FVec F S256 .f32) (main_arg9 : FVec F S1024x256 .f32) (main_arg10 : FVec F S1024x256 .f32) (main_arg11 : FVec F S256x1024 .f32) : IVec S16x4096x1024 1 × IVec S65536x1024 1 × IVec S8x65536 1 × IVec S8x65536 1 × IVec S8x65536 1 × IVec S256x1 1 :=
  let main_c : IVec S_ 1 := constantI S_ 1 0#1
  let main_v0 : IVec S8x65536 1 := broadcastInDim S8x65536 ![] bcast_S_S8x65536 main_c
  let main_c_0 : IVec S_ 1 := constantI S_ 1 1#1
  let main_v1 : IVec S16x4096x1024 1 := broadcastInDim S16x4096x1024 ![] bcast_S_S16x4096x1024 main_c_0
  let main_c_1 : IVec S_ 1 := constantI S_ 1 1#1
  let main_v2 : IVec S65536x1024 1 := broadcastInDim S65536x1024 ![] bcast_S_S65536x1024 main_c_1
  let main_c_2 : IVec S_ 1 := constantI S_ 1 0#1
  let main_v3 : IVec S256x1 1 := broadcastInDim S256x1 ![] bcast_S_S256x1 main_c_2
  (main_v1, main_v2, main_v0, main_v0, main_v0, main_v3)
-- ==== Pre_routed.lean ====
abbrev S655360x512 : Shape := ⟨2, ![655360, 512]⟩
abbrev S1280 : Shape := ⟨1, ![1280]⟩
abbrev S1 : Shape := ⟨1, ![1]⟩
abbrev S256x1024x256 : Shape := ⟨3, ![256, 1024, 256]⟩
abbrev S256x256x1024 : Shape := ⟨3, ![256, 256, 1024]⟩
abbrev S_ : Shape := ⟨0, ![]⟩

class Facts : Prop where
  bcast_S_S1280 : S_.BroadcastsInDim S1280 (![] : Fin 0 → Fin S1280.rank)
  reducesTo_S1280_S_d0 : S1280.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S655360x512 32) (main_arg1 : IVec S1280 32) (main_arg2 : IVec S1 32) (main_arg3 : FVec F S256x1024x256 .f32) (main_arg4 : FVec F S256x1024x256 .f32) (main_arg5 : FVec F S256x256x1024 .f32) : IVec S_ 1 :=
  let main_c : IVec S_ 32 := constantI S_ 32 0#32
  let main_v0 : IVec S1280 32 := broadcastInDim S1280 ![] bcast_S_S1280 main_c
  let main_v1 : IVec S1280 1 := cmpi .sge main_arg1 main_v0
  let main_c_0 : IVec S_ 32 := constantI S_ 32 256#32
  let main_v2 : IVec S1280 32 := broadcastInDim S1280 ![] bcast_S_S1280 main_c_0
  let main_v3 : IVec S1280 1 := cmpi .slt main_arg1 main_v2
  let main_v4 : IVec S1280 1 := andi main_v1 main_v3
  let main_c_1 : IVec S_ 1 := constantI S_ 1 1#1
  let main_v5 : IVec S_ 1 := (fun x v => Host.reduce IntOp.andi x v reducesTo_S1280_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 1280#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Experts.lean ====
abbrev S655360x512 : Shape := ⟨2, ![655360, 512]⟩
abbrev S1280 : Shape := ⟨1, ![1280]⟩
abbrev S1 : Shape := ⟨1, ![1]⟩
abbrev S256x1024x256 : Shape := ⟨3, ![256, 1024, 256]⟩
abbrev S256x256x1024 : Shape := ⟨3, ![256, 256, 1024]⟩
abbrev S655360x1024 : Shape := ⟨2, ![655360, 1024]⟩
abbrev S512x512 : Shape := ⟨2, ![512, 512]⟩
abbrev S1x1024x256 : Shape := ⟨3, ![1, 1024, 256]⟩
abbrev S1x256x1024 : Shape := ⟨3, ![1, 256, 1024]⟩
abbrev S512x1024 : Shape := ⟨2, ![512, 1024]⟩
abbrev S1024x512 : Shape := ⟨2, ![1024, 512]⟩
abbrev S256x1024 : Shape := ⟨2, ![256, 1024]⟩
abbrev S1024x256 : Shape := ⟨2, ![1024, 256]⟩
abbrev S512x256 : Shape := ⟨2, ![512, 256]⟩

abbrev nBuf : Space → Nat
  | .hbm => 5
  | .vmem => 12
  | .smem => 2
  | _ => 0

abbrev bufTy : (tb : Table) → Fin (tcTables nBuf tb) → BufTy
  | .hbm, ⟨0, _⟩ => ⟨S655360x512, .i32⟩
  | .hbm, ⟨1, _⟩ => ⟨S256x1024x256, .f32⟩
  | .hbm, ⟨2, _⟩ => ⟨S256x1024x256, .f32⟩
  | .hbm, ⟨3, _⟩ => ⟨S256x256x1024, .f32⟩
  | .hbm, ⟨4, _⟩ => ⟨S655360x1024, .bf16⟩
  | .local _ .vmem, ⟨0, _⟩ => ⟨S512x512, .i32⟩
  | .local _ .vmem, ⟨1, _⟩ => ⟨S512x512, .i32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S256x1024, .bf16⟩
  | .local _ .smem, ⟨0, _⟩ => ⟨S1280, .i32⟩
  | .local _ .smem, ⟨1, _⟩ => ⟨S1, .i32⟩
  | _, _ => ⟨S655360x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![1280], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S655360x512 : Shape := ⟨2, ![655360, 512]⟩
abbrev S1280 : Shape := ⟨1, ![1280]⟩
abbrev S1 : Shape := ⟨1, ![1]⟩
abbrev S256x1024x256 : Shape := ⟨3, ![256, 1024, 256]⟩
abbrev S256x256x1024 : Shape := ⟨3, ![256, 256, 1024]⟩
abbrev S655360x512x2 : Shape := ⟨3, ![655360, 512, 2]⟩
abbrev S655360x512x1 : Shape := ⟨3, ![655360, 512, 1]⟩
abbrev S655360x1024 : Shape := ⟨2, ![655360, 1024]⟩
abbrev S1280x512x1024 : Shape := ⟨3, ![1280, 512, 1024]⟩
abbrev S_ : Shape := ⟨0, ![]⟩
abbrev S1280x1 : Shape := ⟨2, ![1280, 1]⟩
abbrev S1280x1024x256 : Shape := ⟨3, ![1280, 1024, 256]⟩
abbrev S1280x512x256 : Shape := ⟨3, ![1280, 512, 256]⟩
abbrev S1280x256x1024 : Shape := ⟨3, ![1280, 256, 1024]⟩
abbrev S1280x1x1 : Shape := ⟨3, ![1280, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S655360x512, .i32⟩
  | .hbm, ⟨1, _⟩ => ⟨S1280, .i32⟩
  | .hbm, ⟨2, _⟩ => ⟨S1, .i32⟩
  | .hbm, ⟨3, _⟩ => ⟨S256x1024x256, .f32⟩
  | .hbm, ⟨4, _⟩ => ⟨S256x1024x256, .f32⟩
  | .hbm, ⟨5, _⟩ => ⟨S256x256x1024, .f32⟩
  | .hbm, ⟨6, _⟩ => ⟨S655360x512x2, .bf16⟩
  | .hbm, ⟨7, _⟩ => ⟨S655360x512x1, .bf16⟩
  | .hbm, ⟨8, _⟩ => ⟨S655360x512, .bf16⟩
  | .hbm, ⟨9, _⟩ => ⟨S655360x512x1, .bf16⟩
  | .hbm, ⟨10, _⟩ => ⟨S655360x512, .bf16⟩
  | .hbm, ⟨11, _⟩ => ⟨S655360x1024, .bf16⟩
  | .hbm, ⟨12, _⟩ => ⟨S655360x1024, .f32⟩
  | .hbm, ⟨13, _⟩ => ⟨S1280x512x1024, .f32⟩
  | .hbm, ⟨14, _⟩ => ⟨S_, .i32⟩
  | .hbm, ⟨15, _⟩ => ⟨S1280, .i32⟩
  | .hbm, ⟨16, _⟩ => ⟨S1280, .i1⟩
  | .hbm, ⟨17, _⟩ => ⟨S_, .i32⟩
  | .hbm, ⟨18, _⟩ => ⟨S1280, .i32⟩
  | .hbm, ⟨19, _⟩ => ⟨S1280, .i32⟩
  | .hbm, ⟨20, _⟩ => ⟨S1280, .i32⟩
  | .hbm, ⟨21, _⟩ => ⟨S1280x1, .i32⟩
  | .hbm, ⟨22, _⟩ => ⟨S1280x1024x256, .f32⟩
  | .hbm, ⟨23, _⟩ => ⟨S1280x512x256, .f32⟩
  | .hbm, ⟨24, _⟩ => ⟨S_, .i32⟩
  | .hbm, ⟨25, _⟩ => ⟨S1280, .i32⟩
  | .hbm, ⟨26, _⟩ => ⟨S1280, .i1⟩
  | .hbm, ⟨27, _⟩ => ⟨S_, .i32⟩
  | .hbm, ⟨28, _⟩ => ⟨S1280, .i32⟩
  | .hbm, ⟨29, _⟩ => ⟨S1280, .i32⟩
  | .hbm, ⟨30, _⟩ => ⟨S1280, .i32⟩
  | .hbm, ⟨31, _⟩ => ⟨S1280x1, .i32⟩
  | .hbm, ⟨32, _⟩ => ⟨S1280x1024x256, .f32⟩
  | .hbm, ⟨33, _⟩ => ⟨S1280x512x256, .f32⟩
  | .hbm, ⟨34, _⟩ => ⟨S1280x512x256, .f32⟩
  | .hbm, ⟨35, _⟩ => ⟨S1280x512x256, .f32⟩
  | .hbm, ⟨36, _⟩ => ⟨S_, .f32⟩
  | .hbm, ⟨37, _⟩ => ⟨S1280x512x256, .f32⟩
  | .hbm, ⟨38, _⟩ => ⟨S1280x512x256, .f32⟩
  | .hbm, ⟨39, _⟩ => ⟨S_, .f32⟩
  | .hbm, ⟨40, _⟩ => ⟨S1280x512x256, .f32⟩
  | .hbm, ⟨41, _⟩ => ⟨S1280x512x256, .f32⟩
  | .hbm, ⟨42, _⟩ => ⟨S1280x512x256, .f32⟩
  | .hbm, ⟨43, _⟩ => ⟨S1280x512x256, .f32⟩
  | .hbm, ⟨44, _⟩ => ⟨S_, .i32⟩
  | .hbm, ⟨45, _⟩ => ⟨S1280, .i32⟩
  | .hbm, ⟨46, _⟩ => ⟨S1280, .i1⟩
  | .hbm, ⟨47, _⟩ => ⟨S_, .i32⟩
  | .hbm, ⟨48, _⟩ => ⟨S1280, .i32⟩
  | .hbm, ⟨49, _⟩ => ⟨S1280, .i32⟩
  | .hbm, ⟨50, _⟩ => ⟨S1280, .i32⟩
  | .hbm, ⟨51, _⟩ => ⟨S1280x1, .i32⟩
  | .hbm, ⟨52, _⟩ => ⟨S1280x256x1024, .f32⟩
  | .hbm, ⟨53, _⟩ => ⟨S1280x512x1024, .f32⟩
  | .hbm, ⟨54, _⟩ => ⟨S1280, .i32⟩
  | .hbm, ⟨55, _⟩ => ⟨S_, .i32⟩
  | .hbm, ⟨56, _⟩ => ⟨S1280, .i32⟩
  | .hbm, ⟨57, _⟩ => ⟨S1280, .i1⟩
  | .hbm, ⟨58, _⟩ => ⟨S1280x1x1, .i1⟩
  | .hbm, ⟨59, _⟩ => ⟨S_, .f32⟩
  | .hbm, ⟨60, _⟩ => ⟨S_, .f32⟩
  | .hbm, ⟨61, _⟩ => ⟨S1280x512x1024, .i1⟩
  | .hbm, ⟨62, _⟩ => ⟨S1280x512x1024, .f32⟩
  | .hbm, ⟨63, _⟩ => ⟨S1280x512x1024, .f32⟩
  | .hbm, ⟨64, _⟩ => ⟨S655360x1024, .f32⟩
  | .hbm, ⟨65, _⟩ => ⟨S655360x1024, .bf16⟩
  | _, _ => ⟨S655360x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== MixIn.lean ====
abbrev S16x4096x1024 : Shape := ⟨3, ![16, 4096, 1024]⟩
abbrev S16x6x1024 : Shape := ⟨3, ![16, 6, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S1x1024 : Shape := ⟨2, ![1, 1024]⟩
abbrev S1x512 : Shape := ⟨2, ![1, 512]⟩
abbrev S128x4 : Shape := ⟨2, ![128, 4]⟩
abbrev S16x4096x512 : Shape := ⟨3, ![16, 4096, 512]⟩
abbrev S1x512x1024 : Shape := ⟨3, ![1, 512, 1024]⟩
abbrev S1x6x1024 : Shape := ⟨3, ![1, 6, 1024]⟩
abbrev S1x512x512 : Shape := ⟨3, ![1, 512, 512]⟩
abbrev S512x512 : Shape := ⟨2, ![512, 512]⟩
abbrev S512x1024 : Shape := ⟨2, ![512, 1024]⟩
abbrev S512x1 : Shape := ⟨2, ![512, 1]⟩
abbrev S1x1x1024 : Shape := ⟨3, ![1, 1, 1024]⟩
abbrev S1024x512 : Shape := ⟨2, ![1024, 512]⟩
abbrev S128x128 : Shape := ⟨2, ![128, 128]⟩
abbrev S1x128x128 : Shape := ⟨3, ![1, 128, 128]⟩
abbrev S128x512 : Shape := ⟨2, ![128, 512]⟩
abbrev S128x1 : Shape := ⟨2, ![128, 1]⟩

abbrev nBuf : Space → Nat
  | .hbm => 19
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S1024, .f32⟩
  | .hbm, ⟨3, _⟩ => ⟨S1024x2560, .f32⟩
  | .hbm, ⟨4, _⟩ => ⟨S512, .f32⟩
  | .hbm, ⟨5, _⟩ => ⟨S512, .f32⟩
  | .hbm, ⟨6, _⟩ => ⟨S4x128x128, .f32⟩
  | .hbm, ⟨7, _⟩ => ⟨S4x128, .f32⟩
  | .hbm, ⟨8, _⟩ => ⟨S512, .f32⟩
  | .hbm, ⟨9, _⟩ => ⟨S1x1024, .f32⟩
  | .hbm, ⟨10, _⟩ => ⟨S1024x2560, .bf16⟩
  | .hbm, ⟨11, _⟩ => ⟨S1x512, .f32⟩
  | .hbm, ⟨12, _⟩ => ⟨S1x512, .f32⟩
  | .hbm, ⟨13, _⟩ => ⟨S128x4, .f32⟩
  | .hbm, ⟨14, _⟩ => ⟨S1x512, .f32⟩
  | .hbm, ⟨15, _⟩ => ⟨S16x4096x512, .bf16⟩
  | .hbm, ⟨16, _⟩ => ⟨S16x4096x512, .bf16⟩
  | .hbm, ⟨17, _⟩ => ⟨S16x4096x512, .bf16⟩
  | .hbm, ⟨18, _⟩ => ⟨S16x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2560, .bf16⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S128x4, .f32⟩
  | .local _ .vmem, ⟨10, _⟩ => ⟨S1x512, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S512x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixInReferenceIdeal.lean ====
abbrev S16x4096x1024 : Shape := ⟨3, ![16, 4096, 1024]⟩
abbrev S16x6x1024 : Shape := ⟨3, ![16, 6, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S16x1x1024 : Shape := ⟨3, ![16, 1, 1024]⟩
abbrev S16x1024 : Shape := ⟨2, ![16, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2560 : Shape := ⟨3, ![16, 4096, 2560]⟩
abbrev S16x4096x512 : Shape := ⟨3, ![16, 4096, 512]⟩
abbrev S1x1x512 : Shape := ⟨3, ![1, 1, 512]⟩
abbrev S128x128 : Shape := ⟨2, ![128, 128]⟩
abbrev S16x32x128x4x128 : Shape := ⟨5, ![16, 32, 128, 4, 128]⟩
abbrev S1x128x128 : Shape := ⟨3, ![1, 128, 128]⟩
abbrev S4x16x32x128x128 : Shape := ⟨5, ![4, 16, 32, 128, 128]⟩
abbrev S128x4 : Shape := ⟨2, ![128, 4]⟩
abbrev S1x1x128x4x1 : Shape := ⟨5, ![1, 1, 128, 4, 1]⟩

abbrev nBuf : Space → Nat
  | .hbm => 151
  | .vmem => 0
  | .smem => 0
  | _ => 0

abbrev hbmTy0_0 (i : Nat) : BufTy := match i % 128 with
  | 0 => ⟨S16x4096x1024, .f32⟩
  | 1 => ⟨S16x6x1024, .f32⟩
  | 2 => ⟨S1024, .f32⟩
  | 3 => ⟨S1024x2560, .f32⟩
  | 4 => ⟨S512, .f32⟩
  | 5 => ⟨S512, .f32⟩
  | 6 => ⟨S4x128x128, .f32⟩
  | 7 => ⟨S4x128, .f32⟩
  | 8 => ⟨S512, .f32⟩
  | 9 => ⟨S16x1x1024, .f32⟩
  | 10 => ⟨S16x1024, .f32⟩
  | 11 => ⟨S16x1x1024, .f32⟩
  | 12 => ⟨S16x1024, .f32⟩
  | 13 => ⟨S16x4096x1024, .f32⟩
  | 14 => ⟨S_, .f32⟩
  | 15 => ⟨S16x4096, .f32⟩
  | 16 => ⟨S16x4096x1, .f32⟩
  | 17 => ⟨S_, .f32⟩
  | 18 => ⟨S16x4096x1, .f32⟩
  | 19 => ⟨S16x4096x1, .f32⟩
  | 20 => ⟨S_, .f32⟩
  | 21 => ⟨S16x4096x1, .f32⟩
  | 22 => ⟨S16x4096x1, .f32⟩
  | 23 => ⟨S16x4096x1, .f32⟩
  | 24 => ⟨S16x4096x1024, .f32⟩
  | 25 => ⟨S16x4096x1024, .f32⟩
  | 26 => ⟨S1x1x1024, .f32⟩
  | 27 => ⟨S16x4096x1024, .f32⟩
  | 28 => ⟨S16x4096x1024, .f32⟩
  | 29 => ⟨S16x1x1024, .f32⟩
  | 30 => ⟨S_, .f32⟩
  | 31 => ⟨S16x1x1024, .f32⟩
  | 32 => ⟨S16x1x1024, .f32⟩
  | 33 => ⟨S16x4096x1024, .f32⟩
  | 34 => ⟨S16x4096x1024, .f32⟩
  | 35 => ⟨S16x1x1024, .f32⟩
  | 36 => ⟨S16x4096x1024, .f32⟩
  | 37 => ⟨S16x4096x1024, .f32⟩
  | 38 => ⟨S16x4096x2560, .f32⟩
  | 39 => ⟨S16x4096x512, .f32⟩
  | 40 => ⟨S16x4096x512, .f32⟩
  | 41 => ⟨S16x4096x512, .f32⟩
  | 42 => ⟨S16x4096x512, .f32⟩
  | 43 => ⟨S16x4096x512, .f32⟩
  | 44 => ⟨S16x4096x512, .f32⟩
  | 45 => ⟨S16x4096x512, .f32⟩
  | 46 => ⟨S_, .f32⟩
  | 47 => ⟨S16x4096x512, .f32⟩
  | 48 => ⟨S16x4096x512, .f32⟩
  | 49 => ⟨S16x4096x512, .f32⟩
  | 50 => ⟨S_, .f32⟩
  | 51 => ⟨S16x4096x512, .f32⟩
  | 52 => ⟨S16x4096x512, .f32⟩
  | 53 => ⟨S16x4096x512, .f32⟩
  | 54 => ⟨S_, .f32⟩
  | 55 => ⟨S16x4096x512, .f32⟩
  | 56 => ⟨S16x4096x512, .f32⟩
  | 57 => ⟨S_, .f32⟩
  | 58 => ⟨S16x4096x512, .f32⟩
  | 59 => ⟨S16x4096x512, .f32⟩
  | 60 => ⟨S16x4096x512, .f32⟩
  | 61 => ⟨S_, .f32⟩
  | 62 => ⟨S16x4096, .f32⟩
  | 63 => ⟨S16x4096x1, .f32⟩
  | 64 => ⟨S_, .f32⟩
  | 65 => ⟨S16x4096x1, .f32⟩
  | 66 => ⟨S16x4096x1, .f32⟩
  | 67 => ⟨S16x4096x512, .f32⟩
  | 68 => ⟨S16x4096x512, .f32⟩
  | 69 => ⟨S16x4096x512, .f32⟩
  | 70 => ⟨S_, .f32⟩
  | 71 => ⟨S16x4096, .f32⟩
  | 72 => ⟨S16x4096x1, .f32⟩
  | 73 => ⟨S_, .f32⟩
  | 74 => ⟨S16x4096x1, .f32⟩
  | 75 => ⟨S16x4096x1, .f32⟩
  | 76 => ⟨S_, .f32⟩
  | 77 => ⟨S16x4096x1, .f32⟩
  | 78 => ⟨S16x4096x1, .f32⟩
  | 79 => ⟨S16x4096x1, .f32⟩
  | 80 => ⟨S16x4096x512, .f32⟩
  | 81 => ⟨S16x4096x512, .f32⟩
  | 82 => ⟨S1x1x512, .f32⟩
  | 83 => ⟨S16x4096x512, .f32⟩
  | 84 => ⟨S16x4096x512, .f32⟩
  | 85 => ⟨S1x1x512, .f32⟩
  | 86 => ⟨S16x4096x512, .f32⟩
  | 87 => ⟨S16x4096x512, .f32⟩
  | 88 => ⟨S_, .f32⟩
  | 89 => ⟨S128x128, .f32⟩
  | 90 => ⟨S128x128, .i32⟩
  | 91 => ⟨S_, .i32⟩
  | 92 => ⟨S128x128, .i32⟩
  | 93 => ⟨S128x128, .i32⟩
  | 94 => ⟨S128x128, .i32⟩
  | 95 => ⟨S128x128, .i1⟩
  | 96 => ⟨S_, .f32⟩
  | 97 => ⟨S128x128, .f32⟩
  | 98 => ⟨S128x128, .f32⟩
  | 99 => ⟨S16x32x128x4x128, .f32⟩
  | 100 => ⟨S1x128x128, .f32⟩
  | 101 => ⟨S4x128x128, .f32⟩
  | 102 => ⟨S4x128x128, .f32⟩
  | 103 => ⟨S4x16x32x128x128, .f32⟩
  | 104 => ⟨S16x32x128x4x128, .f32⟩
  | 105 => ⟨S128x4, .f32⟩
  | 106 => ⟨S1x1x128x4x1, .f32⟩
  | 107 => ⟨S16x32x128x4x128, .f32⟩
  | 108 => ⟨S16x32x128x4x128, .f32⟩
  | 109 => ⟨S16x4096x512, .f32⟩
  | 110 => ⟨S16x4096x512, .f32⟩
  | 111 => ⟨S_, .f32⟩
  | 112 => ⟨S16x4096x512, .f32⟩
  | 113 => ⟨S16x4096x512, .f32⟩
  | 114 => ⟨S16x4096x512, .f32⟩
  | 115 => ⟨S_, .f32⟩
  | 116 => ⟨S16x4096x512, .f32⟩
  | 117 => ⟨S16x4096x512, .f32⟩
  | 118 => ⟨S16x4096x512, .f32⟩
  | 119 => ⟨S_, .f32⟩
  | 120 => ⟨S16x4096x512, .f32⟩
  | 121 => ⟨S16x4096x512, .f32⟩
  | 122 => ⟨S_, .f32⟩
  | 123 => ⟨S16x4096x512, .f32⟩
  | 124 => ⟨S16x4096x512, .f32⟩
  | 125 => ⟨S16x4096x512, .f32⟩
  | 126 => ⟨S16x4096x512, .f32⟩
  | 127 => ⟨S16x4096x512, .f32⟩
  | _ => ⟨S16x4096x1024, .f32⟩

abbrev hbmTy0_1 (i : Nat) : BufTy := match i % 128 with
  | 0 => ⟨S16x4096x512, .f32⟩
  | 1 => ⟨S_, .f32⟩
  | 2 => ⟨S16x4096, .f32⟩
  | 3 => ⟨S16x4096x1, .f32⟩
  | 4 => ⟨S_, .f32⟩
  | 5 => ⟨S16x4096x1, .f32⟩
  | 6 => ⟨S16x4096x1, .f32⟩
  | 7 => ⟨S_, .f32⟩
  | 8 => ⟨S16x4096x1, .f32⟩
  | 9 => ⟨S16x4096x1, .f32⟩
  | 10 => ⟨S16x4096x1, .f32⟩
  | 11 => ⟨S16x4096x512, .f32⟩
  | 12 => ⟨S16x4096x512, .f32⟩
  | 13 => ⟨S1x1x512, .f32⟩
  | 14 => ⟨S16x4096x512, .f32⟩
  | 15 => ⟨S16x4096x512, .f32⟩
  | 16 => ⟨S_, .f32⟩
  | 17 => ⟨S16x4096x512, .f32⟩
  | 18 => ⟨S16x4096x512, .f32⟩
  | 19 => ⟨S16x4096x512, .bf16⟩
  | 20 => ⟨S16x4096x512, .bf16⟩
  | 21 => ⟨S16x4096x512, .bf16⟩
  | 22 => ⟨S16x4096x512, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_call0_v0 : Ref sig .tc := ⟨.hbm, 90, rfl⟩
abbrev main_call0_c : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_cst : Ref sig .tc := ⟨.hbm, 96, rfl⟩
abbrev main_call0_v5 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_14 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_15 : Ref sig .tc := ⟨.hbm, 119, rfl⟩
abbrev main_v86 : Ref sig .tc := ⟨.hbm, 120, rfl⟩
abbrev main_v87 : Ref sig .tc := ⟨.hbm, 121, rfl⟩
abbrev main_cst_16 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_17 : Ref sig .tc := ⟨.hbm, 129, rfl⟩
abbrev main_v94 : Ref sig .tc := ⟨.hbm, 130, rfl⟩
abbrev main_v95 : Ref sig .tc := ⟨.hbm, 131, rfl⟩
abbrev main_cst_18 : Ref sig .tc := ⟨.hbm, 132, rfl⟩
abbrev main_v96 : Ref sig .tc := ⟨.hbm, 133, rfl⟩
abbrev main_v97 : Ref sig .tc := ⟨.hbm, 134, rfl⟩
abbrev main_cst_19 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_20 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩

abbrev nD : Nat := 1
abbrev τ : Topo := Topo.v7x

variable {F : FTy → Type} [FloatOps F]
-- ==== PostMix.lean ====
abbrev S16x4096x512 : Shape := ⟨3, ![16, 4096, 512]⟩
abbrev S16x4096x1024 : Shape := ⟨3, ![16, 4096, 1024]⟩
abbrev S16x6x1024 : Shape := ⟨3, ![16, 6, 1024]⟩
abbrev S512 : Shape := ⟨1, ![512]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S1024x512 : Shape := ⟨2, ![1024, 512]⟩
abbrev S1x512 : Shape := ⟨2, ![1, 512]⟩
abbrev S1x1024 : Shape := ⟨2, ![1, 1024]⟩
abbrev S256x1 : Shape := ⟨2, ![256, 1]⟩
abbrev S65536x1024 : Shape := ⟨2, ![65536, 1024]⟩
abbrev S8x65536 : Shape := ⟨2, ![8, 65536]⟩
abbrev S1x512x512 : Shape := ⟨3, ![1, 512, 512]⟩
abbrev S1x512x1024 : Shape := ⟨3, ![1, 512, 1024]⟩
abbrev S1x6x1024 : Shape := ⟨3, ![1, 6, 1024]⟩
abbrev S512x1024 : Shape := ⟨2, ![512, 1024]⟩
abbrev S8x512 : Shape := ⟨2, ![8, 512]⟩
abbrev S512x512 : Shape := ⟨2, ![512, 512]⟩
abbrev S512x1 : Shape := ⟨2, ![512, 1]⟩
abbrev S1x1x1024 : Shape := ⟨3, ![1, 1, 1024]⟩
abbrev S512x256 : Shape := ⟨2, ![512, 256]⟩
abbrev S256x512 : Shape := ⟨2, ![256, 512]⟩
abbrev S32x512 : Shape := ⟨2, ![32, 512]⟩

abbrev nBuf : Space → Nat
  | .hbm => 30
  | .vmem => 28
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S16x4096x1024, .f32⟩
  | .hbm, ⟨3, _⟩ => ⟨S16x6x1024, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x256, .f32⟩
  | .hbm, ⟨8, _⟩ => ⟨S256, .f32⟩
  | .hbm, ⟨9, _⟩ => ⟨S1024x256, .f32⟩
  | .hbm, ⟨10, _⟩ => ⟨S1024x256, .f32⟩
  | .hbm, ⟨11, _⟩ => ⟨S256x1024, .f32⟩
  | .hbm, ⟨12, _⟩ => ⟨S256x1024, .f32⟩
  | .hbm, ⟨13, _⟩ => ⟨S256x1024, .bf16⟩
  | .hbm, ⟨14, _⟩ => ⟨S256x1024, .f32⟩
  | .hbm, ⟨15, _⟩ => ⟨S256x1024, .f32⟩
  | .hbm, ⟨16, _⟩ => ⟨S256x1024, .bf16⟩
  | .hbm, ⟨17, _⟩ => ⟨S1024x512, .f32⟩
  | .hbm, ⟨18, _⟩ => ⟨S1024x512, .bf16⟩
  | .hbm, ⟨19, _⟩ => ⟨S1x512, .f32⟩
  | .hbm, ⟨20, _⟩ => ⟨S1024x1024, .bf16⟩
  | .hbm, ⟨21, _⟩ => ⟨S1x1024, .f32⟩
  | .hbm, ⟨22, _⟩ => ⟨S256x1, .f32⟩
  | .hbm, ⟨23, _⟩ => ⟨S256x1024, .bf16⟩
  | .hbm, ⟨24, _⟩ => ⟨S16x4096x1024, .f32⟩
  | .hbm, ⟨25, _⟩ => ⟨S65536x1024, .bf16⟩
  | .hbm, ⟨26, _⟩ => ⟨S8x65536, .i32⟩
  | .hbm, ⟨27, _⟩ => ⟨S8x65536, .f32⟩
  | .hbm, ⟨28, _⟩ => ⟨S8x65536, .i32⟩
  | .hbm, ⟨29, _⟩ => ⟨S256x1, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S256x1024, .bf16⟩
  | .local _ .vmem, ⟨12, _⟩ => ⟨S256x1024, .bf16⟩
  | .local _ .vmem, ⟨13, _⟩ => ⟨S256x1, .f32⟩
  | .local _ .vmem, ⟨14, _⟩ => ⟨S1024x512, .bf16⟩
  | .local _ .vmem, ⟨15, _⟩ => ⟨S256x1024, .bf16⟩
  | .local _ .vmem, ⟨16, _⟩ => ⟨S1x512x1024, .f32⟩
  | .local _ .vmem, ⟨17, _⟩ => ⟨S1x512x1024, .f32⟩
  | .local _ .vmem, ⟨18, _⟩ => ⟨S512x1024, .bf16⟩
  | .local _ .vmem, ⟨19, _⟩ => ⟨S512x1024, .bf16⟩
  | .local _ .vmem, ⟨20, _⟩ => ⟨S8x512, .i32⟩
  | .local _ .vmem, ⟨21, _⟩ => ⟨S8x512, .i32⟩
  | .local _ .vmem, ⟨22, _⟩ => ⟨S8x512, .f32⟩
  | .local _ .vmem, ⟨23, _⟩ => ⟨S8x512, .f32⟩
  | .local _ .vmem, ⟨24, _⟩ => ⟨S8x512, .i32⟩
  | .local _ .vmem, ⟨25, _⟩ => ⟨S8x512, .i32⟩
  | .local _ .vmem, ⟨26, _⟩ => ⟨S256x1, .f32⟩
  | .local _ .vmem, ⟨27, _⟩ => ⟨S256x1, .f32⟩
  | _, _ => ⟨S16x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S256x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== PostMixReferenceIdeal.lean ====
abbrev S16x4096x512 : Shape := ⟨3, ![16, 4096, 512]⟩
abbrev S16x4096x1024 : Shape := ⟨3, ![16, 4096, 1024]⟩
abbrev S16x6x1024 : Shape := ⟨3, ![16, 6, 1024]⟩
abbrev S512 : Shape := ⟨1, ![512]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S16x1x1024 : Shape := ⟨3, ![16, 1, 1024]⟩
abbrev S16x1024 : Shape := ⟨2, ![16, 1024]⟩
abbrev S_ : Shape := ⟨0, ![]⟩
abbrev S16x4096 : Shape := ⟨2, ![16, 4096]⟩
abbrev S16x4096x1 : Shape := ⟨3, ![16, 4096, 1]⟩
abbrev S1x1x512 : Shape := ⟨3, ![1, 1, 512]⟩
abbrev S1x1x1024 : Shape := ⟨3, ![1, 1, 1024]⟩
abbrev S16x4096x256 : Shape := ⟨3, ![16, 4096, 256]⟩
abbrev S65536x1024 : Shape := ⟨2, ![65536, 1024]⟩
abbrev S65536x256 : Shape := ⟨2, ![65536, 256]⟩
abbrev S1x256 : Shape := ⟨2, ![1, 256]⟩
abbrev S65536x8x32 : Shape := ⟨3, ![65536, 8, 32]⟩
abbrev S65536x8x2 : Shape := ⟨3, ![65536, 8, 2]⟩
abbrev S65536x8 : Shape := ⟨2, ![65536, 8]⟩
abbrev S65536x4 : Shape := ⟨2, ![65536, 4]⟩
abbrev S65536x1 : Shape := ⟨2, ![65536, 1]⟩
abbrev S65536x8x1 : Shape := ⟨3, ![65536, 8, 1]⟩
abbrev S1 : Shape := ⟨1, ![1]⟩
abbrev S1x1x1 : Shape := ⟨3, ![1, 1, 1]⟩
abbrev S65536 : Shape := ⟨1, ![65536]⟩
abbrev S1x1x256 : Shape := ⟨3, ![1, 1, 256]⟩
abbrev S65536x8x256 : Shape := ⟨3, ![65536, 8, 256]⟩
abbrev S8x65536 : Shape := ⟨2, ![8, 65536]⟩
abbrev S256x1 : Shape := ⟨2, ![256, 1]⟩

abbrev nBuf : Space → Nat
  | .hbm => 190
  | .vmem => 0
  | .smem => 0
  | _ => 0

abbrev hbmTy0_0 (i : Nat) : BufTy := match i % 128 with
  | 0 => ⟨S16x4096x512, .bf16⟩
  | 1 => ⟨S16x4096x512, .bf16⟩
  | 2 => ⟨S16x4096x1024, .f32⟩
  | 3 => ⟨S16x6x1024, .f32⟩
  | 4 => ⟨S512, .f32⟩
  | 5 => ⟨S1024x1024, .f32⟩
  | 6 => ⟨S1024, .f32⟩
  | 7 => ⟨S1024x256, .f32⟩
  | 8 => ⟨S256, .f32⟩
  | 9 => ⟨S1024x256, .f32⟩
  | 10 => ⟨S1024x256, .f32⟩
  | 11 => ⟨S256x1024, .f32⟩
  | 12 => ⟨S16x1x1024, .f32⟩
  | 13 => ⟨S16x1024, .f32⟩
  | 14 => ⟨S16x1x1024, .f32⟩
  | 15 => ⟨S16x1024, .f32⟩
  | 16 => ⟨S16x1x1024, .f32⟩
  | 17 => ⟨S16x1024, .f32⟩
  | 18 => ⟨S16x1x1024, .f32⟩
  | 19 => ⟨S16x1024, .f32⟩
  | 20 => ⟨S16x4096x512, .f32⟩
  | 21 => ⟨S16x4096x512, .f32⟩
  | 22 => ⟨S_, .f32⟩
  | 23 => ⟨S16x4096, .f32⟩
  | 24 => ⟨S16x4096x1, .f32⟩
  | 25 => ⟨S_, .f32⟩
  | 26 => ⟨S16x4096x1, .f32⟩
  | 27 => ⟨S16x4096x1, .f32⟩
  | 28 => ⟨S_, .f32⟩
  | 29 => ⟨S16x4096x1, .f32⟩
  | 30 => ⟨S16x4096x1, .f32⟩
  | 31 => ⟨S16x4096x1, .f32⟩
  | 32 => ⟨S16x4096x512, .f32⟩
  | 33 => ⟨S16x4096x512, .f32⟩
  | 34 => ⟨S1x1x512, .f32⟩
  | 35 => ⟨S16x4096x512, .f32⟩
  | 36 => ⟨S16x4096x512, .f32⟩
  | 37 => ⟨S16x4096x512, .f32⟩
  | 38 => ⟨S16x4096x1024, .f32⟩
  | 39 => ⟨S16x1x1024, .f32⟩
  | 40 => ⟨S16x4096x1024, .f32⟩
  | 41 => ⟨S16x4096x1024, .f32⟩
  | 42 => ⟨S16x4096x1024, .f32⟩
  | 43 => ⟨S16x4096x1024, .f32⟩
  | 44 => ⟨S16x4096x1024, .f32⟩
  | 45 => ⟨S_, .f32⟩
  | 46 => ⟨S16x4096, .f32⟩
  | 47 => ⟨S16x4096x1, .f32⟩
  | 48 => ⟨S_, .f32⟩
  | 49 => ⟨S16x4096x1, .f32⟩
  | 50 => ⟨S16x4096x1, .f32⟩
  | 51 => ⟨S_, .f32⟩
  | 52 => ⟨S16x4096x1, .f32⟩
  | 53 => ⟨S16x4096x1, .f32⟩
  | 54 => ⟨S16x4096x1, .f32⟩
  | 55 => ⟨S16x4096x1024, .f32⟩
  | 56 => ⟨S16x4096x1024, .f32⟩
  | 57 => ⟨S1x1x1024, .f32⟩
  | 58 => ⟨S16x4096x1024, .f32⟩
  | 59 => ⟨S16x4096x1024, .f32⟩
  | 60 => ⟨S16x1x1024, .f32⟩
  | 61 => ⟨S_, .f32⟩
  | 62 => ⟨S16x1x1024, .f32⟩
  | 63 => ⟨S16x1x1024, .f32⟩
  | 64 => ⟨S16x4096x1024, .f32⟩
  | 65 => ⟨S16x4096x1024, .f32⟩
  | 66 => ⟨S16x1x1024, .f32⟩
  | 67 => ⟨S16x4096x1024, .f32⟩
  | 68 => ⟨S16x4096x1024, .f32⟩
  | 69 => ⟨S16x4096x256, .f32⟩
  | 70 => ⟨S16x4096x256, .f32⟩
  | 71 => ⟨S16x4096x256, .f32⟩
  | 72 => ⟨S16x4096x256, .f32⟩
  | 73 => ⟨S_, .f32⟩
  | 74 => ⟨S16x4096x256, .f32⟩
  | 75 => ⟨S16x4096x256, .f32⟩
  | 76 => ⟨S_, .f32⟩
  | 77 => ⟨S16x4096x256, .f32⟩
  | 78 => ⟨S16x4096x256, .f32⟩
  | 79 => ⟨S16x4096x256, .f32⟩
  | 80 => ⟨S16x4096x256, .f32⟩
  | 81 => ⟨S16x4096x1024, .f32⟩
  | 82 => ⟨S65536x1024, .f32⟩
  | 83 => ⟨S65536x256, .f32⟩
  | 84 => ⟨S65536x256, .f32⟩
  | 85 => ⟨S65536x256, .f32⟩
  | 86 => ⟨S_, .f32⟩
  | 87 => ⟨S65536x256, .f32⟩
  | 88 => ⟨S65536x256, .f32⟩
  | 89 => ⟨S_, .f32⟩
  | 90 => ⟨S65536x256, .f32⟩
  | 91 => ⟨S65536x256, .f32⟩
  | 92 => ⟨S1x256, .f32⟩
  | 93 => ⟨S65536x256, .f32⟩
  | 94 => ⟨S65536x256, .f32⟩
  | 95 => ⟨S65536x8x32, .f32⟩
  | 96 => ⟨S65536x8x2, .f32⟩
  | 97 => ⟨S65536x8x2, .i32⟩
  | 98 => ⟨S_, .f32⟩
  | 99 => ⟨S65536x8, .f32⟩
  | 100 => ⟨S65536x4, .f32⟩
  | 101 => ⟨S65536x4, .i32⟩
  | 102 => ⟨S65536x1, .f32⟩
  | 103 => ⟨S65536x8, .f32⟩
  | 104 => ⟨S65536x8, .i1⟩
  | 105 => ⟨S65536x8x32, .i1⟩
  | 106 => ⟨S65536x256, .i1⟩
  | 107 => ⟨S_, .f32⟩
  | 108 => ⟨S_, .f32⟩
  | 109 => ⟨S65536x256, .f32⟩
  | 110 => ⟨S65536x256, .f32⟩
  | 111 => ⟨S65536x8, .f32⟩
  | 112 => ⟨S65536x8, .i32⟩
  | 113 => ⟨S_, .i32⟩
  | 114 => ⟨S65536x8, .i32⟩
  | 115 => ⟨S65536x8, .i1⟩
  | 116 => ⟨S_, .i32⟩
  | 117 => ⟨S65536x8, .i32⟩
  | 118 => ⟨S65536x8, .i32⟩
  | 119 => ⟨S65536x8, .i32⟩
  | 120 => ⟨S65536x8x1, .i32⟩
  | 121 => ⟨S1, .i32⟩
  | 122 => ⟨S_, .i32⟩
  | 123 => ⟨S65536x8x1, .i32⟩
  | 124 => ⟨S65536x8x1, .i1⟩
  | 125 => ⟨S1x1x1, .i32⟩
  | 126 => ⟨S65536x8x1, .i32⟩
  | 127 => ⟨S65536x8x1, .i1⟩
  | _ => ⟨S16x4096x512, .bf16⟩

abbrev hbmTy0_1 (i : Nat) : BufTy := match i % 128 with
  | 0 => ⟨S65536x8x1, .i1⟩
  | 1 => ⟨S_, .i1⟩
  | 2 => ⟨S65536x8, .i1⟩
  | 3 => ⟨S65536x8, .f32⟩
  | 4 => ⟨S_, .f32⟩
  | 5 => ⟨S65536x8, .f32⟩
  | 6 => ⟨S65536x8, .f32⟩
  | 7 => ⟨S_, .f32⟩
  | 8 => ⟨S65536, .f32⟩
  | 9 => ⟨S65536x1, .f32⟩
  | 10 => ⟨S65536x8, .f32⟩
  | 11 => ⟨S65536x8, .f32⟩
  | 12 => ⟨S_, .f32⟩
  | 13 => ⟨S65536x8, .f32⟩
  | 14 => ⟨S65536x8, .f32⟩
  | 15 => ⟨S65536x8x1, .i32⟩
  | 16 => ⟨S256, .i32⟩
  | 17 => ⟨S1x1x256, .i32⟩
  | 18 => ⟨S65536x8x256, .i32⟩
  | 19 => ⟨S65536x8x256, .i32⟩
  | 20 => ⟨S65536x8x256, .i1⟩
  | 21 => ⟨S65536x8x256, .i32⟩
  | 22 => ⟨S_, .i32⟩
  | 23 => ⟨S65536x256, .i32⟩
  | 24 => ⟨S_, .i32⟩
  | 25 => ⟨S_, .i32⟩
  | 26 => ⟨S65536x256, .i32⟩
  | 27 => ⟨S65536x256, .i32⟩
  | 28 => ⟨S_, .i32⟩
  | 29 => ⟨S65536x8, .i32⟩
  | 30 => ⟨S65536x8, .i1⟩
  | 31 => ⟨S_, .i32⟩
  | 32 => ⟨S65536x8, .i32⟩
  | 33 => ⟨S65536x8, .i32⟩
  | 34 => ⟨S65536x8, .i32⟩
  | 35 => ⟨S65536x8x1, .i32⟩
  | 36 => ⟨S1, .i32⟩
  | 37 => ⟨S_, .i32⟩
  | 38 => ⟨S65536x8x1, .i32⟩
  | 39 => ⟨S65536x8x1, .i1⟩
  | 40 => ⟨S1x1x1, .i32⟩
  | 41 => ⟨S65536x8x1, .i32⟩
  | 42 => ⟨S65536x8x1, .i1⟩
  | 43 => ⟨S65536x8x1, .i1⟩
  | 44 => ⟨S_, .i1⟩
  | 45 => ⟨S65536x8, .i1⟩
  | 46 => ⟨S65536x8, .i32⟩
  | 47 => ⟨S_, .i32⟩
  | 48 => ⟨S65536x8, .i32⟩
  | 49 => ⟨S65536x8, .i32⟩
  | 50 => ⟨S_, .i32⟩
  | 51 => ⟨S256, .i32⟩
  | 52 => ⟨S16x1x1024, .f32⟩
  | 53 => ⟨S16x4096x1024, .f32⟩
  | 54 => ⟨S16x4096x1024, .f32⟩
  | 55 => ⟨S16x4096x1024, .f32⟩
  | 56 => ⟨S65536x1024, .bf16⟩
  | 57 => ⟨S8x65536, .i32⟩
  | 58 => ⟨S8x65536, .f32⟩
  | 59 => ⟨S8x65536, .i32⟩
  | 60 => ⟨S256, .f32⟩
  | 61 => ⟨S256x1, .f32⟩
  | _ => ⟨S16x4096x512, .bf16⟩

abbrev hbmTy (i : Nat) : BufTy := match i / 128 with
  | 0 => hbmTy0_0 i
  | 1 => hbmTy0_1 i
  | _ => ⟨S16x4096x512, .bf16⟩

abbrev bufTy : (tb : Table) → Fin (tcTables nBuf tb) → BufTy
  | .hbm, ⟨i, _⟩ => hbmTy i
  | _, _ => ⟨S16x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_8 : Ref sig .tc := ⟨.hbm, 86, rfl⟩
abbrev main_v65 : Ref sig .tc := ⟨.hbm, 87, rfl⟩
abbrev main_v66 : Ref sig .tc := ⟨.hbm, 88, rfl⟩
abbrev main_cst_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_values : Ref sig .tc := ⟨.hbm, 96, rfl⟩
abbrev main_indices : Ref sig .tc := ⟨.hbm, 97, rfl⟩
abbrev main_cst_10 : Ref sig .tc := ⟨.hbm, 98, rfl⟩
abbrev main_v73 : Ref sig .tc := ⟨.hbm, 99, rfl⟩
abbrev main_values_11 : Ref sig .tc := ⟨.hbm, 100, rfl⟩
abbrev main_indices_12 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_13 : Ref sig .tc := ⟨.hbm, 107, rfl⟩
abbrev main_call0_v0 : Ref sig .tc := ⟨.hbm, 108, rfl⟩
abbrev main_call0_v1 : Ref sig .tc := ⟨.hbm, 109, rfl⟩
abbrev main_v79 : Ref sig .tc := ⟨.hbm, 110, rfl⟩
abbrev main_values_14 : Ref sig .tc := ⟨.hbm, 111, rfl⟩
abbrev main_indices_15 : Ref sig .tc := ⟨.hbm, 112, rfl⟩
abbrev main_call1_c : Ref sig .tc := ⟨.hbm, 113, rfl⟩
abbrev main_call1_v0 : Ref sig .tc := ⟨.hbm, 114, rfl⟩
abbrev main_call1_v1 : Ref sig .tc := ⟨.hbm, 115, rfl⟩
abbrev main_call1_c_0 : Ref sig .tc := ⟨.hbm, 116, rfl⟩
abbrev main_call1_v2 : Ref sig .tc := ⟨.hbm, 117, rfl⟩
abbrev main_call1_v3 : Ref sig .tc := ⟨.hbm, 118, rfl⟩
abbrev main_call1_v4 : Ref sig .tc := ⟨.hbm, 119, rfl⟩
abbrev main_call1_v5 : Ref sig .tc := ⟨.hbm, 120, rfl⟩
abbrev main_call1_c_1 : Ref sig .tc := ⟨.hbm, 121, rfl⟩
abbrev main_call1_c_2 : Ref sig .tc := ⟨.hbm, 122, rfl⟩
abbrev main_call1_v6 : Ref sig .tc := ⟨.hbm, 123, rfl⟩
abbrev main_call1_v7 : Ref sig .tc := ⟨.hbm, 124, rfl⟩
abbrev main_call1_v8 : Ref sig .tc := ⟨.hbm, 125, rfl⟩
abbrev main_call1_v9 : Ref sig .tc := ⟨.hbm, 126, rfl⟩
abbrev main_call1_v10 : Ref sig .tc := ⟨.hbm, 127, rfl⟩
abbrev main_call1_v11 : Ref sig .tc := ⟨.hbm, 128, rfl⟩
abbrev main_call1_c_3 : Ref sig .tc := ⟨.hbm, 129, rfl⟩
abbrev main_call1_v12 : Ref sig .tc := ⟨.hbm, 130, rfl⟩
abbrev main_call1_v13 : Ref sig .tc := ⟨.hbm, 131, rfl⟩
abbrev main_call1_cst : Ref sig .tc := ⟨.hbm, 132, rfl⟩
abbrev main_call1_v14 : Ref sig .tc := ⟨.hbm, 133, rfl⟩
abbrev main_v80 : Ref sig .tc := ⟨.hbm, 134, rfl⟩
abbrev main_cst_16 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_17 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_c : Ref sig .tc := ⟨.hbm, 150, rfl⟩
abbrev main_v94 : Ref sig .tc := ⟨.hbm, 151, rfl⟩
abbrev main_call2_call0_c : Ref sig .tc := ⟨.hbm, 152, rfl⟩
abbrev main_call2_call0_v0 : Ref sig .tc := ⟨.hbm, 153, rfl⟩
abbrev main_v95 : Ref sig .tc := ⟨.hbm, 154, rfl⟩
abbrev main_v96 : Ref sig .tc := ⟨.hbm, 155, rfl⟩
abbrev main_call3_c : Ref sig .tc := ⟨.hbm, 156, rfl⟩
abbrev main_call3_v0 : Ref sig .tc := ⟨.hbm, 157, rfl⟩
abbrev main_call3_v1 : Ref sig .tc := ⟨.hbm, 158, rfl⟩
abbrev main_call3_c_0 : Ref sig .tc := ⟨.hbm, 159, rfl⟩
abbrev main_call3_v2 : Ref sig .tc := ⟨.hbm, 160, rfl⟩
abbrev main_call3_v3 : Ref sig .tc := ⟨.hbm, 161, rfl⟩
abbrev main_call3_v4 : Ref sig .tc := ⟨.hbm, 162, rfl⟩
abbrev main_call3_v5 : Ref sig .tc := ⟨.hbm, 163, rfl⟩
abbrev main_call3_c_1 : Ref sig .tc := ⟨.hbm, 164, rfl⟩
abbrev main_call3_c_2 : Ref sig .tc := ⟨.hbm, 165, rfl⟩
abbrev main_call3_v6 : Ref sig .tc := ⟨.hbm, 166, rfl⟩
abbrev main_call3_v7 : Ref sig .tc := ⟨.hbm, 167, rfl⟩
abbrev main_call3_v8 : Ref sig .tc := ⟨.hbm, 168, rfl⟩
abbrev main_call3_v9 : Ref sig .tc := ⟨.hbm, 169, rfl⟩
abbrev main_call3_v10 : Ref sig .tc := ⟨.hbm, 170, rfl⟩
abbrev main_call3_v11 : Ref sig .tc := ⟨.hbm, 171, rfl⟩
abbrev main_call3_c_3 : Ref sig .tc := ⟨.hbm, 172, rfl⟩
abbrev main_call3_v12 : Ref sig .tc := ⟨.hbm, 173, rfl⟩
abbrev main_call3_v13 : Ref sig .tc := ⟨.hbm, 174, rfl⟩
abbrev main_call3_c_4 : Ref sig .tc := ⟨.hbm, 175, rfl⟩
abbrev main_call3_v14 : Ref sig .tc := ⟨.hbm, 176, rfl⟩
abbrev main_v97 : Ref sig .tc := ⟨.hbm, 177, rfl⟩
abbrev main_c_18 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩

abbrev nD : Nat := 1
abbrev τ : Topo := Topo.v7x

variable {F : FTy → Type} [FloatOps F]
-- ==== Ada.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.ExpertsRange.lean ====
/- The precondition read: every entry of the block table names one of the 256 experts, and the count of used blocks is
   at least 1 and at most 1280. -/
module

public import proofs.«01_k».proof.Proof.Gen.Pre_routed
public import Idealize.ShloMosaic.Lib.Pointwise
public import Idealize.ShloMosaic.Lib.ReduceAll
public import Idealize.ShloMosaic.Lib.StableHlo.Predicate

@[expose] public section

noncomputable section

namespace Cert.ExpertsRange

open Cert.Pre_routed Cert.Pre_routed.Gen Idealize.ShloMosaic Idealize.ShloMosaic.StableHlo

/-- A word that is no negative number and is below a bound, read unsigned. -/
theorem below {w : BitVec 32} {k : Nat} (h0 : 0 ≤ w.toInt) (h1 : w.toInt < (k : Int)) : w.toNat < k := by
  have := w.isLt
  rw [BitVec.toInt_eq_toNat_cond] at h0 h1
  split at h0 <;> omega

variable {F : FTy → Type} [FloatOps F]

theorem routed_range (x0 : IVec S655360x512 32) (x1 : IVec S1280 32) (x2 : IVec S1 32) (x3 x4 : FVec F S256x1024x256 .f32)
    (x5 : FVec F S256x256x1024 .f32) (i : S_.Idx) (h : fn (F := F) x0 x1 x2 x3 x4 x5 i = 1#1) :
    (∀ n : S1280.Idx, (x1 n).toNat < 256) ∧ ∀ n : S1.Idx, 1 ≤ (x2 n).toNat ∧ (x2 n).toNat ≤ 1280 := by
  obtain ⟨h1, h2⟩ := IntOp.andi_eq_one.1 h
  refine ⟨fun n => ?_, fun n => ?_⟩
  · obtain ⟨ha, hb⟩ := IntOp.andi_eq_one.1 (Host.reduce_andi_all _ _ _ _ i h1 n)
    have ha' : IntOp.cmpi .sge (x1 n) 0#32 = 1#1 := ha
    have hb' : IntOp.cmpi .slt (x1 n) 256#32 = 1#1 := hb
    simp only [IntOp.cmpi, Predicate.ofBool_eq_one_iff, BitVec.sle, BitVec.slt, decide_eq_true_eq] at ha' hb'
    exact below ha' hb'
  · obtain ⟨ha, hb⟩ := IntOp.andi_eq_one.1 (Host.reduce_andi_all _ _ _ _ i h2 n)
    have ha' : IntOp.cmpi .sge (x2 n) 1#32 = 1#1 := ha
    have hb' : IntOp.cmpi .sle (x2 n) 1280#32 = 1#1 := hb
    simp only [IntOp.cmpi, Predicate.ofBool_eq_one_iff, BitVec.sle, BitVec.slt, decide_eq_true_eq] at ha' hb'
    have e1 : (1#32).toInt = 1 := by decide
    have e2 : (1280#32).toInt = 1280 := by decide
    rw [e1] at ha'
    rw [e2] at hb'
    have hlt := below (w := x2 n) (k := 1281) (by omega) (by omega)
    have := Predicate.toInt_eq_toNat_of_lt (a := x2 n) (by omega)
    omega

end Cert.ExpertsRange

end
-- ==== Proof.ExpertsRun.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.ExpertsIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExpertsIdeal.Gen

variable {F : FTy → Type} [FloatOps F]

local notation "𝕄" => MT nD τ sig Unit (Elt F) ℕ (UR sig nD τ) ℕ

/-- A table's buffer whole at contents `f`, at the half share the body reads it under. -/
abbrev tabAt {s : Shape} {e : EltTy} (c : Dev nD) (M : Memref sig .tc .smem s e) (f : Buf (Elt F) (M.view.loc (c : Thread nD τ))) : sProp 𝕄 :=
  M.view.loc (c : Thread nD τ) ↦{fullShare.right} f

/-- The upper half of the gate-and-up scratch's rows. -/
def rowsLo (w : Vec F S1024x512 .bf16) : Vec F S512x512 .bf16 :=
  fun y => w ((Rect.unit (s := S1024x512) ![0, 0] S512x512.size inb_S1024x512_S512x512_0_0).toLoadRect.idx y)

/-- The lower half of the gate-and-up scratch's rows. -/
def rowsHi (w : Vec F S1024x512 .bf16) : Vec F S512x512 .bf16 :=
  fun y => w ((Rect.unit (s := S1024x512) ![512, 0] S512x512.size inb_S1024x512_S512x512_512_0).toLoadRect.idx y)

/-- A place of an expert's gate or up block. -/
abbrev at2 (a : Fin 1024) (b : Fin 256) : S1024x256.Idx := Fin.cons a (Fin.cons b finZeroElim)

/-- The gate-and-up scratch an expert's two blocks fill: gate's columns, then up's. -/
def gateUp (x1 x2 : Vec F S1x1024x256 .f32) : Vec F S1024x512 .bf16 :=
  fun y => if h : (y 1).val < 256 then k0_pay1 x1 (at2 (y 0) ⟨(y 1).val, h⟩)
    else k0_pay2 x2 (at2 (y 0) ⟨(y 1).val - 256, by have h1 : (y 1).val < 512 := (y 1).isLt; omega⟩)

/-- What a used block's point leaves in its output block, of the block's words and the two scratch buffers. -/
def outOf (x0 : Vec F S512x512 .i32) (w0 : Vec F S1024x512 .bf16) (w1 : Vec F S256x1024 .bf16) : FVec F S512x1024 .bf16 :=
  k0_pay4 x0 (rowsLo w0) (rowsHi w0) w1

/-- The two stores of a refill, read back: `gateUp`, whatever was there. -/
theorem read_gateUp (v : View sig .tc .vmem S1024x512 .bf16) (f : v.ty.Contents (Elt F)) (x1 x2 : Vec F S1x1024x256 .f32) :
    v.read (Elt F) (v.writes (Elt F) f [⟨Rect.unit ![0, 256] S1024x256.size inb_S1024x512_S1024x256_0_256, k0_pay2 x2⟩,
      ⟨Rect.unit ![0, 0] S1024x256.size inb_S1024x512_S1024x256_0_0, k0_pay1 x1⟩]) = gateUp x1 x2 := by
  funext y
  have hy1 : (y 1).val < 512 := (y 1).isLt
  unfold gateUp
  split
  next h =>
    rw [View.read_writes_cons_unit_of_not_mem v f inb_S1024x512_S1024x256_0_256 _ _ y rfl 1 (.inl h)]
    exact View.read_writes_cons_unit_of_mem v f inb_S1024x512_S1024x256_0_0 _ _ y (at2 (y 0) ⟨(y 1).val, h⟩) rfl
      (fun a => match a with
        | ⟨0, _⟩ => (Nat.zero_add _).symm
        | ⟨1, _⟩ => (Nat.zero_add _).symm)
  next h =>
    exact View.read_writes_cons_unit_of_mem v f inb_S1024x512_S1024x256_0_256 _ _ y (at2 (y 0) ⟨(y 1).val - 256, _⟩) rfl
      (fun a => match a with
        | ⟨0, _⟩ => (Nat.zero_add _).symm
        | ⟨1, _⟩ => by show (y 1).val = 256 + ((y 1).val - 256); omega)

/-- The number of used blocks, as the body reads it off its table. -/
abbrev nuWord (c : Dev nD) (M : Memref sig .tc .smem S1 .i32) (f : Buf (Elt F) (M.view.loc (c : Thread nD τ))) : BitVec 32 :=
  (M.access (Rect.unit (s := S1) ![0] S1.size inb_S1_S1_0)).read (Elt F) f (Shape.Idx.first (numel1_S1.symm ▸ Nat.one_pos))

/-- A block's expert, as the body reads it at offset `o` of its table. -/
abbrev beWord (c : Dev nD) (M : Memref sig .tc .smem S1280 .i32) (f : Buf (Elt F) (M.view.loc (c : Thread nD τ))) (o : Fin 1 → Nat)
    (h : ∀ a, o a + S1.size a ≤ S1280.size a) : BitVec 32 :=
  (M.access (Rect.unit (s := S1280) o S1.size h)).read (Elt F) f (Shape.Idx.first (numel1_S1.symm ▸ Nat.one_pos))

/-- The body's test whether the expert changed at this point: the first point, or another word than the point before. -/
abbrev changedBit (c : Dev nD) (i : grid0.Coords) (M : Memref sig .tc .smem S1280 .i32) (f : Buf (Elt F) (M.view.loc (c : Thread nD τ))) : BitVec 1 :=
  Scalar.cmpi .ne (Scalar.extui (Scalar.ori (Scalar.cmpi .eq (BitVec.ofNat 32 (i 0).val) 0#32) (Scalar.cmpi .ne (beWord c M f (k0_off2 i) (k0_off2_inb i)) (beWord c M f (k0_off3 i) (k0_off3_inb i)))) : BitVec 32) 0#32

/-- A point past the used blocks: the body leaves zeros in its output block and touches nothing else. -/
theorem run_idle (c : Dev nD) (i : grid0.Coords) (arg1 : Memref sig .tc .smem S1280 .i32) (harg1 : arg1.IsWhole) (arg2 : Memref sig .tc .smem S1 .i32) (harg2 : arg2.IsWhole)
    (arg3 : Memref sig .tc .vmem S512x512 .i32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (arg8 : Memref sig .tc .vmem S1024x512 .bf16) (harg8 : arg8.IsWhole) (arg9 : Memref sig .tc .vmem S256x1024 .bf16) (harg9 : arg9.IsWhole)
    (nu : Buf (Elt F) (arg2.view.loc (c : Thread nD τ)))
    (h1 : ¬ k0_cond1 i (nuWord c arg2 nu) = 1#1) (h3 : k0_cond3 i (nuWord c arg2 nu) = 1#1)
    (E : Set ℕ) (K : PUnit → sProp 𝕄) :
    iprop(tabAt c arg2 nu ∗ (∃ d, owns (c : Thread nD τ) arg7 fullShare d)
      ∗ (iprop(tabAt c arg2 nu ∗ owns (c : Thread nD τ) arg7 fullShare (k0_pay5 (F := F))) -∗ K ⟨⟩))
      ⊢ wp frame (wpE (defs₀ (F := F)) Variants.none c none) E (cc0_experts i arg1 harg1 arg2 harg2 arg3 harg3 arg4 harg4 arg5 harg5 arg6 harg6 arg7 harg7 arg8 harg8 arg9 harg9) K := by
  simp only [cc0_experts_eq_skeleton]; unfold cc0_experts_skel
  unfold owns
  iintro ⟨H2, ⟨%d7, %f7, -, H7⟩, Hk⟩
  sl_exec
  sl_step
  iapply Hk
  isplitl [H2]; · iexact H2
  iexists _; isplitr
  swap; · iexact H7
  ipureintro
  exact View.read_writes_full _ _ _ _ _

/-- A used block whose expert is the one before: the scratch buffers are read as they were left. -/
theorem run_keep (c : Dev nD) (i : grid0.Coords) (arg1 : Memref sig .tc .smem S1280 .i32) (harg1 : arg1.IsWhole) (arg2 : Memref sig .tc .smem S1 .i32) (harg2 : arg2.IsWhole)
    (arg3 : Memref sig .tc .vmem S512x512 .i32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (arg8 : Memref sig .tc .vmem S1024x512 .bf16) (harg8 : arg8.IsWhole) (arg9 : Memref sig .tc .vmem S256x1024 .bf16) (harg9 : arg9.IsWhole)
    (be : Buf (Elt F) (arg1.view.loc (c : Thread nD τ))) (nu : Buf (Elt F) (arg2.view.loc (c : Thread nD τ)))
    (x0 : Vec F S512x512 .i32) (w0 : Vec F S1024x512 .bf16) (w1 : Vec F S256x1024 .bf16)
    (h1 : k0_cond1 i (nuWord c arg2 nu) = 1#1) (h2 : ¬ changedBit c i arg1 be = 1#1) (h3 : ¬ k0_cond3 i (nuWord c arg2 nu) = 1#1)
    (E : Set ℕ) (K : PUnit → sProp 𝕄) :
    iprop(tabAt c arg1 be ∗ tabAt c arg2 nu ∗ owns (c : Thread nD τ) arg3 fullShare x0 ∗ (∃ d, owns (c : Thread nD τ) arg7 fullShare d)
        ∗ owns (c : Thread nD τ) arg8 fullShare w0 ∗ owns (c : Thread nD τ) arg9 fullShare w1
      ∗ (iprop(tabAt c arg1 be ∗ tabAt c arg2 nu ∗ owns (c : Thread nD τ) arg3 fullShare x0 ∗ owns (c : Thread nD τ) arg7 fullShare (outOf x0 w0 w1)
        ∗ owns (c : Thread nD τ) arg8 fullShare w0 ∗ owns (c : Thread nD τ) arg9 fullShare w1) -∗ K ⟨⟩))
      ⊢ wp frame (wpE (defs₀ (F := F)) Variants.none c none) E (cc0_experts i arg1 harg1 arg2 harg2 arg3 harg3 arg4 harg4 arg5 harg5 arg6 harg6 arg7 harg7 arg8 harg8 arg9 harg9) K := by
  simp only [cc0_experts_eq_skeleton]; unfold cc0_experts_skel
  unfold owns
  iintro ⟨H1, H2, ⟨%f3, %hf3, H3⟩, ⟨%d7, %f7, -, H7⟩, ⟨%f8, %hf8, H8⟩, ⟨%f9, %hf9, H9⟩, Hk⟩
  obtain rfl := harg3.eq_unread hf3; obtain rfl := harg8.eq_unread hf8; obtain rfl := harg9.eq_unread hf9
  sl_exec
  sl_step
  iapply Hk
  isplitl [H1]; · iexact H1
  isplitl [H2]; · iexact H2
  isplitl [H3]
  · iexists _; isplitr; · ipureintro; exact harg3.read_unread _
    iexact H3
  isplitl [H7]
  · iexists _; isplitr
    swap; · iexact H7
    ipureintro
    rw [View.read_writes_full, View.readAt_full, View.readAt_full, harg3.read_unread, harg9.read_unread]
    unfold outOf
    congr 1
    · funext y; exact congrFun (harg8.read_unread w0) _
    · funext y; exact congrFun (harg8.read_unread w0) _
  isplitl [H8]
  · iexists _; isplitr; · ipureintro; exact harg8.read_unread _
    iexact H8
  iexists _; isplitr; · ipureintro; exact harg9.read_unread _
  iexact H9

/-- A used block of a new expert: the body refills the scratch buffers from the expert's three blocks, then reads them. -/
theorem run_fill (c : Dev nD) (i : grid0.Coords) (arg1 : Memref sig .tc .smem S1280 .i32) (harg1 : arg1.IsWhole) (arg2 : Memref sig .tc .smem S1 .i32) (harg2 : arg2.IsWhole)
    (arg3 : Memref sig .tc .vmem S512x512 .i32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
    (arg8 : Memref sig .tc .vmem S1024x512 .bf16) (harg8 : arg8.IsWhole) (arg9 : Memref sig .tc .vmem S256x1024 .bf16) (harg9 : arg9.IsWhole)
    (be : Buf (Elt F) (arg1.view.loc (c : Thread nD τ))) (nu : Buf (Elt F) (arg2.view.loc (c : Thread nD τ)))
    (x0 : Vec F S512x512 .i32) (x1 x2 : Vec F S1x1024x256 .f32) (x3 : Vec F S1x256x1024 .f32)
    (h1 : k0_cond1 i (nuWord c arg2 nu) = 1#1) (h2 : changedBit c i arg1 be = 1#1) (h3 : ¬ k0_cond3 i (nuWord c arg2 nu) = 1#1)
    (E : Set ℕ) (K : PUnit → sProp 𝕄) :
    iprop(tabAt c arg1 be ∗ tabAt c arg2 nu ∗ owns (c : Thread nD τ) arg3 fullShare x0 ∗ owns (c : Thread nD τ) arg4 fullShare x1
        ∗ owns (c : Thread nD τ) arg5 fullShare x2 ∗ owns (c : Thread nD τ) arg6 fullShare x3 ∗ (∃ d, owns (c : Thread nD τ) arg7 fullShare d)
        ∗ (∃ d, owns (c : Thread nD τ) arg8 fullShare d) ∗ (∃ d, owns (c : Thread nD τ) arg9 fullShare d)
      ∗ (iprop(tabAt c arg1 be ∗ tabAt c arg2 nu ∗ owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare (outOf x0 (gateUp x1 x2) (k0_pay3 x3))
        ∗ owns (c : Thread nD τ) arg8 fullShare (gateUp x1 x2) ∗ owns (c : Thread nD τ) arg9 fullShare (k0_pay3 x3)) -∗ K ⟨⟩))
      ⊢ wp frame (wpE (defs₀ (F := F)) Variants.none c none) E (cc0_experts i arg1 harg1 arg2 harg2 arg3 harg3 arg4 harg4 arg5 harg5 arg6 harg6 arg7 harg7 arg8 harg8 arg9 harg9) K := by
  simp only [cc0_experts_eq_skeleton]; unfold cc0_experts_skel
  unfold owns
  iintro ⟨H1, H2, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg3.eq_unread hf3; obtain rfl := harg4.eq_unread hf4; obtain rfl := harg5.eq_unread hf5; obtain rfl := harg6.eq_unread hf6
  sl_exec
  sl_step
  iapply Hk
  isplitl [H1]; · iexact H1
  isplitl [H2]; · iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  have e8 : ∀ f, arg8.view.read (Elt F) (arg8.view.writes (Elt F) f (run_fill.sl.H8_2 c arg4 harg4 arg5 harg5 x1 x2)) = gateUp x1 x2 := fun f => by
    unfold run_fill.sl.H8_2
    rw [View.readAt_full, View.readAt_full, harg4.read_unread, harg5.read_unread]
    exact read_gateUp _ f x1 x2
  isplitl [H7]
  · iexists _; isplitr
    swap; · iexact H7
    ipureintro
    rw [View.read_writes_full, View.readAt_full, harg3.read_unread]
    unfold outOf run_fill.sl.v23 run_fill.sl.v26 run_fill.sl.v41
    have e9 : arg9.view.readCov (run_fill.sl.H9_1 c arg6 harg6 x3) (Rect.unit (s := S256x1024) ![0, 0] S256x1024.size inb_S256x1024_S256x1024_0_0).toLoadRect = k0_pay3 x3 := by
      unfold run_fill.sl.H9_1
      rw [View.readAt_full, harg6.read_unread]
      exact View.readCov_full _ _ _ _ _
    have e0 : arg8.view.readCov (run_fill.sl.H8_2 c arg4 harg4 arg5 harg5 x1 x2) (Rect.unit (s := S1024x512) ![0, 0] S512x512.size inb_S1024x512_S512x512_0_0).toLoadRect = rowsLo (gateUp x1 x2) := by
      funext y; exact congrFun (e8 _) _
    have e1 : arg8.view.readCov (run_fill.sl.H8_2 c arg4 harg4 arg5 harg5 x1 x2) (Rect.unit (s := S1024x512) ![512, 0] S512x512.size inb_S1024x512_S512x512_512_0).toLoadRect = rowsHi (gateUp x1 x2) := by
      funext y; exact congrFun (e8 _) _
    rw [e9, e0, e1]
  isplitl [H8]
  · iexists _; isplitr
    swap; · iexact H8
    ipureintro; exact e8 _
  iexists _; isplitr
  swap; · iexact H9
  ipureintro
  unfold run_fill.sl.H9_1
  rw [View.readAt_full, harg6.read_unread]
  exact View.read_writes_full _ _ _ _ _

end Cert.ExpertsIdeal
-- ==== Proof.ExpertsTables.lean ====
module

public import proofs.«01_k».proof.Proof.ExpertsRun
public import Idealize.ShloMosaic.Lib.StableHlo.Predicate

@[expose] public section

set_option maxRecDepth 16384

noncomputable section

namespace Cert.ExpertsIdeal

open Idealize.ShloMosaic Idealize.ShloMosaic.TcCoe
open Cert.ExpertsIdeal.Gen

variable {F : FTy → Type} [FloatOps F]

/-! The two tables of the experts call, block experts and count of used blocks, and what the kernel's words
    make of them when they are in range. -/

/-- The expert of block `n`. -/
def beOf (pf : pre0.Contents (Elt F)) (n : Fin 1280) : BitVec 32 := pf 0 (Fin.cons n finZeroElim : S1280.Idx)

/-- The number of used blocks. -/
def nuOf (pf : pre0.Contents (Elt F)) : BitVec 32 := pf 1 (Fin.cons (0 : Fin 1) finZeroElim : S1.Idx)

/-- Every block's expert is one of the 256, and at least one block and at most all of them are used. -/
structure Ranged (pf : pre0.Contents (Elt F)) : Prop where
  be : ∀ n, (beOf pf n).toNat < 256
  nu1 : 1 ≤ (nuOf pf).toNat
  nu2 : (nuOf pf).toNat ≤ 1280

theorem at0_eq (pf : pre0.Contents (Elt F)) (o : Fin 1 → Nat) (h : ∀ a, o a + S1.size a ≤ S1280.size a) (hn : S1.numel = 1) (n : Fin 1280)
    (e : o 0 = n.val) : pf.at 0 (Rect.unit (s := S1280) o S1.size h) hn = beOf pf n := by
  unfold beOf
  refine congrArg (pf 0) (funext fun a => Fin.ext ?_)
  match a with
  | ⟨0, _⟩ =>
    have h0 : (Rect.unit (s := S1280) o S1.size h).emb (Shape.Idx.first (hn.symm ▸ Nat.one_pos)) 0 = o 0 + 1 * 0 := by
      rw [Rect.emb_apply]
      have : ((Shape.Idx.first (hn.symm ▸ Nat.one_pos) : S1.Idx) 0).val = 0 := by
        have := ((Shape.Idx.first (hn.symm ▸ Nat.one_pos) : S1.Idx) 0).isLt
        change _ < 1 at this
        omega
      exact congrArg (fun k => o 0 + 1 * k) this
    show ((Rect.unit (s := S1280) o S1.size h).emb (Shape.Idx.first (hn.symm ▸ Nat.one_pos)) 0).val = n.val
    omega

theorem at1_eq (pf : pre0.Contents (Elt F)) (h : ∀ a, (![0] : Fin 1 → Nat) a + S1.size a ≤ S1.size a) (hn : S1.numel = 1) :
    pf.at 1 (Rect.unit (s := S1) ![0] S1.size h) hn = nuOf pf := by
  unfold nuOf
  refine congrArg (pf 1) (funext fun a => Fin.ext ?_)
  match a with
  | ⟨0, _⟩ =>
    have := ((Rect.unit (s := S1) ![0] S1.size h).emb (Shape.Idx.first (hn.symm ▸ Nat.one_pos)) 0).isLt
    change _ < 1 at this
    show ((Rect.unit (s := S1) ![0] S1.size h).emb (Shape.Idx.first (hn.symm ▸ Nat.one_pos)) 0).val = 0
    omega

/-- The word of a grid coordinate. -/
theorem coord_toNat (i : grid0.Coords) : (BitVec.ofNat 32 (i 0).val).toNat = (i 0).val := by
  have h : (i 0).val < 1280 := (i 0).isLt
  rw [BitVec.toNat_ofNat]; omega

theorem coord_lt (i : grid0.Coords) : (i 0).val < 1280 := (i 0).isLt

theorem off1_eq (i : grid0.Coords) : k0_off1 i 0 = (i 0).val := coord_toNat i

theorem off2_eq (i : grid0.Coords) : k0_off2 i 0 = (i 0).val := coord_toNat i

theorem maxsi_zero (w : BitVec 32) (h : w.toNat < 2 ^ 31) : Scalar.maxsi w 0#32 = w := by
  have hw := StableHlo.Predicate.toInt_eq_toNat_of_lt h
  have h0 : (0#32 : BitVec 32).toInt = 0 := by decide
  show IntOp.maxsi w 0#32 = w
  unfold IntOp.maxsi
  by_cases hc : w.toNat = 0
  · have : w = 0#32 := BitVec.eq_of_toNat_eq hc
    rw [this]; decide
  · simp only [BitVec.sle, BitVec.slt, hw, h0]
    first
      | rw [if_pos (by simp; omega)]
      | rw [if_neg (by simp; omega)]

theorem off3_zero (i : grid0.Coords) (h : (i 0).val = 0) : k0_off3 i 0 = 0 := by
  unfold k0_off3
  show (Scalar.indexCast (Scalar.maxsi (Scalar.subi (BitVec.ofNat 32 (i 0).val) 1#32) 0#32)).toNat = 0
  rw [h]; decide

theorem off3_pos (i : grid0.Coords) (h : 0 < (i 0).val) : k0_off3 i 0 = (i 0).val - 1 := by
  have hl := coord_lt i
  unfold k0_off3
  show (Scalar.indexCast (Scalar.maxsi (Scalar.subi (BitVec.ofNat 32 (i 0).val) 1#32) 0#32)).toNat = (i 0).val - 1
  have e : Scalar.subi (BitVec.ofNat 32 (i 0).val) 1#32 = BitVec.ofNat 32 ((i 0).val - 1) :=
    StableHlo.Predicate.sub_one_ofNat _ h (by omega)
  rw [e, maxsi_zero _ (by rw [BitVec.toNat_ofNat]; omega)]
  show (BitVec.ofNat 32 ((i 0).val - 1)).toNat = _
  rw [BitVec.toNat_ofNat]; omega

theorem bit_iff (b : BitVec 1) : Scalar.cmpi .ne (Scalar.extui b : BitVec 32) 0#32 = 1#1 ↔ b = 1#1 := by
  rcases BitVec.eq_zero_or_eq_one b with rfl | rfl <;> decide

theorem cond1_iff (i : grid0.Coords) (w : BitVec 32) (hw : w.toNat ≤ 1280) : k0_cond1 i w = 1#1 ↔ (i 0).val < w.toNat := by
  have hl := coord_lt i
  unfold k0_cond1
  refine (bit_iff _).trans ((StableHlo.Predicate.slt_iff_toNat (a := BitVec.ofNat 32 (i 0).val) (b := w) (by rw [coord_toNat]; omega) (by omega)).trans ?_)
  rw [coord_toNat]

theorem cond3_iff (i : grid0.Coords) (w : BitVec 32) (hw : w.toNat ≤ 1280) : k0_cond3 i w = 1#1 ↔ w.toNat ≤ (i 0).val := by
  have hl := coord_lt i
  unfold k0_cond3
  refine (bit_iff _).trans ((StableHlo.Predicate.sge_iff_toNat (a := BitVec.ofNat 32 (i 0).val) (b := w) (by rw [coord_toNat]; omega) (by omega)).trans ?_)
  rw [coord_toNat]

/-! ## The index maps -/

theorem transform0 (pf : pre0.Contents (Elt F)) (R : Ranged pf) (i : grid0.Coords) (hu : (i 0).val < (nuOf pf).toNat) :
    cc0_transform_0 inb_S1_S1_0 numel1_S1 pf i = ![(i 0).val, 0] := by
  have hl := coord_lt i
  have h1 := R.nu1; have h2 := R.nu2
  have e : Scalar.subi (nuOf pf) 1#32 = BitVec.ofNat 32 ((nuOf pf).toNat - 1) := by
    apply BitVec.eq_of_toNat_eq
    show (nuOf pf - 1#32).toNat = _
    rw [BitVec.toNat_sub, BitVec.toNat_ofNat, BitVec.toNat_ofNat]; omega
  show ![(Scalar.minsi (BitVec.ofNat 32 (i 0).val) (Scalar.subi (pf.at 1 (Rect.unit (s := S1) ![0] S1.size inb_S1_S1_0) numel1_S1) 1#32)).toNat, 0] = _
  rw [at1_eq, e]
  have : Scalar.minsi (BitVec.ofNat 32 (i 0).val) (BitVec.ofNat 32 ((nuOf pf).toNat - 1)) = BitVec.ofNat 32 (i 0).val := by
    show IntOp.minsi (BitVec.ofNat 32 (i 0).val) (BitVec.ofNat 32 ((nuOf pf).toNat - 1)) = _
    have a1 := StableHlo.Predicate.toInt_ofNat_small (i 0).val (by omega)
    have a2 := StableHlo.Predicate.toInt_ofNat_small ((nuOf pf).toNat - 1) (by omega)
    unfold IntOp.minsi
    simp only [BitVec.sle, BitVec.slt, a1, a2, decide_eq_true_eq]
    split
    · rfl
    · rename_i hc
      have : (i 0).val = (nuOf pf).toNat - 1 := by omega
      rw [this]
  rw [this, coord_toNat]

theorem transform0_lt (pf : pre0.Contents (Elt F)) (R : Ranged pf) (i : grid0.Coords) :
    cc0_transform_0 inb_S1_S1_0 numel1_S1 pf i 0 < 1280 := by
  by_cases hu : (i 0).val < (nuOf pf).toNat
  · rw [transform0 pf R i hu]; exact coord_lt i
  have hl := coord_lt i
  have h1 := R.nu1; have h2 := R.nu2
  have e : Scalar.subi (nuOf pf) 1#32 = BitVec.ofNat 32 ((nuOf pf).toNat - 1) := by
    apply BitVec.eq_of_toNat_eq
    show (nuOf pf - 1#32).toNat = _
    rw [BitVec.toNat_sub, BitVec.toNat_ofNat, BitVec.toNat_ofNat]; omega
  show (Scalar.minsi (BitVec.ofNat 32 (i 0).val) (Scalar.subi (pf.at 1 (Rect.unit (s := S1) ![0] S1.size inb_S1_S1_0) numel1_S1) 1#32)).toNat < 1280
  rw [at1_eq, e]
  show (IntOp.minsi (BitVec.ofNat 32 (i 0).val) (BitVec.ofNat 32 ((nuOf pf).toNat - 1))).toNat < 1280
  unfold IntOp.minsi
  split
  · rw [coord_toNat]; exact hl
  · rw [BitVec.toNat_ofNat]; omega

theorem transform1 (pf : pre0.Contents (Elt F)) (i : grid0.Coords) :
    cc0_transform_1 k0_off1_inb numel1_S1 pf i = ![(beOf pf (i 0)).toNat, 0, 0] := by
  show ![(pf.at 0 (Rect.unit (s := S1280) (k0_off1 i) S1.size (k0_off1_inb i)) numel1_S1 : BitVec 32).toNat, 0, 0] = _
  rw [at0_eq pf _ _ _ (i 0) (off1_eq i)]

theorem transform2 (pf : pre0.Contents (Elt F)) (i : grid0.Coords) :
    cc0_transform_2 k0_off1_inb numel1_S1 pf i = ![(beOf pf (i 0)).toNat, 0, 0] := transform1 pf i

theorem transform3 (pf : pre0.Contents (Elt F)) (i : grid0.Coords) :
    cc0_transform_3 k0_off1_inb numel1_S1 pf i = ![(beOf pf (i 0)).toNat, 0, 0] := transform1 pf i

/-- Tables in range are admissible: every block the index maps name lies in its array. -/
theorem ok_of_ranged (pf : pre0.Contents (Elt F)) (R : Ranged pf) : ok0 pf := by
  have hb := R.be
  refine ⟨fun i => ⟨fun a => ?_, .inl rfl⟩, fun i => ⟨fun a => ?_, .inl rfl⟩, fun i => ⟨fun a => ?_, .inl rfl⟩, fun i => ⟨fun a => ?_, .inl rfl⟩⟩
  · have h := transform0_lt pf R i
    match a with
    | ⟨0, _⟩ => show (cc0_transform_0 inb_S1_S1_0 numel1_S1 pf i 0 + 1) * 512 ≤ 655360; omega
    | ⟨1, _⟩ => show (0 + 1) * 512 ≤ 512; omega
  · rw [transform1]; have h := hb (i 0)
    match a with
    | ⟨0, _⟩ => show ((beOf pf (i 0)).toNat + 1) * 1 ≤ 256; omega
    | ⟨1, _⟩ => show (0 + 1) * 1024 ≤ 1024; omega
    | ⟨2, _⟩ => show (0 + 1) * 256 ≤ 256; omega
  · rw [transform2]; have h := hb (i 0)
    match a with
    | ⟨0, _⟩ => show ((beOf pf (i 0)).toNat + 1) * 1 ≤ 256; omega
    | ⟨1, _⟩ => show (0 + 1) * 1024 ≤ 1024; omega
    | ⟨2, _⟩ => show (0 + 1) * 256 ≤ 256; omega
  · rw [transform3]; have h := hb (i 0)
    match a with
    | ⟨0, _⟩ => show ((beOf pf (i 0)).toNat + 1) * 1 ≤ 256; omega
    | ⟨1, _⟩ => show (0 + 1) * 256 ≤ 256; omega
    | ⟨2, _⟩ => show (0 + 1) * 1024 ≤ 1024; omega

end Cert.ExpertsIdeal

end
-- ==== Proof.ExpertsFrame.lean ====
module

public import proofs.«01_k».proof.Proof.ExpertsTables

@[expose] public section

set_option maxRecDepth 16384

noncomputable section

namespace Cert.ExpertsIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ)

/-! ## The region's entry contents, its tables and its blocks -/

abbrev V (c : Dev nD) (b : Ref sig .tc) : Buf (Elt F) ((c : Thread nD τ).loc b) := m ((c.tc : Thread nD τ).loc b)

/-- The two tables as the memory has them. -/
def tbl : pre0.Contents (Elt F) := fun k => V m (0 : Dev nD) (pre0.ref k)

variable (R : Ranged (tbl m))

/-- They are admissible when in range. -/
abbrev adm : (pcfg0 (F := F)).Adm := ⟨tbl m, ok_of_ranged _ R⟩

abbrev cfgM : Pipeline.Cfg sig Λ₀ := cfg0 (adm m R)

theorem coords_eq (t : Fin (cfgM m R).N) : (grid0.coords t 0).val = t.val := by
  have h : t.val < grid0.N := t.isLt
  rw [N_0] at h
  rw [Pipeline.Grid.coords_val (G := grid0) t 0 (S := 1) (B := 1280) (by decide) rfl, Nat.div_one]
  exact Nat.mod_eq_of_lt h

/-- Window `w`'s block at point `t`, read from the array at region entry. -/
def iblk (c : Dev nD) (w : Fin (cfgM m R).W) (t : Fin (cfgM m R).N) :
    (((cfgM m R).win w).xblock ((cfgM m R).grid.coords t)).Idx → Elt F ((cfgM m R).win w).elt :=
  (((cfgM m R).win w).blk t).view.read (Elt F) (V m c (Pipeline.arrRef spec0 w))

abbrev X0 (c : Dev nD) (t : Fin (cfgM m R).N) : Vec F S512x512 .i32 := iblk m R c 0 t
abbrev X1 (c : Dev nD) (t : Fin (cfgM m R).N) : Vec F S1x1024x256 .f32 := iblk m R c 1 t
abbrev X2 (c : Dev nD) (t : Fin (cfgM m R).N) : Vec F S1x1024x256 .f32 := iblk m R c 2 t
abbrev X3 (c : Dev nD) (t : Fin (cfgM m R).N) : Vec F S1x256x1024 .f32 := iblk m R c 3 t

/-- The expert of point `t`'s block. -/
abbrev expertAt (t : Fin (cfgM m R).N) : Fin 256 := ⟨(beOf (tbl m) (grid0.coords t 0)).toNat, R.be _⟩

/-- A block of an expert's matrix is the matrix the table names. -/
theorem X1_apply (c : Dev nD) (t : Fin (cfgM m R).N) (y : S1x1024x256.Idx) :
    X1 m R c t y = V m c main_arg3 (Fin.cons (expertAt m R t) (Fin.cons (y 1) (Fin.cons (y 2) finZeroElim)) : S256x1024x256.Idx) := by
  refine congrArg (V m c main_arg3) (funext fun a => Fin.ext ?_)
  have hy : (y 0).val < 1 := (y 0).isLt
  have e := transform1 (tbl m) (grid0.coords t)
  match a with
  | ⟨0, _⟩ =>
    show cc0_transform_1 k0_off1_inb numel1_S1 (tbl m) (grid0.coords t) 0 * 1 + 1 * (y 0).val = (beOf (tbl m) (grid0.coords t 0)).toNat
    rw [e]
    show (beOf (tbl m) (grid0.coords t 0)).toNat * 1 + 1 * (y 0).val = _
    omega
  | ⟨1, _⟩ =>
    show 0 * 1024 + 1 * (y 1).val = (y 1).val
    omega
  | ⟨2, _⟩ =>
    show 0 * 256 + 1 * (y 2).val = (y 2).val
    omega

theorem X2_apply (c : Dev nD) (t : Fin (cfgM m R).N) (y : S1x1024x256.Idx) :
    X2 m R c t y = V m c main_arg4 (Fin.cons (expertAt m R t) (Fin.cons (y 1) (Fin.cons (y 2) finZeroElim)) : S256x1024x256.Idx) := by
  refine congrArg (V m c main_arg4) (funext fun a => Fin.ext ?_)
  have hy : (y 0).val < 1 := (y 0).isLt
  have e := transform2 (tbl m) (grid0.coords t)
  match a with
  | ⟨0, _⟩ =>
    show cc0_transform_2 k0_off1_inb numel1_S1 (tbl m) (grid0.coords t) 0 * 1 + 1 * (y 0).val = (beOf (tbl m) (grid0.coords t 0)).toNat
    rw [e]
    show (beOf (tbl m) (grid0.coords t 0)).toNat * 1 + 1 * (y 0).val = _
    omega
  | ⟨1, _⟩ =>
    show 0 * 1024 + 1 * (y 1).val = (y 1).val
    omega
  | ⟨2, _⟩ =>
    show 0 * 256 + 1 * (y 2).val = (y 2).val
    omega

theorem X3_apply (c : Dev nD) (t : Fin (cfgM m R).N) (y : S1x256x1024.Idx) :
    X3 m R c t y = V m c main_arg5 (Fin.cons (expertAt m R t) (Fin.cons (y 1) (Fin.cons (y 2) finZeroElim)) : S256x256x1024.Idx) := by
  refine congrArg (V m c main_arg5) (funext fun a => Fin.ext ?_)
  have hy : (y 0).val < 1 := (y 0).isLt
  have e := transform3 (tbl m) (grid0.coords t)
  match a with
  | ⟨0, _⟩ =>
    show cc0_transform_3 k0_off1_inb numel1_S1 (tbl m) (grid0.coords t) 0 * 1 + 1 * (y 0).val = (beOf (tbl m) (grid0.coords t 0)).toNat
    rw [e]
    show (beOf (tbl m) (grid0.coords t 0)).toNat * 1 + 1 * (y 0).val = _
    omega
  | ⟨1, _⟩ =>
    show 0 * 256 + 1 * (y 1).val = (y 1).val
    omega
  | ⟨2, _⟩ =>
    show 0 * 1024 + 1 * (y 2).val = (y 2).val
    omega

/-- A used point's rows are its own. -/
theorem X0_apply (c : Dev nD) (t : Fin (cfgM m R).N) (hu : t.val < (nuOf (tbl m)).toNat) (y : S512x512.Idx) (r : Fin 655360)
    (hr : r.val = t.val * 512 + (y 0).val) :
    X0 m R c t y = V m c main_arg0 (Fin.cons r (Fin.cons (y 1) finZeroElim) : S655360x512.Idx) := by
  refine congrArg (V m c main_arg0) (funext fun a => Fin.ext ?_)
  have e := transform0 (tbl m) R (grid0.coords t) (by rw [coords_eq]; exact hu)
  match a with
  | ⟨0, _⟩ =>
    show cc0_transform_0 inb_S1_S1_0 numel1_S1 (tbl m) (grid0.coords t) 0 * 512 + 1 * (y 0).val = r.val
    rw [e]
    show (grid0.coords t 0).val * 512 + 1 * (y 0).val = r.val
    rw [coords_eq]; omega
  | ⟨1, _⟩ =>
    show 0 * 512 + 1 * (y 1).val = (y 1).val
    omega

/-- Two points of one expert hold the same matrices. -/
theorem X_congr (c : Dev nD) (t k : Fin (cfgM m R).N) (h : beOf (tbl m) (grid0.coords k 0) = beOf (tbl m) (grid0.coords t 0)) :
    X1 m R c k = X1 m R c t ∧ X2 m R c k = X2 m R c t ∧ X3 m R c k = X3 m R c t := by
  have e : expertAt m R k = expertAt m R t := Fin.ext (congrArg BitVec.toNat h)
  refine ⟨funext fun y => ?_, funext fun y => ?_, funext fun y => ?_⟩
  · rw [X1_apply, X1_apply, e]
  · rw [X2_apply, X2_apply, e]
  · rw [X3_apply, X3_apply, e]

/-- What the two scratch buffers hold for point `t`'s expert. -/
def WGU (c : Dev nD) (t : Fin (cfgM m R).N) : Vec F S1024x512 .bf16 := gateUp (X1 m R c t) (X2 m R c t)
def WD (c : Dev nD) (t : Fin (cfgM m R).N) : Vec F S256x1024 .bf16 := k0_pay3 (X3 m R c t)

/-- What point `t` leaves in its output block. -/
def outAt (c : Dev nD) (t : Fin (cfgM m R).N) : Vec F S512x1024 .bf16 :=
  if t.val < (nuOf (tbl m)).toNat then outOf (X0 m R c t) (WGU m R c t) (WD m R c t) else k0_pay5

/-! ## The words the body reads -/

theorem nuWord_eq (c : Dev nD) : nuWord c (Memref.whole main_arg2) (tbl m 1) = nuOf (tbl m) :=
  at1_eq (tbl m) inb_S1_S1_0 numel1_S1

theorem beWord_eq (c : Dev nD) (o : Fin 1 → Nat) (h : ∀ a, o a + S1.size a ≤ S1280.size a) (n : Fin 1280) (e : o 0 = n.val) :
    beWord c (Memref.whole main_arg1) (tbl m 0) o h = beOf (tbl m) n :=
  at0_eq (tbl m) o h numel1_S1 n e

theorem ori_bits (a b : BitVec 1) (h : ¬ Scalar.ori a b = 1#1) : ¬ a = 1#1 ∧ ¬ b = 1#1 := by
  revert h
  rcases BitVec.eq_zero_or_eq_one a with rfl | rfl <;> rcases BitVec.eq_zero_or_eq_one b with rfl | rfl <;> decide

theorem ne_bit (a b : BitVec 32) (h : ¬ Scalar.cmpi .ne a b = 1#1) : a = b := by
  by_contra hc
  refine h ?_
  show IntOp.cmpi .ne a b = 1#1
  simp only [IntOp.cmpi, StableHlo.Predicate.ofBool_eq_one_iff, bne_iff_ne]
  exact hc

theorem unchanged_point (c : Dev nD) (i : grid0.Coords) (h : ¬ changedBit c i (Memref.whole main_arg1) (tbl m 0) = 1#1) :
    ∃ hp : 0 < (i 0).val, beOf (tbl m) (i 0) = beOf (tbl m) ⟨(i 0).val - 1, by have := coord_lt i; omega⟩ := by
  unfold changedBit at h
  rw [bit_iff] at h
  obtain ⟨ha, hb⟩ := ori_bits _ _ h
  have hp : 0 < (i 0).val := by
    by_contra h0
    refine ha ?_
    have : (i 0).val = 0 := by omega
    rw [this]; decide
  refine ⟨hp, ?_⟩
  have e := ne_bit _ _ hb
  rw [beWord_eq m c _ _ (i 0) (off2_eq i), beWord_eq m c _ _ ⟨(i 0).val - 1, by have := coord_lt i; omega⟩ (off3_pos i hp)] at e
  exact e

end Cert.ExpertsIdeal

end
-- ==== Proof.ExpertsLaunch.lean ====
module

public import proofs.«01_k».proof.Proof.ExpertsFrame

@[expose] public section

set_option maxRecDepth 16384

noncomputable section

namespace Cert.ExpertsIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (R : Ranged (tbl m)) (ρ : Dev nD → PrngReg)

/-- Before point `n` the scratch buffers hold the previous point's matrices, if that point was used. -/
def Kept (c : Dev nD) (n : ℕ) (f0 : Vec F S1024x512 .bf16) (f1 : Vec F S256x1024 .bf16) : Prop :=
  ∀ k : Fin (cfgM m R).N, k.val + 1 = n → k.val < (nuOf (tbl m)).toNat → f0 = WGU m R c k ∧ f1 = WD m R c k

/-- The invariant before point `n`: the scratch buffers as `Kept` says, the generator's register, the two tables. -/
def PhiE (c : Dev nD) (n : ℕ) : sProp 𝕄 :=
  iprop(iprop(∃ f0, ∃ f1, ⌜Kept m R c n f0 f1⌝ ∗ owns (c : Thread nD τ) (Memref.whole cc0_scratch0) fullShare f0
      ∗ owns (c : Thread nD τ) (Memref.whole cc0_scratch1) fullShare f1)
    ∗ (∃ r, prngReg c r) ∗ tabAt c (Memref.whole main_arg1) (tbl m 0) ∗ tabAt c (Memref.whole main_arg2) (tbl m 1))

def dats (_ : Fin 1) (c : Dev nD) : Dat τ (Elt F) Unit ℕ (UR sig nD τ) ℕ (cfgM m R) c where
  A w := V m c (Pipeline.arrRef spec0 w)
  after w t := match w with
    | ⟨0, _⟩ => iblk m R c 0 t
    | ⟨1, _⟩ => iblk m R c 1 t
    | ⟨2, _⟩ => iblk m R c 2 t
    | ⟨3, _⟩ => iblk m R c 3 t
    | ⟨4, _⟩ => outAt m R c t
    | ⟨_ + 5, h⟩ => absurd h (Nat.not_lt.2 (Nat.le_add_left _ _))
  Φ t := PhiE m R c t.val
  q _ := fullShare
  owed _ := 0

theorem A_eq (c : Dev nD) (w : Fin (cfgM m R).W) : (dats m R 0 c).A w = V m c (Pipeline.arrRef spec0 w) := by
  dsimp only [dats]

theorem after_0 (c : Dev nD) (t : Fin (cfgM m R).N) : (dats m R 0 c).after 0 t = iblk m R c 0 t := by dsimp only [dats]; rfl
theorem after_1 (c : Dev nD) (t : Fin (cfgM m R).N) : (dats m R 0 c).after 1 t = iblk m R c 1 t := by dsimp only [dats]; rfl
theorem after_2 (c : Dev nD) (t : Fin (cfgM m R).N) : (dats m R 0 c).after 2 t = iblk m R c 2 t := by dsimp only [dats]; rfl
theorem after_3 (c : Dev nD) (t : Fin (cfgM m R).N) : (dats m R 0 c).after 3 t = iblk m R c 3 t := by dsimp only [dats]; rfl
theorem after_4 (c : Dev nD) (t : Fin (cfgM m R).N) : (dats m R 0 c).after 4 t = outAt m R c t := by dsimp only [dats]; rfl

theorem before_0 (c : Dev nD) (t : Fin (cfgM m R).N) (d) : (dats m R 0 c).before 0 t d = iblk m R c 0 t :=
  ((dats m R 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin (cfgM m R).N) (d) : (dats m R 0 c).before 1 t d = iblk m R c 1 t :=
  ((dats m R 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin (cfgM m R).N) (d) : (dats m R 0 c).before 2 t d = iblk m R c 2 t :=
  ((dats m R 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin (cfgM m R).N) (d) : (dats m R 0 c).before 3 t d = iblk m R c 3 t :=
  ((dats m R 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)

/-- The tables as the kit hands them over, one by one. -/
theorem PhiT_eq (c : Dev nD) : (Pipeline.ΦT pre0 (tbl m) c : sProp 𝕄)
    = iprop(tabAt c (Memref.whole main_arg1) (tbl m 0) ∗ tabAt c (Memref.whole main_arg2) (tbl m 1)) := by
  unfold Pipeline.ΦT Pipeline.prefHeld
  rw [show (Finset.univ : Finset (Fin pre0.K)) = insert (0 : Fin 2) {(1 : Fin 2)} from by decide, bigSep_insert (by decide), bigSep_singleton]
  rfl

theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-! ## The body at a point -/

abbrev msE_0 (t : Fin (cfgM m R).N) : Memref sig .tc .vmem S512x512 .i32 := spec0_0.stage ((cfgM m R).slots t 0)
theorem hsE_0 (t : Fin (cfgM m R).N) : (msE_0 m R t).IsWhole := hstage0_0 (((cfgM m R).slots t 0).cast nbuf0_0)
abbrev msE_1 (t : Fin (cfgM m R).N) : Memref sig .tc .vmem S1x1024x256 .f32 := spec0_1.stage ((cfgM m R).slots t 1)
theorem hsE_1 (t : Fin (cfgM m R).N) : (msE_1 m R t).IsWhole := hstage0_1 (((cfgM m R).slots t 1).cast nbuf0_1)
abbrev msE_2 (t : Fin (cfgM m R).N) : Memref sig .tc .vmem S1x1024x256 .f32 := spec0_2.stage ((cfgM m R).slots t 2)
theorem hsE_2 (t : Fin (cfgM m R).N) : (msE_2 m R t).IsWhole := hstage0_2 (((cfgM m R).slots t 2).cast nbuf0_2)
abbrev msE_3 (t : Fin (cfgM m R).N) : Memref sig .tc .vmem S1x256x1024 .f32 := spec0_3.stage ((cfgM m R).slots t 3)
theorem hsE_3 (t : Fin (cfgM m R).N) : (msE_3 m R t).IsWhole := hstage0_3 (((cfgM m R).slots t 3).cast nbuf0_3)
abbrev msE_4 (t : Fin (cfgM m R).N) : Memref sig .tc .vmem S512x1024 .bf16 := spec0_4.stage ((cfgM m R).slots t 4)
theorem hsE_4 (t : Fin (cfgM m R).N) : (msE_4 m R t).IsWhole := hstage0_4 (((cfgM m R).slots t 4).cast nbuf0_4)

/-- What the body is called with, -/
def bodyPre (c : Dev nD) (t : Fin (cfgM m R).N) : sProp 𝕄 :=
  iprop((dats m R 0 c).Φ t.castSucc ∗ (dats m R 0 c).owesAt () t.castSucc
    ∗ (∃ d, owns (c : Thread nD τ) (msE_0 m R t) fullShare ((dats m R 0 c).before 0 t d))
    ∗ (∃ d, owns (c : Thread nD τ) (msE_1 m R t) fullShare ((dats m R 0 c).before 1 t d))
    ∗ (∃ d, owns (c : Thread nD τ) (msE_2 m R t) fullShare ((dats m R 0 c).before 2 t d))
    ∗ (∃ d, owns (c : Thread nD τ) (msE_3 m R t) fullShare ((dats m R 0 c).before 3 t d))
    ∗ (∃ d, owns (c : Thread nD τ) (msE_4 m R t) fullShare ((dats m R 0 c).before 4 t d)))

/-- and what it returns. -/
def bodyPost (c : Dev nD) (t : Fin (cfgM m R).N) : sProp 𝕄 :=
  iprop((dats m R 0 c).Φ t.succ ∗ (dats m R 0 c).owesAt () t.succ
    ∗ owns (c : Thread nD τ) (msE_0 m R t) fullShare ((dats m R 0 c).after 0 t)
    ∗ owns (c : Thread nD τ) (msE_1 m R t) fullShare ((dats m R 0 c).after 1 t)
    ∗ owns (c : Thread nD τ) (msE_2 m R t) fullShare ((dats m R 0 c).after 2 t)
    ∗ owns (c : Thread nD τ) (msE_3 m R t) fullShare ((dats m R 0 c).after 3 t)
    ∗ owns (c : Thread nD τ) (msE_4 m R t) fullShare ((dats m R 0 c).after 4 t))

/-- The body at point `t`, on the point's staging buffers. -/
abbrev bodyAtE (t : Fin (cfgM m R).N) :=
  cc0_experts (F := F) (grid0.coords t) (Memref.whole main_arg1) (Memref.isWhole_whole _) (Memref.whole main_arg2) (Memref.isWhole_whole _)
    (msE_0 m R t) (hsE_0 m R t) (msE_1 m R t) (hsE_1 m R t) (msE_2 m R t) (hsE_2 m R t) (msE_3 m R t) (hsE_3 m R t) (msE_4 m R t) (hsE_4 m R t)
    (Memref.whole cc0_scratch0) (Memref.isWhole_whole _) (Memref.whole cc0_scratch1) (Memref.isWhole_whole _)

theorem defs₀_row (t : Fin (cfgM m R).N) :
    defs₀ (F := F) .tc (cfgM m R).body ((cfgM m R).bodyArgs t ((cfgM m R).slots t)) = bodyAtE m R t := by
  unfold defs₀; rw [Defs.onTc_tc]

theorem Phi_castSucc (c : Dev nD) (t : Fin (cfgM m R).N) : (dats m R 0 c).Φ t.castSucc = PhiE m R c t.val := by dsimp only [dats]; rfl
theorem Phi_succ (c : Dev nD) (t : Fin (cfgM m R).N) : (dats m R 0 c).Φ t.succ = PhiE m R c (t.val + 1) := by dsimp only [dats]; rfl

theorem kept_fill (c : Dev nD) (t : Fin (cfgM m R).N) : Kept m R c (t.val + 1) (WGU m R c t) (WD m R c t) := by
  intro k hk _
  have : k = t := Fin.ext (by omega)
  subst this; exact ⟨rfl, rfl⟩

theorem kept_idle (c : Dev nD) (t : Fin (cfgM m R).N) (hu : ¬ t.val < (nuOf (tbl m)).toNat) (f0 f1) : Kept m R c (t.val + 1) f0 f1 := by
  intro k hk hk'; exact absurd hk' (by omega)

/-- At a point whose expert has not changed, the scratch buffers already hold its matrices. -/
theorem kept_keep (c : Dev nD) (t : Fin (cfgM m R).N) (hu : t.val < (nuOf (tbl m)).toNat)
    (h : ¬ changedBit c (grid0.coords t) (Memref.whole main_arg1) (tbl m 0) = 1#1) (f0 f1) (hk : Kept m R c t.val f0 f1) :
    f0 = WGU m R c t ∧ f1 = WD m R c t := by
  obtain ⟨hp, e⟩ := unchanged_point m c (grid0.coords t) h
  have hc := coords_eq m R t
  rw [hc] at hp
  have hlt : t.val < (cfgM m R).N := t.isLt
  have hl1 : t.val - 1 < (cfgM m R).N := Nat.lt_of_le_of_lt (Nat.sub_le _ _) hlt
  have hl2 : t.val - 1 < (nuOf (tbl m)).toNat := Nat.lt_of_le_of_lt (Nat.sub_le _ _) hu
  have hck := coords_eq m R ⟨t.val - 1, hl1⟩
  obtain ⟨a, b⟩ := hk ⟨t.val - 1, hl1⟩ (Nat.sub_add_cancel hp) hl2
  have e' : beOf (tbl m) (grid0.coords ⟨t.val - 1, hl1⟩ 0) = beOf (tbl m) (grid0.coords t 0) := by
    rw [e]; exact congrArg (beOf (tbl m)) (Fin.ext (by rw [hck]; show t.val - 1 = (grid0.coords t 0).val - 1; rw [hc]))
  obtain ⟨x1, x2, x3⟩ := X_congr m R c t ⟨t.val - 1, hl1⟩ e'
  refine ⟨a.trans ?_, b.trans ?_⟩
  · unfold WGU; rw [x1, x2]
  · unfold WD; rw [x3]

set_option maxHeartbeats 1000000 in
theorem sound_body (c : Dev nD) (t : Fin (cfgM m R).N) :
    bodyPre m R c t ⊢ wp frame (wpE (defs₀ (F := F)) Variants.none c none) Set.univ (bodyAtE m R t) (fun _ => bodyPost m R c t) := by
  have hc := coords_eq m R t
  have hnu := R.nu2
  unfold bodyPre bodyPost bodyAtE
  simp only [before_0, before_1, before_2, before_3]
  rw [Phi_castSucc, Phi_succ, show (dats m R 0 c).owesAt () t.succ = (dats m R 0 c).owesAt () t.castSucc from rfl,
    after_0, after_1, after_2, after_3, after_4]
  unfold PhiE
  by_cases hu : t.val < (nuOf (tbl m)).toNat
  · have h1 : k0_cond1 (grid0.coords t) (nuWord c (Memref.whole main_arg2) (tbl m 1)) = 1#1 := by
      rw [nuWord_eq, cond1_iff _ _ hnu]; omega
    have h3 : ¬ k0_cond3 (grid0.coords t) (nuWord c (Memref.whole main_arg2) (tbl m 1)) = 1#1 := by
      rw [nuWord_eq, cond3_iff _ _ hnu]; omega
    have ho : outAt m R c t = outOf (X0 m R c t) (WGU m R c t) (WD m R c t) := if_pos hu
    rw [ho]
    by_cases h2 : changedBit c (grid0.coords t) (Memref.whole main_arg1) (tbl m 0) = 1#1
    · iintro ⟨⟨⟨%f0, %f1, %hk, HS0, HS1⟩, Hg, HT1, HT2⟩, Ho, ⟨%d0, H0⟩, ⟨%d1, H1⟩, ⟨%d2, H2⟩, ⟨%d3, H3⟩, ⟨%d4, H4⟩⟩
      iapply (run_fill c (grid0.coords t) (Memref.whole main_arg1) (Memref.isWhole_whole _) (Memref.whole main_arg2) (Memref.isWhole_whole _) (msE_0 m R t) (hsE_0 m R t) (msE_1 m R t) (hsE_1 m R t) (msE_2 m R t) (hsE_2 m R t) (msE_3 m R t) (hsE_3 m R t) (msE_4 m R t) (hsE_4 m R t) (Memref.whole cc0_scratch0) (Memref.isWhole_whole _) (Memref.whole cc0_scratch1) (Memref.isWhole_whole _) (tbl m 0) (tbl m 1) (X0 m R c t) (X1 m R c t) (X2 m R c t) (X3 m R c t) h1 h2 h3 Set.univ _)
      isplitl [HT1]; · iexact HT1
      isplitl [HT2]; · iexact HT2
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      iintro ⟨HT1, HT2, H0, H1, H2, H3, H4, HS0, HS1⟩
      isplitl [HS0 HS1 Hg HT1 HT2]
      · isplitl [HS0 HS1]
        · iexists _; iexists _; isplitr
          swap
          · isplitl [HS0]; · iexact HS0
            iexact HS1
          ipureintro; exact kept_fill m R c t
        isplitl [Hg]; · iexact Hg
        isplitl [HT1]; · iexact HT1
        iexact HT2
      isplitl [Ho]; · iexact Ho
      isplitl [H0]; · iexact H0
      isplitl [H1]; · iexact H1
      isplitl [H2]; · iexact H2
      isplitl [H3]; · iexact H3
      iexact H4
    · iintro ⟨⟨⟨%f0, %f1, %hk, HS0, HS1⟩, Hg, HT1, HT2⟩, Ho, ⟨%d0, H0⟩, ⟨%d1, H1⟩, ⟨%d2, H2⟩, ⟨%d3, H3⟩, ⟨%d4, H4⟩⟩
      obtain ⟨e0, e1⟩ := kept_keep m R c t hu h2 f0 f1 hk
      subst e0; subst e1
      iapply (run_keep c (grid0.coords t) (Memref.whole main_arg1) (Memref.isWhole_whole _) (Memref.whole main_arg2) (Memref.isWhole_whole _) (msE_0 m R t) (hsE_0 m R t) (msE_1 m R t) (hsE_1 m R t) (msE_2 m R t) (hsE_2 m R t) (msE_3 m R t) (hsE_3 m R t) (msE_4 m R t) (hsE_4 m R t) (Memref.whole cc0_scratch0) (Memref.isWhole_whole _) (Memref.whole cc0_scratch1) (Memref.isWhole_whole _) (tbl m 0) (tbl m 1) (X0 m R c t) (WGU m R c t) (WD m R c t) h1 h2 h3 Set.univ _)
      isplitl [HT1]; · iexact HT1
      isplitl [HT2]; · iexact HT2
      isplitl [H0]; · iexact H0
      isplitl [H4]; · iexists _; iexact H4
      isplitl [HS0]; · iexact HS0
      isplitl [HS1]; · iexact HS1
      iintro ⟨HT1, HT2, H0, H4, HS0, HS1⟩
      isplitl [HS0 HS1 Hg HT1 HT2]
      · isplitl [HS0 HS1]
        · iexists _; iexists _; isplitr
          swap
          · isplitl [HS0]; · iexact HS0
            iexact HS1
          ipureintro; exact kept_fill m R c t
        isplitl [Hg]; · iexact Hg
        isplitl [HT1]; · iexact HT1
        iexact HT2
      isplitl [Ho]; · iexact Ho
      isplitl [H0]; · iexact H0
      isplitl [H1]; · iexact H1
      isplitl [H2]; · iexact H2
      isplitl [H3]; · iexact H3
      iexact H4
  · have h1 : ¬ k0_cond1 (grid0.coords t) (nuWord c (Memref.whole main_arg2) (tbl m 1)) = 1#1 := by
      rw [nuWord_eq, cond1_iff _ _ hnu]; omega
    have h3 : k0_cond3 (grid0.coords t) (nuWord c (Memref.whole main_arg2) (tbl m 1)) = 1#1 := by
      rw [nuWord_eq, cond3_iff _ _ hnu]; omega
    have ho : outAt m R c t = k0_pay5 := if_neg hu
    rw [ho]
    iintro ⟨⟨⟨%f0, %f1, %hk, HS0, HS1⟩, Hg, HT1, HT2⟩, Ho, ⟨%d0, H0⟩, ⟨%d1, H1⟩, ⟨%d2, H2⟩, ⟨%d3, H3⟩, ⟨%d4, H4⟩⟩
    iapply (run_idle c (grid0.coords t) (Memref.whole main_arg1) (Memref.isWhole_whole _) (Memref.whole main_arg2) (Memref.isWhole_whole _) (msE_0 m R t) (hsE_0 m R t) (msE_1 m R t) (hsE_1 m R t) (msE_2 m R t) (hsE_2 m R t) (msE_3 m R t) (hsE_3 m R t) (msE_4 m R t) (hsE_4 m R t) (Memref.whole cc0_scratch0) (Memref.isWhole_whole _) (Memref.whole cc0_scratch1) (Memref.isWhole_whole _) (tbl m 1) h1 h3 Set.univ _)
    isplitl [HT2]; · iexact HT2
    isplitl [H4]; · iexists _; iexact H4
    iintro ⟨HT2, H4⟩
    isplitl [HS0 HS1 Hg HT1 HT2]
    · isplitl [HS0 HS1]
      · iexists _; iexists _; isplitr
        swap
        · isplitl [HS0]; · iexact HS0
          iexact HS1
        ipureintro; exact kept_idle m R c t hu _ _
      isplitl [Hg]; · iexact Hg
      isplitl [HT1]; · iexact HT1
      iexact HT2
    isplitl [Ho]; · iexact Ho
    isplitl [H0]; · iexact H0
    isplitl [H1]; · iexact H1
    isplitl [H2]; · iexact H2
    isplitl [H3]; · iexact H3
    iexact H4

/-- The output window is stored at every point, used or not. -/
theorem idle_4 (t : Fin (cfgM m R).N) : (cfgM m R).idle 4 ((cfgM m R).grid.coords t) = false := by
  have hw : (tbl m).atD 1 ![0] = nuOf (tbl m) := by
    unfold nuOf
    show (if h : ∀ a, (![0] : Fin 1 → Nat) a + 1 ≤ S1.size a then tbl m 1 (fun a => ⟨(![0] : Fin 1 → Nat) a, h a⟩) else default) = _
    rw [dif_pos (by decide)]
    refine congrArg (tbl m 1) (funext fun a => Fin.ext ?_)
    match a with
    | ⟨0, _⟩ => rfl
  have hnu := R.nu2
  show (!(k0_cond1 (grid0.coords t) ((tbl m).atD 1 ![0]) == 1#1) && !(k0_cond3 (grid0.coords t) ((tbl m).atD 1 ![0]) == 1#1)) = false
  rw [hw]
  by_cases hu : (grid0.coords t 0).val < (nuOf (tbl m)).toNat
  · rw [(cond1_iff _ _ hnu).mpr hu]; rfl
  · rw [(cond3_iff _ _ hnu).mpr (by omega)]; simp

theorem body_obligation (c : Dev nD) : BodyObligation (dats (F := F) m R 0 c) (defs₀ (F := F)) Variants.none () Set.univ := fun t => by
  rw [bigSep_W0, bigSep_W0, defs₀_row]
  refine triple_restated (sound_body m R c t) rfl .rfl fun _ => ?_
  dsimp only
  have h4 := idle_4 m R t
  split
  · rename_i hx; exact absurd (hx.symm.trans h4) (by decide)
  · exact .rfl

/-! ## The run and the frame -/

theorem hin (c : Dev nD) : iprop(Pipeline.ΦA spec0 c ∗ Pipeline.ΦT pre0 (tbl m) c) ⊢ (dats m R 0 c).Φ 0 := by
  rw [show (dats m R 0 c).Φ 0 = PhiE m R c 0 from rfl, PhiA_eq, PhiT_eq]
  unfold PhiE
  iintro ⟨⟨⟨⟨%f0, HS0⟩, ⟨%f1, HS1⟩⟩, Hg⟩, HT1, HT2⟩
  isplitl [HS0 HS1]
  · iexists f0; iexists f1; isplitr
    swap
    · isplitl [HS0]; · iexact HS0
      iexact HS1
    ipureintro
    intro k hk; exact absurd hk (Nat.succ_ne_zero _)
  isplitl [Hg]; · iexact Hg
  isplitl [HT1]; · iexact HT1
  iexact HT2

theorem hout (c : Dev nD) : (dats m R 0 c).Φ (Fin.last (cfgM m R).N) ⊢ Pipeline.ΦA spec0 c := by
  rw [show (dats m R 0 c).Φ (Fin.last (cfgM m R).N) = PhiE m R c (cfgM m R).N from rfl, PhiA_eq]
  unfold PhiE
  iintro ⟨⟨%f0, %f1, %hk, HS0, HS1⟩, Hg, HT1, HT2⟩
  isplitl [HS0 HS1]
  · isplitl [HS0]
    · iexists f0; iexact HS0
    iexists f1; iexact HS1
  iexact Hg

theorem hmain : Pipeline.HMainP (Ix := Unit) (Name := ℕ) (U := UR sig nD τ) (Lvl := ℕ) pcfgs 0 defs₀ Variants.none m (main (F := F)) (V m) :=
  Pipeline.hmainP_region pcfgs 0 defs₀ Variants.none m main fun c => (main_chain c).trans rfl

theorem hpf (c : Dev nD) (k : Fin pre0.K) : V m c (pre0.ref k) = tbl m k := by
  have : c = (0 : Dev nD) := Subsingleton.elim _ _
  subst this; rfl

include R in
set_option backward.isDefEq.respectTransparency.types false in
/-- THE RUN: every final state holds each array as the blocks written back make it, and every counter at zero. -/
theorem run_main : θ_run defs (onTc (τ := τ) (main (F := F))) (s₀ m ρ)
    (fun r => Pipeline.FramePost (Pipeline.pin pcfgs (fun _ => adm m R)) (dats m R) 0 (V m) r ∧ r.2.sem = fun _ => 0) :=
  Pipeline.θ_run_frameP_track (Q' := _) pcfgs (fun _ => adm m R) (dats m R) (0 : Fin 1) launch0 defs₀ Variants.none m ρ main
    (hbody := fun c => (body_obligation m R c).loose) (hshare := fun c => (dats m R 0 c).share_full fun _ => rfl)
    (howed := fun _ _ => rfl) (V := V m) (hmain := hmain m) (hA := A_eq m R) (hpf := hpf m) (hin := hin m R) (hout := hout m R)

/-- The arguments in a final state of the run are as they were. -/
theorem kept_of_post (c : Dev nD) {r : PUnit × MemSt nD τ sig (Elt F)}
    (h : Pipeline.FramePost (Pipeline.pin pcfgs (fun _ => adm m R)) (dats m R) 0 (V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m R 0 c).arrAt_in 0 rfl _).trans (A_eq m R c 0)),
    (h c).2 main_arg1 (Pipeline.mem_restRefs_of main_arg1 (by decide) (show ∀ w : Fin 5, (spec0 w).arr.view.ref ≠ main_arg1 from by decide)),
    (h c).2 main_arg2 (Pipeline.mem_restRefs_of main_arg2 (by decide) (show ∀ w : Fin 5, (spec0 w).arr.view.ref ≠ main_arg2 from by decide)),
    ((h c).1 1).trans (((dats m R 0 c).arrAt_in 1 rfl _).trans (A_eq m R c 1)),
    ((h c).1 2).trans (((dats m R 0 c).arrAt_in 2 rfl _).trans (A_eq m R c 2)),
    ((h c).1 3).trans (((dats m R 0 c).arrAt_in 3 rfl _).trans (A_eq m R c 3))⟩

include R in
/-- THE FRAME: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => kept_of_post m R c h.1, h.2⟩) (run_main m R ρ)

end Cert.ExpertsIdeal

end
-- ==== Proof.ExpertsSame.lean ====
/- The expert call is printed twice with one text: its frame is proved of one and read at the other. -/
module

public import proofs.«01_k».proof.Proof.ExpertsLaunch
public import proofs.«01_k».proof.Proof.Gen.Experts

@[expose] public section

noncomputable section

namespace Cert.ExpertsSame

open Idealize.ShloMosaic Idealize.ShloMosaic.TcCoe Idealize.SL.Sem

variable {F : FTy → Type} [FloatOps F]

theorem body_eq : @Cert.Experts.cc0_experts F _ Cert.Experts.Gen.facts
    = @Cert.ExpertsIdeal.cc0_experts F _ Cert.ExpertsIdeal.Gen.facts := rfl

theorem pcfg_eq : @Cert.Experts.pcfg0 F _ Cert.Experts.Gen.facts = @Cert.ExpertsIdeal.pcfg0 F _ Cert.ExpertsIdeal.Gen.facts := rfl

theorem defs₀_eq : @Cert.Experts.defs₀ F _ Cert.Experts.Gen.facts = @Cert.ExpertsIdeal.defs₀ F _ Cert.ExpertsIdeal.Gen.facts := by
  unfold Cert.Experts.defs₀ Cert.ExpertsIdeal.defs₀
  refine congrArg Defs.onTc (funext fun l => funext fun x => ?_)
  match l, x with
  | 0, (t, s) => exact congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _

theorem defs_eq : @Cert.Experts.defs F _ Cert.Experts.Gen.facts = @Cert.ExpertsIdeal.defs F _ Cert.ExpertsIdeal.Gen.facts :=
  congrArg (Pipeline.defs (@Cert.ExpertsIdeal.pcfgs F _ Cert.ExpertsIdeal.Gen.facts)) defs₀_eq

/-- The frame at the other printing. -/
theorem frame (m : (ℓ : Loc Cert.Experts.nD Cert.Experts.τ Cert.Experts.sig) → Buf (Elt F) ℓ)
    (R : Cert.ExpertsIdeal.Ranged (Cert.ExpertsIdeal.tbl (F := F) m)) (ρ : Dev Cert.Experts.nD → PrngReg) :
    θ_run Cert.Experts.defs (onTc (τ := Cert.Experts.τ) (Cert.Experts.main (F := F))) ⟨m, fun _ => 0, ρ⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0) := by
  rw [defs_eq]
  exact Cert.ExpertsIdeal.frame m R ρ

end Cert.ExpertsSame

end
-- ==== Proof.ExpertsSpec.lean ====
/- What a used block of the expert call computes, one row at a time, over the extended reals: the row's packed words
   unpacked, their gate and up projections, the gated product and the down projection. -/
module

public import Idealize.ShloMosaic.Lib.Pointwise
public import Idealize.ShloMosaic.PureOps.Ideal

@[expose] public section

noncomputable section

namespace Cert.ExpertsSpec

open Idealize.ShloMosaic

/-- The value a word packs in its low half. -/
def low (w : BitVec 32) : EReal := Ideal.ofBits .bf16 (w.extractLsb' 0 16)

/-- The value a word packs in its high half. -/
def high (w : BitVec 32) : EReal := Ideal.ofBits .bf16 (w.extractLsb' 16 16)

/-- A packed row against a column of 1024: the low halves meet its first 512 rows, the high halves the rest. -/
def contract (x : Fin 512 → BitVec 32) (w : Fin 1024 → EReal) : EReal :=
  ∑ d : Fin 512, low (x d) * w ⟨d.val, by omega⟩ + ∑ d : Fin 512, high (x d) * w ⟨512 + d.val, by omega⟩

/-- A value by its own logistic function. -/
def silu (g : EReal) : EReal :=
  g * Ideal.div (Ideal.ofBits .f32 0x3F800000#32) (Ideal.ofBits .f32 0x3F800000#32 + Ideal.exp (-g))

/-- Column `j` of a packed row's result. -/
def expert (x : Fin 512 → BitVec 32) (wg wu : Fin 1024 → Fin 256 → EReal) (wd : Fin 256 → Fin 1024 → EReal) (j : Fin 1024) : EReal :=
  ∑ f : Fin 256, silu (contract x fun d => wg d f) * contract x (fun d => wu d f) * wd f j

theorem expert_congr {x x' : Fin 512 → BitVec 32} {wg wg' wu wu' : Fin 1024 → Fin 256 → EReal} {wd wd' : Fin 256 → Fin 1024 → EReal}
    {j j' : Fin 1024} (hx : ∀ d, x d = x' d) (hg : ∀ d f, wg d f = wg' d f) (hu : ∀ d f, wu d f = wu' d f)
    (hd : ∀ f j, wd f j = wd' f j) (hj : j = j') : expert x wg wu wd j = expert x' wg' wu' wd' j' := by
  obtain rfl := hj
  rw [show x = x' from funext hx, show wg = wg' from funext fun d => funext (hg d),
    show wu = wu' from funext fun d => funext (hu d), show wd = wd' from funext fun f => funext (hd f)]

/-- A sum over 1024 places in two halves. -/
theorem sum_halves (f : Fin 1024 → EReal) :
    ∑ d : Fin 1024, f d = ∑ d : Fin 512, f ⟨d.val, by omega⟩ + ∑ d : Fin 512, f ⟨512 + d.val, by omega⟩ :=
  Fin.sum_univ_add (a := 512) (b := 512) f

end Cert.ExpertsSpec

end
-- ==== Proof.ExpertsBlock.lean ====
/- What the expert call's payloads hold, element by element, over the extended reals. -/
module

public import proofs.«01_k».proof.Proof.ExpertsRun
public import proofs.«01_k».proof.Proof.ExpertsSpec
public import Idealize.ShloMosaic.Lib.Pointwise

@[expose] public section

noncomputable section

namespace Cert.ExpertsIdeal.Block

open Cert.ExpertsIdeal Cert.ExpertsIdeal.Gen Cert.ExpertsSpec Idealize.ShloMosaic

set_option maxRecDepth 16384
set_option maxHeartbeats 4000000

theorem gate_apply (x : Vec Ideal S1x1024x256 .f32) (d : Fin 1024) (f : Fin 256) : k0_pay1 x (ix2 d f) = x (ix3 0 d f) := by
  unfold k0_pay1
  pointwise

theorem up_apply (x : Vec Ideal S1x1024x256 .f32) (d : Fin 1024) (f : Fin 256) : k0_pay2 x (ix2 d f) = x (ix3 0 d f) := by
  unfold k0_pay2
  pointwise

theorem down_apply (x : Vec Ideal S1x256x1024 .f32) (f : Fin 256) (j : Fin 1024) : k0_pay3 x (ix2 f j) = x (ix3 0 f j) := by
  unfold k0_pay3
  pointwise

theorem out_apply (x : Vec Ideal S512x512 .i32) (lo hi : Vec Ideal S512x512 .bf16) (wd : Vec Ideal S256x1024 .bf16)
    (r : Fin 512) (j : Fin 1024) :
    k0_pay4 x lo hi wd (ix2 r j) = ∑ f : Fin 256,
      silu (∑ d : Fin 512, low (x (ix2 r d)) * lo (ix2 d ⟨f.val, by omega⟩) + ∑ d : Fin 512, high (x (ix2 r d)) * hi (ix2 d ⟨f.val, by omega⟩))
        * (∑ d : Fin 512, low (x (ix2 r d)) * lo (ix2 d ⟨256 + f.val, by omega⟩) + ∑ d : Fin 512, high (x (ix2 r d)) * hi (ix2 d ⟨256 + f.val, by omega⟩))
        * wd (ix2 f j) := by
  unfold k0_pay4
  pointwise [silu, low, high, unpackElementwise]
  simp only [zero_sub]

theorem idle_apply (i : S512x1024.Idx) : k0_pay5 (F := Ideal) i = 0 := by
  unfold k0_pay5
  pointwise

/-! The gate-and-up scratch, its rows in two halves, by the blocks it was filled from. -/

theorem lo_gate (x1 x2 : Vec Ideal S1x1024x256 .f32) (d : Fin 512) (f : Fin 256) :
    rowsLo (gateUp x1 x2) (ix2 d ⟨f.val, by omega⟩) = x1 (ix3 0 ⟨d.val, by omega⟩ f) := by
  rw [← gate_apply x1]
  unfold rowsLo gateUp
  refine (dif_pos (show 0 + 1 * f.val < 256 by omega)).trans (congrArg (k0_pay1 x1) (funext fun a => Fin.ext ?_))
  match a with
  | ⟨0, _⟩ => show 0 + 1 * d.val = d.val; omega
  | ⟨1, _⟩ => show 0 + 1 * f.val = f.val; omega

theorem lo_up (x1 x2 : Vec Ideal S1x1024x256 .f32) (d : Fin 512) (f : Fin 256) :
    rowsLo (gateUp x1 x2) (ix2 d ⟨256 + f.val, by omega⟩) = x2 (ix3 0 ⟨d.val, by omega⟩ f) := by
  rw [← up_apply x2]
  unfold rowsLo gateUp
  refine (dif_neg (show ¬ 0 + 1 * (256 + f.val) < 256 by omega)).trans (congrArg (k0_pay2 x2) (funext fun a => Fin.ext ?_))
  match a with
  | ⟨0, _⟩ => show 0 + 1 * d.val = d.val; omega
  | ⟨1, _⟩ => show 0 + 1 * (256 + f.val) - 256 = f.val; omega

theorem hi_gate (x1 x2 : Vec Ideal S1x1024x256 .f32) (d : Fin 512) (f : Fin 256) :
    rowsHi (gateUp x1 x2) (ix2 d ⟨f.val, by omega⟩) = x1 (ix3 0 ⟨512 + d.val, by omega⟩ f) := by
  rw [← gate_apply x1]
  unfold rowsHi gateUp
  refine (dif_pos (show 0 + 1 * f.val < 256 by omega)).trans (congrArg (k0_pay1 x1) (funext fun a => Fin.ext ?_))
  match a with
  | ⟨0, _⟩ => show 512 + 1 * d.val = 512 + d.val; omega
  | ⟨1, _⟩ => show 0 + 1 * f.val = f.val; omega

theorem hi_up (x1 x2 : Vec Ideal S1x1024x256 .f32) (d : Fin 512) (f : Fin 256) :
    rowsHi (gateUp x1 x2) (ix2 d ⟨256 + f.val, by omega⟩) = x2 (ix3 0 ⟨512 + d.val, by omega⟩ f) := by
  rw [← up_apply x2]
  unfold rowsHi gateUp
  refine (dif_neg (show ¬ 0 + 1 * (256 + f.val) < 256 by omega)).trans (congrArg (k0_pay2 x2) (funext fun a => Fin.ext ?_))
  match a with
  | ⟨0, _⟩ => show 512 + 1 * d.val = 512 + d.val; omega
  | ⟨1, _⟩ => show 0 + 1 * (256 + f.val) - 256 = f.val; omega

/-- A used block, of the words and the expert's three matrices. -/
theorem outOf_apply (x0 : Vec Ideal S512x512 .i32) (x1 x2 : Vec Ideal S1x1024x256 .f32) (x3 : Vec Ideal S1x256x1024 .f32)
    (r : Fin 512) (j : Fin 1024) :
    outOf x0 (gateUp x1 x2) (k0_pay3 x3) (ix2 r j)
      = expert (fun d => x0 (ix2 r d)) (fun d f => x1 (ix3 0 d f)) (fun d f => x2 (ix3 0 d f)) (fun f j => x3 (ix3 0 f j)) j := by
  unfold outOf
  rw [out_apply]
  refine Finset.sum_congr rfl fun f _ => ?_
  simp only [lo_gate, lo_up, hi_gate, hi_up, down_apply]
  rfl

end Cert.ExpertsIdeal.Block

end
-- ==== Proof.ExpertsArray.lean ====
/- What the expert call's result array holds after the kernel's run, over the extended reals: a used block's rows are
   their expert's, read where the block sits, every other block is zero, and the blocks fill the array. -/
module

public import proofs.«01_k».proof.Proof.ExpertsLaunch
public import proofs.«01_k».proof.Proof.ExpertsBlock
public import Idealize.ShloMosaic.Lib.Pipeline.Value

@[expose] public section

noncomputable section

namespace Cert.ExpertsIdeal.Whole

open Cert.ExpertsIdeal Cert.ExpertsIdeal.Gen Cert.ExpertsSpec Idealize.ShloMosaic Idealize.ShloMosaic.TcCoe Idealize.SL.Sem
open Cert.ExpertsIdeal.Block
open Idealize.ShloMosaic.Pipeline (Dat)

set_option maxRecDepth 16384

variable (m : (ℓ : Loc nD τ sig) → Buf (Elt Ideal) ℓ) (ρ : Dev nD → PrngReg) (R : Ranged (tbl m))

/-- Device `c`'s six arguments. -/
abbrev a0 (c : Dev nD) : Vec Ideal S655360x512 .i32 := m ((c : Thread nD τ).loc main_arg0)
abbrev a1 (c : Dev nD) : Vec Ideal S1280 .i32 := m ((c : Thread nD τ).loc main_arg1)
abbrev a2 (c : Dev nD) : Vec Ideal S1 .i32 := m ((c : Thread nD τ).loc main_arg2)
abbrev a3 (c : Dev nD) : Vec Ideal S256x1024x256 .f32 := m ((c : Thread nD τ).loc main_arg3)
abbrev a4 (c : Dev nD) : Vec Ideal S256x1024x256 .f32 := m ((c : Thread nD τ).loc main_arg4)
abbrev a5 (c : Dev nD) : Vec Ideal S256x256x1024 .f32 := m ((c : Thread nD τ).loc main_arg5)

/-- The expert of block `n`. -/
abbrev expertOf (n : Fin 1280) : Fin 256 := ⟨(beOf (tbl m) n).toNat, R.be n⟩

/-- Column `j` of row `r` of block `n`. -/
def entry (c : Dev nD) (n : Fin 1280) (r : Fin 512) (j : Fin 1024) : EReal :=
  if n.val < (nuOf (tbl m)).toNat then
    expert (fun d => a0 m c (ix2 ⟨n.val * 512 + r.val, by omega⟩ d)) (fun d f => a3 m c (ix3 (expertOf m R n) d f))
      (fun d f => a4 m c (ix3 (expertOf m R n) d f)) (fun f j => a5 m c (ix3 (expertOf m R n) f j)) j
  else 0

/-- The result array, whole. -/
def array (c : Dev nD) : Vec Ideal S655360x1024 .bf16 := fun i =>
  entry m R c ⟨(i 0).val / 512, by have h : (i 0).val < 655360 := (i 0).isLt; omega⟩ ⟨(i 0).val % 512, by omega⟩ ⟨(i 1).val, (i 1).isLt⟩

theorem array_apply (c : Dev nD) (i : S655360x1024.Idx) (n : Fin 1280) (r : Fin 512) (j : Fin 1024)
    (h0 : (i 0).val = n.val * 512 + r.val) (h1 : (i 1).val = j.val) : array m R c i = entry m R c n r j := by
  have hi : (i 0).val < 655360 := (i 0).isLt
  have e0 : (⟨(i 0).val / 512, by omega⟩ : Fin 1280) = n := Fin.ext (by dsimp only; omega)
  have e1 : (⟨(i 0).val % 512, by omega⟩ : Fin 512) = r := Fin.ext (by dsimp only; omega)
  have e2 : (⟨(i 1).val, (i 1).isLt⟩ : Fin 1024) = j := Fin.ext h1
  exact congrArg₂ (fun (p : Fin 1280 × Fin 512) q => entry m R c p.1 p.2 q) (congrArg₂ Prod.mk e0 e1) e2

theorem lt_N (t : Fin (cfgM m R).N) : t.val < 1280 := by
  have h : t.val < grid0.N := t.isLt
  rwa [N_0] at h

/-- Point `t`'s block. -/
abbrev blkOf (t : Fin (cfgM m R).N) : Fin 1280 := ⟨t.val, lt_N m R t⟩

theorem coords_blk (t : Fin (cfgM m R).N) : (grid0.coords t 0 : Fin 1280) = blkOf m R t := Fin.ext (coords_eq m R t)

theorem out_pt (c : Dev nD) (t : Fin (cfgM m R).N) (r : Fin 512) (j : Fin 1024) :
    outAt m R c t (ix2 r j) = entry m R c (blkOf m R t) r j := by
  have he : expertAt m R t = expertOf m R (blkOf m R t) := Fin.ext (by rw [← coords_blk])
  unfold outAt entry
  by_cases hu : t.val < (nuOf (tbl m)).toNat
  · rw [if_pos hu, if_pos hu]
    unfold WGU WD
    rw [outOf_apply]
    refine expert_congr (fun d => ?_) (fun d f => ?_) (fun d f => ?_) (fun f j => ?_) rfl
    · refine (X0_apply m R c t hu (ix2 r d) ⟨t.val * 512 + r.val, by have := lt_N m R t; omega⟩ rfl).trans (congrArg (a0 m c) (funext fun a => ?_))
      match a with
      | ⟨0, _⟩ => rfl
      | ⟨1, _⟩ => rfl
    · refine (X1_apply m R c t (ix3 0 d f)).trans (congrArg (a3 m c) (funext fun a => ?_))
      match a with
      | ⟨0, _⟩ => exact he
      | ⟨1, _⟩ => rfl
      | ⟨2, _⟩ => rfl
    · refine (X2_apply m R c t (ix3 0 d f)).trans (congrArg (a4 m c) (funext fun a => ?_))
      match a with
      | ⟨0, _⟩ => exact he
      | ⟨1, _⟩ => rfl
      | ⟨2, _⟩ => rfl
    · refine (X3_apply m R c t (ix3 0 f j)).trans (congrArg (a5 m c) (funext fun a => ?_))
      match a with
      | ⟨0, _⟩ => exact he
      | ⟨1, _⟩ => rfl
      | ⟨2, _⟩ => rfl
  · rw [if_neg hu, if_neg hu]
    exact idle_apply _

/-! The result's blocks: one to a point, each point the next 512 rows, written back at once. -/

theorem index_0 (t : Fin (cfgM m R).N) : cc0_transform_4 (grid0.coords t) 0 = t.val :=
  (coord_toNat (grid0.coords t)).trans (coords_eq m R t)

theorem flush_pt (t : Fin (cfgM m R).N) : ((cfgM m R).win 4).flush t = true := by
  unfold Pipeline.Window.flush
  rw [Bool.and_eq_true]
  refine ⟨rfl, ?_⟩
  rw [Bool.or_eq_true]
  by_cases h : t.val + 1 < (cfgM m R).N
  · refine Or.inr (decide_eq_true ⟨h, fun e => ?_⟩)
    have e0 : cc0_transform_4 (grid0.coords ⟨t.val + 1, h⟩) 0 = cc0_transform_4 (grid0.coords t) 0 := congrFun e (0 : Fin 2)
    have e1 := index_0 m R ⟨t.val + 1, h⟩
    rw [e0, index_0] at e1
    dsimp only at e1
    omega
  · have := t.isLt
    exact Or.inl (decide_eq_true (show t.val + 1 = (cfgM m R).N by omega))

/-- Where place `(r, j)` of point `t`'s block is in the array. -/
theorem emb_pt (t : Fin (cfgM m R).N) (r : Fin 512) (j : Fin 1024) (i : S655360x1024.Idx)
    (h0 : (i 0).val = t.val * 512 + r.val) (h1 : (i 1).val = j.val) :
    (((cfgM m R).win 4).blk t).view.emb (ix2 r j : S512x1024.Idx) = i := by
  refine funext fun (a : Fin 2) => Fin.ext ?_
  match a with
  | ⟨0, _⟩ =>
    show cc0_transform_4 (grid0.coords t) 0 * 512 + 1 * r.val = (i 0).val
    rw [index_0]; omega
  | ⟨1, _⟩ =>
    show 0 * 1024 + 1 * j.val = (i 1).val
    omega

theorem flushed_pt (c : Dev nD) (t : Fin (cfgM m R).N) :
    (dats m R 0 c).flushed 4 t = (((cfgM m R).win 4).blk t).view.read (Elt Ideal) (array m R c) := by
  have e : (dats m R 0 c).flushed 4 t = outAt m R c t := by
    show ((cfgM m R).win 4).cut (grid0.coords t) ((dats m R 0 c).after 4 t) = _
    rw [after_4]
    rfl
  rw [e]
  funext y
  obtain ⟨r, j, rfl⟩ : ∃ (r : Fin 512) (j : Fin 1024), y = (ix2 r j : S512x1024.Idx) := ⟨y 0, y 1, eq_ix2 y⟩
  refine (out_pt m R c t r j).trans ?_
  have ht := lt_N m R t
  refine (array_apply m R c (ix2 ⟨t.val * 512 + r.val, by omega⟩ j) (blkOf m R t) r j rfl rfl).symm.trans ?_
  exact congrArg (array m R c) (emb_pt m R t r j (ix2 ⟨t.val * 512 + r.val, by omega⟩ j) rfl rfl).symm

theorem mem_blk (t : Fin (cfgM m R).N) (r : Fin 512) (j : Fin 1024) (i : S655360x1024.Idx)
    (h0 : (i 0).val = t.val * 512 + r.val) (h1 : (i 1).val = j.val) : i ∈ (((cfgM m R).win 4).blk t).view.set := by
  have h := View.emb_mem_set (((cfgM m R).win 4).blk t).view (ix2 r j : S512x1024.Idx)
  have e := emb_pt m R t r j i h0 h1
  rwa [e] at h

theorem cover (i : S655360x1024.Idx) : ∃ t : Fin (cfgM m R).N, ((cfgM m R).win 4).flush t = true ∧ i ∈ (((cfgM m R).win 4).blk t).view.set := by
  have h0 : (i 0).val < 655360 := (i 0).isLt
  have hN : (cfgM m R).N = 1280 := N_0
  refine ⟨⟨(i 0).val / 512, by omega⟩, flush_pt m R _, ?_⟩
  exact mem_blk m R _ ⟨(i 0).val % 512, by omega⟩ ⟨(i 1).val, (i 1).isLt⟩ i (by dsimp only; omega) rfl

include R in
/-- The run, the result array read whole. -/
theorem run : θ_run defs (onTc (τ := τ) (main (F := Ideal))) ⟨m, fun _ => 0, ρ⟩ fun r => ∀ c : Dev nD,
      r.2.mem ((c.tc : Thread nD τ).loc main_v0) = array m R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h.1 c).1 4).trans ((dats m R 0 c).arrAt_eq_of_cover 4 (array m R c) (fun t _ => flushed_pt m R c t) (cover m R)),
        kept_of_post m R c h.1⟩)
    (run_main m R ρ)

end Cert.ExpertsIdeal.Whole

end
-- ==== Proof.ExpertsRef.lean ====
/- The reference's array of the expert call, element by element, over the extended reals, where the block table names
   experts and the count of used blocks is at most the number of blocks. -/
module

public import proofs.«01_k».proof.Proof.Gen.ExpertsReferenceIdeal.Run
public import proofs.«01_k».proof.Proof.ExpertsSpec
public import Idealize.ShloMosaic.Lib.Pointwise
public import Idealize.ShloMosaic.Lib.BitcastConvert
public import Idealize.ShloMosaic.Lib.StableHlo.Predicate

@[expose] public section

noncomputable section

namespace Cert.ExpertsReferenceIdeal.Whole

open Cert.ExpertsReferenceIdeal Cert.ExpertsReferenceIdeal.Gen Cert.ExpertsReferenceIdeal.Value Cert.ExpertsSpec
open Idealize.ShloMosaic Idealize.ShloMosaic.TcCoe Idealize.ShloMosaic.StableHlo

set_option maxRecDepth 16384
set_option maxHeartbeats 4000000

/-- The rows unpacked: low halves, then high halves. -/
abbrev unpacked (x0 : Vec Ideal S655360x512 .i32) : FVec Ideal S655360x1024 .bf16 :=
  concatenate S655360x1024 1 [⟨S655360x512, (shapeCast _ (extractStridedSlice S655360x512x1 ![0, 0, 0] (bitcastToFloat (F := Ideal) .bf16 (Host.bitcastConvertNarrow S655360x512x2 16 x0 splits_S655360x512_w32_S655360x512x2_w16)) slices_S655360x512x2_S655360x512x1_0_0_0) shapeCasts_S655360x512x1_S655360x512)⟩, ⟨S655360x512, (shapeCast _ (extractStridedSlice S655360x512x1 ![0, 0, 1] (bitcastToFloat (F := Ideal) .bf16 (Host.bitcastConvertNarrow S655360x512x2 16 x0 splits_S655360x512_w32_S655360x512x2_w16)) slices_S655360x512x2_S655360x512x1_0_0_1) shapeCasts_S655360x512x1_S655360x512)⟩] concatenates_S655360x512_S655360x512_S655360x1024_d1

/-- The same in blocks of 512 rows. -/
abbrev blocks (x0 : Vec Ideal S655360x512 .i32) : FVec Ideal S1280x512x1024 .f32 :=
  shapeCast _ (extf .f32 (unpacked x0) bitsLt_bf16_f32) shapeCasts_S655360x1024_S1280x512x1024

theorem blocks_low (x0 : Vec Ideal S655360x512 .i32) (n : Fin 1280) (r d : Fin 512) :
    blocks x0 (ix3 n r ⟨d.val, by omega⟩) = low (x0 (ix2 ⟨n.val * 512 + r.val, by omega⟩ d)) := by
  unfold blocks unpacked
  pointwise [low]
  refine congrArg (fun i => Ideal.ofBits .bf16 (BitVec.extractLsb' 0 16 (x0 i))) (funext fun a => ?_)
  match a with
  | ⟨0, _⟩ => rfl
  | ⟨1, _⟩ => rfl

theorem blocks_high (x0 : Vec Ideal S655360x512 .i32) (n : Fin 1280) (r d : Fin 512) :
    blocks x0 (ix3 n r ⟨512 + d.val, by omega⟩) = high (x0 (ix2 ⟨n.val * 512 + r.val, by omega⟩ d)) := by
  unfold blocks unpacked
  pointwise [high]
  refine congrArg (fun i => Ideal.ofBits .bf16 (BitVec.extractLsb' 16 16 (x0 i))) (funext fun a => ?_)
  match a with
  | ⟨0, _⟩ => rfl
  | ⟨1, _⟩ => rfl

/-- A block's rows against its own expert's matrix. -/
abbrev projected (x : FVec Ideal S1280x512x1024 .f32) (w : FVec Ideal S1280x1024x256 .f32) : FVec Ideal S1280x512x256 .f32 :=
  Host.dotGeneral dot_S1280x512x1024_S1280x1024x256_S1280x512x256_2_1_1_2_0_0 none x w

theorem projected_apply (x0 : Vec Ideal S655360x512 .i32) (w : FVec Ideal S1280x1024x256 .f32) (n : Fin 1280) (r : Fin 512) (f : Fin 256) :
    projected (blocks x0) w (ix3 n r f) = contract (fun d => x0 (ix2 ⟨n.val * 512 + r.val, by omega⟩ d)) (fun d => w (ix3 n d f)) := by
  have e : projected (blocks x0) w (ix3 n r f) = ∑ d : Fin 1024, blocks x0 (ix3 n r d) * w (ix3 n d f) := by
    generalize blocks x0 = x
    unfold projected
    pointwise
  rw [e, sum_halves]
  simp only [blocks_low, blocks_high]
  rfl

/-- The logistic gate. -/
abbrev gated (g u : FVec Ideal S1280x512x256 .f32) : FVec Ideal S1280x512x256 .f32 :=
  mulf (mulf g (Host.divf (broadcastInDim S1280x512x256 ![] bcast_S_S1280x512x256 (constant S_ .f32 0x3F800000#32)) (addf (broadcastInDim S1280x512x256 ![] bcast_S_S1280x512x256 (constant S_ .f32 0x3F800000#32)) (Host.exp (Host.negf g))))) u

theorem gated_apply (g u : FVec Ideal S1280x512x256 .f32) (n : Fin 1280) (r : Fin 512) (f : Fin 256) :
    gated g u (ix3 n r f) = silu (g (ix3 n r f)) * u (ix3 n r f) := by
  unfold gated
  pointwise [silu]

/-- The gated rows against the down projection. -/
abbrev down (h : FVec Ideal S1280x512x256 .f32) (w : FVec Ideal S1280x256x1024 .f32) : FVec Ideal S1280x512x1024 .f32 :=
  Host.dotGeneral dot_S1280x512x256_S1280x256x1024_S1280x512x1024_2_1_1_2_0_0 none h w

theorem down_apply (h : FVec Ideal S1280x512x256 .f32) (w : FVec Ideal S1280x256x1024 .f32) (n : Fin 1280) (r : Fin 512) (j : Fin 1024) :
    down h w (ix3 n r j) = ∑ f : Fin 256, h (ix3 n r f) * w (ix3 n f j) := by
  unfold down
  pointwise

/-- The block table as the gathers read it: a negative entry counts from the end. -/
abbrev picked (x1 : Vec Ideal S1280 .i32) : IVec S1280x1 32 :=
  broadcastInDim S1280x1 ![0] bcast_S1280_S1280x1_0 (select (cmpi .slt x1 (broadcastInDim S1280 ![] bcast_S_S1280 (constantI S_ 32 0#32))) (addi x1 (broadcastInDim S1280 ![] bcast_S_S1280 (constantI S_ 32 256#32))) x1)

/-- A word below 256 is no negative number. -/
theorem not_neg (w : BitVec 32) (h : w.toNat < 256) : IntOp.cmpi .slt w 0#32 = 0#1 := by
  have : ¬ w.toInt < 0 := by
    rw [Predicate.toInt_eq_toNat_of_lt (by omega)]
    omega
  simp [IntOp.cmpi, BitVec.slt, this]

theorem picked_apply (x1 : Vec Ideal S1280 .i32) (n : Fin 1280) (h : (x1 (ix1 n)).toNat < 256) : picked x1 (ix2 n 0) = x1 (ix1 n) := by
  unfold picked
  pointwise
  have e : IntOp.cmpi .slt (x1 (ix1 n)) 0#32 = 0#1 := not_neg _ h
  rw [e]
  rfl

/-! A gathered matrix is the expert's that the table's entry names. -/

theorem up_expert (x : Vec Ideal S256x1024x256 .f32) (idx : IVec S1280x1 32) (n : Fin 1280) (e : Fin 256)
    (h : (idx (ix2 n 0)).toNat = e.val) (d : Fin 1024) (f : Fin 256) :
    Host.gather gather_S256x1024x256_S1280x1_S1280x1024x256_12_0_n_n_0_1_11024256 x idx (ix3 n d f) = x (ix3 e d f) := by
  unfold Host.gather
  refine congrArg x (funext fun a => Fin.ext ?_)
  match a with
  | ⟨0, _⟩ =>
    show gather_S256x1024x256_S1280x1_S1280x1024x256_12_0_n_n_0_1_11024256.start (ix3 n d f) idx 0 + gather_S256x1024x256_S1280x1_S1280x1024x256_12_0_n_n_0_1_11024256.batchCoord (ix3 n d f) 0 + gather_S256x1024x256_S1280x1_S1280x1024x256_12_0_n_n_0_1_11024256.offCoord (ix3 n d f) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S256x1024x256_S1280x1_S1280x1024x256_12_0_n_n_0_1_11024256.startIndexMap from List.mem_singleton.mpr rfl)]
    have hsi : gather_S256x1024x256_S1280x1_S1280x1024x256_12_0_n_n_0_1_11024256.siIdx (ix3 n d f) ⟨List.idxOf (0 : Fin 3) gather_S256x1024x256_S1280x1_S1280x1024x256_12_0_n_n_0_1_11024256.startIndexMap,
        List.idxOf_lt_length_iff.2 (List.mem_singleton.mpr rfl)⟩ = ix2 n 0 := by
      funext b
      refine Fin.ext ?_
      match b with
      | ⟨0, _⟩ => rfl
      | ⟨1, _⟩ => rfl
    rw [hsi]
    show min (idx (ix2 n 0)).toInt.toNat (256 - 1) = e.val
    rw [Predicate.toInt_eq_toNat_of_lt (by omega), Int.toNat_natCast]
    omega
  | ⟨1, _⟩ => exact Nat.zero_add _
  | ⟨2, _⟩ => exact Nat.zero_add _

theorem down_expert (x : Vec Ideal S256x256x1024 .f32) (idx : IVec S1280x1 32) (n : Fin 1280) (e : Fin 256)
    (h : (idx (ix2 n 0)).toNat = e.val) (d : Fin 256) (f : Fin 1024) :
    Host.gather gather_S256x256x1024_S1280x1_S1280x256x1024_12_0_n_n_0_1_12561024 x idx (ix3 n d f) = x (ix3 e d f) := by
  unfold Host.gather
  refine congrArg x (funext fun a => Fin.ext ?_)
  match a with
  | ⟨0, _⟩ =>
    show gather_S256x256x1024_S1280x1_S1280x256x1024_12_0_n_n_0_1_12561024.start (ix3 n d f) idx 0 + gather_S256x256x1024_S1280x1_S1280x256x1024_12_0_n_n_0_1_12561024.batchCoord (ix3 n d f) 0 + gather_S256x256x1024_S1280x1_S1280x256x1024_12_0_n_n_0_1_12561024.offCoord (ix3 n d f) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S256x256x1024_S1280x1_S1280x256x1024_12_0_n_n_0_1_12561024.startIndexMap from List.mem_singleton.mpr rfl)]
    have hsi : gather_S256x256x1024_S1280x1_S1280x256x1024_12_0_n_n_0_1_12561024.siIdx (ix3 n d f) ⟨List.idxOf (0 : Fin 3) gather_S256x256x1024_S1280x1_S1280x256x1024_12_0_n_n_0_1_12561024.startIndexMap,
        List.idxOf_lt_length_iff.2 (List.mem_singleton.mpr rfl)⟩ = ix2 n 0 := by
      funext b
      refine Fin.ext ?_
      match b with
      | ⟨0, _⟩ => rfl
      | ⟨1, _⟩ => rfl
    rw [hsi]
    show min (idx (ix2 n 0)).toInt.toNat (256 - 1) = e.val
    rw [Predicate.toInt_eq_toNat_of_lt (by omega), Int.toNat_natCast]
    omega
  | ⟨1, _⟩ => exact Nat.zero_add _
  | ⟨2, _⟩ => exact Nat.zero_add _

/-- Whether each block is used. -/
abbrev used (x2 : Vec Ideal S1 .i32) : IVec S1280x512x1024 1 :=
  broadcastInDim S1280x512x1024 ![0, 1, 2] bcast_S1280x1x1_S1280x512x1024_0_1_2 (broadcastInDim S1280x1x1 ![0] bcast_S1280_S1280x1x1_0 (cmpi .slt (iotaInDim S1280 32 0) (broadcastInDim S1280 ![] bcast_S_S1280 (shapeCast _ x2 shapeCasts_S1_S_))))

/-- A block's number against a count, as words. -/
theorem slt_count (n : Fin 1280) (w : BitVec 32) (h : w.toNat ≤ 1280) :
    IntOp.cmpi .slt (BitVec.ofNat 32 n.val) w = if n.val < w.toNat then 1#1 else 0#1 := by
  have e1 : (BitVec.ofNat 32 n.val).toInt = (n.val : Int) := by
    rw [Predicate.toInt_eq_toNat_of_lt (by rw [BitVec.toNat_ofNat]; omega), BitVec.toNat_ofNat, Nat.mod_eq_of_lt (by omega)]
  have e2 : w.toInt = (w.toNat : Int) := Predicate.toInt_eq_toNat_of_lt (by omega)
  by_cases hn : n.val < w.toNat
  · rw [if_pos hn]
    simp [IntOp.cmpi, BitVec.slt, e1, e2, hn]
  · rw [if_neg hn]
    simp [IntOp.cmpi, BitVec.slt, e1, e2, hn]

theorem used_apply (x2 : Vec Ideal S1 .i32) (n : Fin 1280) (r : Fin 512) (j : Fin 1024) (h : (x2 (ix1 0)).toNat ≤ 1280) :
    used x2 (ix3 n r j) = if n.val < (x2 (ix1 0)).toNat then 1#1 else 0#1 := by
  unfold used
  pointwise
  exact slt_count n _ h

/-- The call's array of its six arguments. -/
abbrev whole (x0 : Vec Ideal S655360x512 .i32) (x1 : Vec Ideal S1280 .i32) (x2 : Vec Ideal S1 .i32) (x3 x4 : Vec Ideal S256x1024x256 .f32)
    (x5 : Vec Ideal S256x256x1024 .f32) : FVec Ideal S1280x512x1024 .f32 :=
  select (used x2) (down (gated
      (projected (blocks x0) (Host.gather gather_S256x1024x256_S1280x1_S1280x1024x256_12_0_n_n_0_1_11024256 x3 (picked x1)))
      (projected (blocks x0) (Host.gather gather_S256x1024x256_S1280x1_S1280x1024x256_12_0_n_n_0_1_11024256 x4 (picked x1))))
    (Host.gather gather_S256x256x1024_S1280x1_S1280x256x1024_12_0_n_n_0_1_12561024 x5 (picked x1)))
    (broadcastInDim S1280x512x1024 ![] bcast_S_S1280x512x1024 (id (constant S_ .f32 0x00000000#32)))

theorem whole_apply (x0 : Vec Ideal S655360x512 .i32) (x1 : Vec Ideal S1280 .i32) (x2 : Vec Ideal S1 .i32)
    (x3 x4 : Vec Ideal S256x1024x256 .f32) (x5 : Vec Ideal S256x256x1024 .f32) (n : Fin 1280) (r : Fin 512) (j : Fin 1024)
    (e : Fin 256) (he : (x1 (ix1 n)).toNat = e.val) (h : (x2 (ix1 0)).toNat ≤ 1280) :
    whole x0 x1 x2 x3 x4 x5 (ix3 n r j) = if n.val < (x2 (ix1 0)).toNat then
      expert (fun d => x0 (ix2 ⟨n.val * 512 + r.val, by omega⟩ d)) (fun d f => x3 (ix3 e d f)) (fun d f => x4 (ix3 e d f))
        (fun f j => x5 (ix3 e f j)) j else 0 := by
  have hp : (picked x1 (ix2 n 0)).toNat = e.val := by
    rw [picked_apply x1 n (by omega)]
    exact he
  show Scalar.select (used x2 (ix3 n r j)) (down _ _ (ix3 n r j)) (Ideal.ofBits .f32 0x00000000#32) = _
  rw [used_apply x2 n r j h]
  by_cases hn : n.val < (x2 (ix1 0)).toNat
  · rw [if_pos hn, if_pos hn]
    refine Eq.trans (rfl : _ = down _ _ (ix3 n r j)) ?_
    rw [down_apply]
    refine Finset.sum_congr rfl fun f _ => ?_
    rw [gated_apply, projected_apply, projected_apply, down_expert x5 _ n e hp]
    simp only [up_expert _ _ n e hp]
  · rw [if_neg hn, if_neg hn]
    refine Eq.trans (rfl : _ = Ideal.ofBits .f32 0x00000000#32) ?_
    pointwise

theorem res_apply (m : (ℓ : Loc nD τ sig) → Buf (Elt Ideal) ℓ) (c : Dev nD)
    (x0 : Vec Ideal S655360x512 .i32) (x1 : Vec Ideal S1280 .i32) (x2 : Vec Ideal S1 .i32)
    (x3 x4 : Vec Ideal S256x1024x256 .f32) (x5 : Vec Ideal S256x256x1024 .f32)
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) (h5 : m ((c.tc : Thread nD τ).loc main_arg5) = x5)
    (n : Fin 1280) (r : Fin 512) (j : Fin 1024) (e : Fin 256) (he : (x1 (ix1 n)).toNat = e.val) (h : (x2 (ix1 0)).toNat ≤ 1280) :
    res_out0 m c (ix2 ⟨n.val * 512 + r.val, by omega⟩ j) = if n.val < (x2 (ix1 0)).toNat then
      expert (fun d => x0 (ix2 ⟨n.val * 512 + r.val, by omega⟩ d)) (fun d f => x3 (ix3 e d f)) (fun d f => x4 (ix3 e d f))
        (fun f j => x5 (ix3 e f j)) j else 0 := by
  rw [← whole_apply x0 x1 x2 x3 x4 x5 n r j e he h, ← h0, ← h1, ← h2, ← h3, ← h4, ← h5]
  unfold res_out0 res_main_v47
  show (truncf .bf16 (shapeCast S655360x1024 (whole _ _ _ _ _ _) shapeCasts_S1280x512x1024_S655360x1024) bitsLt_bf16_f32 : FVec Ideal S655360x1024 .bf16) _ = _
  generalize whole _ _ _ _ _ _ = q
  pointwise

end Cert.ExpertsReferenceIdeal.Whole

end
-- ==== Proof.MixSpec.lean ====
/- What the in-projection call computes, one token's row at a time, over the extended reals: the modulated root-mean-square
   norm of the row, its projection, and of the last 1024 projected columns the gated half, mixed along the chunk. -/
module

public import Idealize.ShloMosaic.Lib.Pointwise
public import Idealize.ShloMosaic.PureOps.Ideal

@[expose] public section

noncomputable section

namespace Cert.MixSpec

open Idealize.ShloMosaic

/-- The norm's small constant, one millionth as the nearest f32. -/
abbrev eps : EReal := Ideal.ofBits .f32 0x358637BD#32

/-- Element `d` of a row of 1024, normed, scaled and shifted. -/
def row (x g scale shift : Fin 1024 → EReal) (d : Fin 1024) : EReal :=
  x d * Ideal.rsqrt (Ideal.div (∑ e : Fin 1024, x e * x e) (Ideal.ofBits .f32 0x44800000#32) + eps) * g d
    * (Ideal.ofBits .f32 0x3F800000#32 + scale d) + shift d

/-- Column `j` of the projection of a row. -/
def proj (n : Fin 1024 → EReal) (w : Fin 1024 → Fin 2560 → EReal) (j : Fin 2560) : EReal := ∑ e : Fin 1024, n e * w e j

/-- The smooth gate in its hyperbolic-tangent form. -/
def gelu (x : EReal) : EReal :=
  Ideal.ofBits .f32 0x3F000000#32 * x * (Ideal.ofBits .f32 0x3F800000#32
    + Ideal.tanh (Ideal.ofBits .f32 0x3F4C422A#32 * (x + Ideal.ofBits .f32 0x3D372713#32 * (x * x * x))))

/-- A row of 512 minus its mean. -/
def centred (z : Fin 512 → EReal) (j : Fin 512) : EReal :=
  z j - Ideal.div (∑ e : Fin 512, z e) (Ideal.ofBits .f32 0x44000000#32)

/-- The layer norm of a row of 512. -/
def layer (z g b : Fin 512 → EReal) (j : Fin 512) : EReal :=
  centred z j * Ideal.rsqrt (Ideal.div (∑ e : Fin 512, centred z e * centred z e) (Ideal.ofBits .f32 0x44000000#32) + eps) * g j + b j

/-- One column of a chunk mixed at place `t`: the column's places up to `t`, weighted, and the place's bias. -/
def mixed (t : Fin 128) (w z : Fin 128 → EReal) (b : EReal) : EReal :=
  ∑ s : Fin 128, (if s.val ≤ t.val then w s else 0) * z s + b

theorem mixed_congr {t t' : Fin 128} {w w' z z' : Fin 128 → EReal} {b b' : EReal} (ht : t = t') (hw : ∀ s, w s = w' s)
    (hz : ∀ s, z s = z' s) (hb : b = b') : mixed t w z b = mixed t' w' z' b' := by
  obtain rfl := ht
  obtain rfl := hb
  rw [show w = w' from funext hw, show z = z' from funext hz]

/-- Choosing by the comparison of two places below 128, as words. -/
theorem select_le (t s : Fin 128) (a b : EReal) :
    Scalar.select (IntOp.cmpi .sge (BitVec.ofNat 32 t.val) (BitVec.ofNat 32 s.val)) a b = if s.val ≤ t.val then a else b := by
  have h : IntOp.cmpi .sge (BitVec.ofNat 32 t.val) (BitVec.ofNat 32 s.val) = if s.val ≤ t.val then 1#1 else 0#1 := by
    revert t s
    decide +kernel
  rw [h]
  by_cases h' : s.val ≤ t.val <;> simp [h', Scalar.select]

/-- The root-mean-square norm of a row of 512. -/
def normed (h g : Fin 512 → EReal) (j : Fin 512) : EReal :=
  h j * Ideal.rsqrt (Ideal.div (∑ e : Fin 512, h e * h e) (Ideal.ofBits .f32 0x44000000#32) + eps) * g j

/-- The call's nine arguments, by their places. -/
structure Args where
  x : Fin 16 → Fin 4096 → Fin 1024 → EReal
  md : Fin 16 → Fin 6 → Fin 1024 → EReal
  g : Fin 1024 → EReal
  w : Fin 1024 → Fin 2560 → EReal
  lg : Fin 512 → EReal
  lb : Fin 512 → EReal
  ws : Fin 4 → Fin 128 → Fin 128 → EReal
  bs : Fin 4 → Fin 128 → EReal
  gs : Fin 512 → EReal

/-- The normed and modulated row of token `s` of batch `b`. -/
def Args.n (A : Args) (b : Fin 16) (s : Fin 4096) : Fin 1024 → EReal := row (A.x b s) A.g (A.md b 1) (A.md b 0)

/-- Its projection. -/
def Args.p (A : Args) (b : Fin 16) (s : Fin 4096) (j : Fin 2560) : EReal := proj (A.n b s) A.w j

/-- The normed second half of its gated columns. -/
def Args.z (A : Args) (b : Fin 16) (s : Fin 4096) : Fin 512 → EReal :=
  layer (fun e => gelu (A.p b s ⟨2048 + e.val, by omega⟩)) A.lg A.lb

/-- The mixed half. -/
def Args.m (A : Args) (b : Fin 16) (s : Fin 4096) (j : Fin 512) : EReal :=
  mixed ⟨s.val % 128, by omega⟩ (fun t => A.ws ⟨j.val / 128, by omega⟩ ⟨s.val % 128, by omega⟩ t)
    (fun t => A.z b ⟨s.val / 128 * 128 + t.val, by omega⟩ j) (A.bs ⟨j.val / 128, by omega⟩ ⟨s.val % 128, by omega⟩)

/-- The gated row, normed. -/
def Args.s (A : Args) (b : Fin 16) (s : Fin 4096) : Fin 512 → EReal :=
  normed (fun e => gelu (A.p b s ⟨1536 + e.val, by omega⟩) * A.m b s e) A.gs

/-- The four results, element by element. -/
def Args.out (A : Args) (o : Fin 4) (b : Fin 16) (s : Fin 4096) (j : Fin 512) : EReal :=
  match o with
  | 0 => A.p b s ⟨j.val, by omega⟩ * Ideal.ofBits .f32 0x3E000000#32
  | 1 => A.p b s ⟨512 + j.val, by omega⟩
  | 2 => A.p b s ⟨1024 + j.val, by omega⟩
  | 3 => A.s b s j

end Cert.MixSpec

end
-- ==== Proof.MixBlock.lean ====
/- What the in-projection call's payloads hold, element by element, over the extended reals. -/
module

public import proofs.«01_k».proof.Proof.Gen.MixInIdeal.Value
public import proofs.«01_k».proof.Proof.MixSpec
public import Idealize.ShloMosaic.Lib.Pointwise

@[expose] public section

noncomputable section

namespace Cert.MixInIdeal.Block

open Cert.MixInIdeal Cert.MixInIdeal.Gen Cert.MixSpec Idealize.ShloMosaic

set_option maxRecDepth 16384
set_option maxHeartbeats 4000000

theorem row_apply (x : Vec Ideal S1x512x1024 .f32) (g : Vec Ideal S1x1024 .f32) (sc sh : Vec Ideal S1x1x1024 .f32)
    (r : Fin 512) (d : Fin 1024) :
    k0_pay4 x g sc sh (ix2 r d)
      = row (fun e => x (ix3 0 r e)) (fun e => g (ix2 0 e)) (fun e => sc (ix3 0 0 e)) (fun e => sh (ix3 0 0 e)) d := by
  unfold_payloads
  pointwise [row]

theorem q_apply (x : Vec Ideal S1x512x1024 .f32) (g : Vec Ideal S1x1024 .f32) (sc sh : Vec Ideal S1x1x1024 .f32)
    (w : Vec Ideal S1024x512 .bf16) (r : Fin 512) (j : Fin 512) :
    k0_pay5 x g sc sh w (ix3 0 r j)
      = (∑ e : Fin 1024, k0_pay4 x g sc sh (ix2 r e) * w (ix2 e j)) * Ideal.ofBits .f32 0x3E000000#32 := by
  unfold k0_pay5
  generalize k0_pay4 x g sc sh = n
  pointwise

theorem k_apply (n : FVec Ideal S512x1024 .bf16) (w : Vec Ideal S1024x512 .bf16) (r : Fin 512) (j : Fin 512) :
    k0_pay6 n w (ix3 0 r j) = ∑ e : Fin 1024, n (ix2 r e) * w (ix2 e j) := by
  unfold k0_pay6
  pointwise

theorem v_apply (n : FVec Ideal S512x1024 .bf16) (w : Vec Ideal S1024x512 .bf16) (r : Fin 512) (j : Fin 512) :
    k0_pay7 n w (ix3 0 r j) = ∑ e : Fin 1024, n (ix2 r e) * w (ix2 e j) := by
  unfold k0_pay7
  pointwise

theorem z_apply (n : FVec Ideal S512x1024 .bf16) (w : Vec Ideal S1024x512 .bf16) (r : Fin 512) (j : Fin 512) :
    k0_pay8 n w (ix2 r j) = ∑ e : Fin 1024, n (ix2 r e) * w (ix2 e j) := by
  unfold k0_pay8
  pointwise

theorem u_apply (n : FVec Ideal S512x1024 .bf16) (w : Vec Ideal S1024x512 .bf16) (r : Fin 512) (j : Fin 512) :
    k0_pay9 n w (ix2 r j) = gelu (∑ e : Fin 1024, n (ix2 r e) * w (ix2 e j)) := by
  unfold k0_pay9
  pointwise [gelu]

theorem layer_apply (z : FVec Ideal S512x512 .f32) (g b : Vec Ideal S1x512 .f32) (r : Fin 512) (j : Fin 512) :
    k0_pay11 z (k0_pay10 (F := Ideal)) g b (ix2 r j)
      = layer (fun e => gelu (z (ix2 r e))) (fun e => g (ix2 0 e)) (fun e => b (ix2 0 e)) j := by
  unfold k0_pay11 k0_pay10
  pointwise [layer, centred, gelu]

theorem sgu_apply (u m : FVec Ideal S512x512 .f32) (g : Vec Ideal S1x512 .f32) (r : Fin 512) (j : Fin 512) :
    k0_pay3 u m g (ix3 0 r j) = normed (fun e => u (ix2 r e) * m (ix2 r e)) (fun e => g (ix2 0 e)) j := by
  unfold k0_pay3
  pointwise [normed]

/-! The tile of chunk `c` and group `g` of the mixed half, read from the normed half `z`, the group's weights `w` and its bias `b`. -/

theorem tile00 (z : FVec Ideal S512x512 .bf16) (w : Vec Ideal S1x128x128 .f32) (b : Vec Ideal S128x1 .f32) (t d : Fin 128) :
    k0_pay15 z (k0_pay13 w) b (ix2 t d)
      = mixed t (fun s => w (ix3 0 t s)) (fun s => z (ix2 ⟨0 + s.val, by omega⟩ ⟨0 + d.val, by omega⟩)) (b (ix2 t 0)) := by
  unfold k0_pay15 k0_pay14 k0_pay13 k0_pay12
  pointwise [mixed, select_le]

theorem tile10 (z : FVec Ideal S512x512 .bf16) (w : Vec Ideal S1x128x128 .f32) (b : Vec Ideal S128x1 .f32) (t d : Fin 128) :
    k0_pay16 z (k0_pay13 w) b (ix2 t d)
      = mixed t (fun s => w (ix3 0 t s)) (fun s => z (ix2 ⟨128 + s.val, by omega⟩ ⟨0 + d.val, by omega⟩)) (b (ix2 t 0)) := by
  unfold k0_pay16 k0_pay14 k0_pay13 k0_pay12
  pointwise [mixed, select_le]

theorem tile20 (z : FVec Ideal S512x512 .bf16) (w : Vec Ideal S1x128x128 .f32) (b : Vec Ideal S128x1 .f32) (t d : Fin 128) :
    k0_pay17 z (k0_pay13 w) b (ix2 t d)
      = mixed t (fun s => w (ix3 0 t s)) (fun s => z (ix2 ⟨256 + s.val, by omega⟩ ⟨0 + d.val, by omega⟩)) (b (ix2 t 0)) := by
  unfold k0_pay17 k0_pay14 k0_pay13 k0_pay12
  pointwise [mixed, select_le]
  simp only [show ¬ (256 + d.val < 128) by omega,
    show ¬ (256 + d.val - 128 < 128) by omega,
    show 256 + d.val - 128 - 128 = d.val by omega, d.isLt, ↓reduceDIte]

theorem tile30 (z : FVec Ideal S512x512 .bf16) (w : Vec Ideal S1x128x128 .f32) (b : Vec Ideal S128x1 .f32) (t d : Fin 128) :
    k0_pay18 z (k0_pay13 w) b (ix2 t d)
      = mixed t (fun s => w (ix3 0 t s)) (fun s => z (ix2 ⟨384 + s.val, by omega⟩ ⟨0 + d.val, by omega⟩)) (b (ix2 t 0)) := by
  unfold k0_pay18 k0_pay14 k0_pay13 k0_pay12
  pointwise [mixed, select_le]
  simp only [show ¬ (384 + d.val < 128) by omega,
    show ¬ (384 + d.val - 128 < 128) by omega,
    show ¬ (384 + d.val - 128 - 128 < 128) by omega,
    show 384 + d.val - 128 - 128 - 128 = d.val by omega, d.isLt, ↓reduceDIte]

theorem tile01 (z : FVec Ideal S512x512 .bf16) (w : Vec Ideal S1x128x128 .f32) (b : Vec Ideal S128x1 .f32) (t d : Fin 128) :
    k0_pay21 (k0_pay19 z k0_pay12 w) b (ix2 t d)
      = mixed t (fun s => w (ix3 0 t s)) (fun s => z (ix2 ⟨0 + s.val, by omega⟩ ⟨128 + d.val, by omega⟩)) (b (ix2 t 0)) := by
  unfold k0_pay21 k0_pay20 k0_pay19 k0_pay12
  pointwise [mixed, select_le]

theorem tile11 (z : FVec Ideal S512x512 .bf16) (w : Vec Ideal S1x128x128 .f32) (b : Vec Ideal S128x1 .f32) (t d : Fin 128) :
    k0_pay22 (k0_pay19 z k0_pay12 w) b (ix2 t d)
      = mixed t (fun s => w (ix3 0 t s)) (fun s => z (ix2 ⟨128 + s.val, by omega⟩ ⟨128 + d.val, by omega⟩)) (b (ix2 t 0)) := by
  unfold k0_pay22 k0_pay20 k0_pay19 k0_pay12
  pointwise [mixed, select_le]

theorem tile21 (z : FVec Ideal S512x512 .bf16) (w : Vec Ideal S1x128x128 .f32) (b : Vec Ideal S128x1 .f32) (t d : Fin 128) :
    k0_pay23 (k0_pay19 z k0_pay12 w) b (ix2 t d)
      = mixed t (fun s => w (ix3 0 t s)) (fun s => z (ix2 ⟨256 + s.val, by omega⟩ ⟨128 + d.val, by omega⟩)) (b (ix2 t 0)) := by
  unfold k0_pay23 k0_pay20 k0_pay19 k0_pay12
  pointwise [mixed, select_le]
  simp only [show ¬ (256 + d.val < 128) by omega,
    show ¬ (256 + d.val - 128 < 128) by omega,
    show 256 + d.val - 128 - 128 = d.val by omega, d.isLt, ↓reduceDIte]

theorem tile31 (z : FVec Ideal S512x512 .bf16) (w : Vec Ideal S1x128x128 .f32) (b : Vec Ideal S128x1 .f32) (t d : Fin 128) :
    k0_pay24 (k0_pay19 z k0_pay12 w) b (ix2 t d)
      = mixed t (fun s => w (ix3 0 t s)) (fun s => z (ix2 ⟨384 + s.val, by omega⟩ ⟨128 + d.val, by omega⟩)) (b (ix2 t 0)) := by
  unfold k0_pay24 k0_pay20 k0_pay19 k0_pay12
  pointwise [mixed, select_le]
  simp only [show ¬ (384 + d.val < 128) by omega,
    show ¬ (384 + d.val - 128 < 128) by omega,
    show ¬ (384 + d.val - 128 - 128 < 128) by omega,
    show 384 + d.val - 128 - 128 - 128 = d.val by omega, d.isLt, ↓reduceDIte]

theorem tile02 (z : FVec Ideal S512x512 .bf16) (w : Vec Ideal S1x128x128 .f32) (b : Vec Ideal S128x1 .f32) (t d : Fin 128) :
    k0_pay26 z k0_pay12 w b (ix2 t d)
      = mixed t (fun s => w (ix3 0 t s)) (fun s => z (ix2 ⟨0 + s.val, by omega⟩ ⟨256 + d.val, by omega⟩)) (b (ix2 t 0)) := by
  unfold k0_pay26 k0_pay25 k0_pay12
  pointwise [mixed, select_le]

theorem tile12 (z : FVec Ideal S512x512 .bf16) (w : Vec Ideal S1x128x128 .f32) (b : Vec Ideal S128x1 .f32) (t d : Fin 128) :
    k0_pay27 (k0_pay25 z k0_pay12 w b) (ix2 t d)
      = mixed t (fun s => w (ix3 0 t s)) (fun s => z (ix2 ⟨128 + s.val, by omega⟩ ⟨256 + d.val, by omega⟩)) (b (ix2 t 0)) := by
  unfold k0_pay27 k0_pay25 k0_pay12
  pointwise [mixed, select_le]

theorem tile22 (z : FVec Ideal S512x512 .bf16) (w : Vec Ideal S1x128x128 .f32) (b : Vec Ideal S128x1 .f32) (t d : Fin 128) :
    k0_pay28 (k0_pay25 z k0_pay12 w b) (ix2 t d)
      = mixed t (fun s => w (ix3 0 t s)) (fun s => z (ix2 ⟨256 + s.val, by omega⟩ ⟨256 + d.val, by omega⟩)) (b (ix2 t 0)) := by
  unfold k0_pay28 k0_pay25 k0_pay12
  pointwise [mixed, select_le]
  simp only [show ¬ (256 + d.val < 128) by omega,
    show ¬ (256 + d.val - 128 < 128) by omega,
    show 256 + d.val - 128 - 128 = d.val by omega, d.isLt, ↓reduceDIte]

theorem tile32 (z : FVec Ideal S512x512 .bf16) (w : Vec Ideal S1x128x128 .f32) (b : Vec Ideal S128x1 .f32) (t d : Fin 128) :
    k0_pay29 (k0_pay25 z k0_pay12 w b) (ix2 t d)
      = mixed t (fun s => w (ix3 0 t s)) (fun s => z (ix2 ⟨384 + s.val, by omega⟩ ⟨256 + d.val, by omega⟩)) (b (ix2 t 0)) := by
  unfold k0_pay29 k0_pay25 k0_pay12
  pointwise [mixed, select_le]
  simp only [show ¬ (384 + d.val < 128) by omega,
    show ¬ (384 + d.val - 128 < 128) by omega,
    show ¬ (384 + d.val - 128 - 128 < 128) by omega,
    show 384 + d.val - 128 - 128 - 128 = d.val by omega, d.isLt, ↓reduceDIte]

theorem tile03 (z : FVec Ideal S512x512 .bf16) (w : Vec Ideal S1x128x128 .f32) (b : Vec Ideal S128x1 .f32) (t d : Fin 128) :
    k0_pay31 z k0_pay12 w b (ix2 t d)
      = mixed t (fun s => w (ix3 0 t s)) (fun s => z (ix2 ⟨0 + s.val, by omega⟩ ⟨384 + d.val, by omega⟩)) (b (ix2 t 0)) := by
  unfold k0_pay31 k0_pay30 k0_pay12
  pointwise [mixed, select_le]

theorem tile13 (z : FVec Ideal S512x512 .bf16) (w : Vec Ideal S1x128x128 .f32) (b : Vec Ideal S128x1 .f32) (t d : Fin 128) :
    k0_pay32 z k0_pay12 w b (ix2 t d)
      = mixed t (fun s => w (ix3 0 t s)) (fun s => z (ix2 ⟨128 + s.val, by omega⟩ ⟨384 + d.val, by omega⟩)) (b (ix2 t 0)) := by
  unfold k0_pay32 k0_pay30 k0_pay12
  pointwise [mixed, select_le]

theorem tile23 (z : FVec Ideal S512x512 .bf16) (w : Vec Ideal S1x128x128 .f32) (b : Vec Ideal S128x1 .f32) (t d : Fin 128) :
    k0_pay1 (k0_pay33 z k0_pay12 w b) (ix2 t d)
      = mixed t (fun s => w (ix3 0 t s)) (fun s => z (ix2 ⟨256 + s.val, by omega⟩ ⟨384 + d.val, by omega⟩)) (b (ix2 t 0)) := by
  unfold k0_pay1 k0_pay33 k0_pay30 k0_pay12
  pointwise [mixed, select_le]
  simp only [show ¬ (256 + d.val < 128) by omega,
    show ¬ (256 + d.val - 128 < 128) by omega,
    show 256 + d.val - 128 - 128 = d.val by omega, d.isLt, ↓reduceDIte]

theorem tile33 (z : FVec Ideal S512x512 .bf16) (w : Vec Ideal S1x128x128 .f32) (b : Vec Ideal S128x1 .f32) (t d : Fin 128) :
    k0_pay2 (k0_pay30 z k0_pay12 w b) (ix2 t d)
      = mixed t (fun s => w (ix3 0 t s)) (fun s => z (ix2 ⟨384 + s.val, by omega⟩ ⟨384 + d.val, by omega⟩)) (b (ix2 t 0)) := by
  unfold k0_pay2 k0_pay30 k0_pay12
  pointwise [mixed, select_le]
  simp only [show ¬ (384 + d.val < 128) by omega,
    show ¬ (384 + d.val - 128 < 128) by omega,
    show ¬ (384 + d.val - 128 - 128 < 128) by omega,
    show 384 + d.val - 128 - 128 - 128 = d.val by omega, d.isLt, ↓reduceDIte]

end Cert.MixInIdeal.Block

end
-- ==== Proof.MixRead.lean ====
/- What the four staging buffers of the in-projection call hold after one grid point: the stores read back as functions of
   the nine blocks the body reads, at an element. -/
module

public import proofs.«01_k».proof.Proof.MixBlock
public import Idealize.ShloMosaic.Lib.Pipeline.ValueKit

@[expose] public section

noncomputable section

namespace Cert.MixInIdeal.Block

open Cert.MixInIdeal Cert.MixInIdeal.Gen Cert.MixSpec Idealize.ShloMosaic Idealize.ShloMosaic.TcCoe

set_option maxRecDepth 16384
set_option maxHeartbeats 4000000

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The normed and modulated rows of the block. -/
abbrev rows (x0 : Vec Ideal S1x512x1024 .f32) (x1 : Vec Ideal S1x6x1024 .f32) (x2 : Vec Ideal S1x1024 .f32) : FVec Ideal S512x1024 .bf16 :=
  k0_pay4 x0 x2 (View.ld x1 (Rect.unit ![0, 1, 0] S1x1x1024.size inb_S1x6x1024_S1x1x1024_0_1_0))
    (View.ld x1 (Rect.unit ![0, 0, 0] S1x1x1024.size inb_S1x6x1024_S1x1x1024_0_0_0))

theorem q_read (c : Dev nD) (t : Fin cfg0.N) :
    (outsAt0 m c t).1 = k0_pay5 (iblk m c 0 t) (iblk m c 2 t)
      (View.ld (iblk m c 1 t) (Rect.unit ![0, 1, 0] S1x1x1024.size inb_S1x6x1024_S1x1x1024_0_1_0))
      (View.ld (iblk m c 1 t) (Rect.unit ![0, 0, 0] S1x1x1024.size inb_S1x6x1024_S1x1x1024_0_0_0))
      (View.ld (iblk m c 3 t) (Rect.unit ![0, 0] S1024x512.size inb_S1024x2560_S1024x512_0_0)) := by
  unfold outsAt0
  dsimp only
  unfold out0_A_9
  rw [View.read_writes_junk_eq_canon]
  unfold kernelRun0_A
  dsimp only
  sl_unfold_words
  rw [View.canon_unit_zero hz3]
  simp only [View.readAt_eq_ld, Memref.IsWhole.read_unread]
  rw [View.ld_unit_zero hz3, View.ld_unit_zero hz2]
  rfl

theorem k_read (c : Dev nD) (t : Fin cfg0.N) :
    (outsAt0 m c t).2.1 = k0_pay6 (rows (iblk m c 0 t) (iblk m c 1 t) (iblk m c 2 t))
      (View.ld (iblk m c 3 t) (Rect.unit ![0, 512] S1024x512.size inb_S1024x2560_S1024x512_0_512)) := by
  unfold outsAt0
  dsimp only
  unfold out0_A_10
  rw [View.read_writes_junk_eq_canon]
  unfold kernelRun0_A
  dsimp only
  sl_unfold_words
  rw [View.canon_unit_zero hz3]
  simp only [View.readAt_eq_ld, Memref.IsWhole.read_unread]
  rw [View.ld_unit_zero hz3, View.ld_unit_zero hz2]
  rfl

theorem v_read (c : Dev nD) (t : Fin cfg0.N) :
    (outsAt0 m c t).2.2.1 = k0_pay7 (rows (iblk m c 0 t) (iblk m c 1 t) (iblk m c 2 t))
      (View.ld (iblk m c 3 t) (Rect.unit ![0, 1024] S1024x512.size inb_S1024x2560_S1024x512_0_1024)) := by
  unfold outsAt0
  dsimp only
  unfold out0_A_11
  rw [View.read_writes_junk_eq_canon]
  unfold kernelRun0_A
  dsimp only
  sl_unfold_words
  rw [View.canon_unit_zero hz3]
  simp only [View.readAt_eq_ld, Memref.IsWhole.read_unread]
  rw [View.ld_unit_zero hz3, View.ld_unit_zero hz2]
  rfl

/-- The normed second half of the block's gated columns. -/
abbrev halves (x0 : Vec Ideal S1x512x1024 .f32) (x1 : Vec Ideal S1x6x1024 .f32) (x2 : Vec Ideal S1x1024 .f32)
    (x3 : Vec Ideal S1024x2560 .bf16) (x4 x5 : Vec Ideal S1x512 .f32) : FVec Ideal S512x512 .bf16 :=
  k0_pay11 (k0_pay8 (rows x0 x1 x2) (View.ld x3 (Rect.unit ![0, 2048] S1024x512.size inb_S1024x2560_S1024x512_0_2048)))
    (k0_pay10 (F := Ideal)) x4 x5

/-- The mixed half at row `i` and column `j`: the row's chunk mixed at the row's place, by the column's group's weights. -/
def mixedAt (z : FVec Ideal S512x512 .bf16) (w : Vec Ideal S4x128x128 .f32) (b : Vec Ideal S128x4 .f32) (i j : Fin 512) : EReal :=
  mixed ⟨i.val % 128, by omega⟩ (fun s => w (ix3 ⟨j.val / 128, by omega⟩ ⟨i.val % 128, by omega⟩ s))
    (fun s => z (ix2 ⟨i.val / 128 * 128 + s.val, by omega⟩ j)) (b (ix2 ⟨i.val % 128, by omega⟩ ⟨j.val / 128, by omega⟩))

/-- Group `g`'s weights, as the body loads them. -/
abbrev wOf (w : Vec Ideal S4x128x128 .f32) : Fin 4 → Vec Ideal S1x128x128 .f32
  | 0 => View.ld w (Rect.unit ![0, 0, 0] S1x128x128.size inb_S4x128x128_S1x128x128_0_0_0)
  | 1 => View.ld w (Rect.unit ![1, 0, 0] S1x128x128.size inb_S4x128x128_S1x128x128_1_0_0)
  | 2 => View.ld w (Rect.unit ![2, 0, 0] S1x128x128.size inb_S4x128x128_S1x128x128_2_0_0)
  | 3 => View.ld w (Rect.unit ![3, 0, 0] S1x128x128.size inb_S4x128x128_S1x128x128_3_0_0)

/-- Group `g`'s bias, as the body loads it. -/
abbrev bOf (b : Vec Ideal S128x4 .f32) : Fin 4 → Vec Ideal S128x1 .f32
  | 0 => View.ld b (Rect.unit ![0, 0] S128x1.size inb_S128x4_S128x1_0_0)
  | 1 => View.ld b (Rect.unit ![0, 1] S128x1.size inb_S128x4_S128x1_0_1)
  | 2 => View.ld b (Rect.unit ![0, 2] S128x1.size inb_S128x4_S128x1_0_2)
  | 3 => View.ld b (Rect.unit ![0, 3] S128x1.size inb_S128x4_S128x1_0_3)

theorem wOf_apply (w : Vec Ideal S4x128x128 .f32) (g : Fin 4) (t s : Fin 128) : wOf w g (ix3 0 t s) = w (ix3 g t s) := by
  match g with
  | 0 => exact View.ld_unit_apply_of w _ _ _ _ _ fun a => by fin_cases a <;> simp <;> rfl
  | 1 => exact View.ld_unit_apply_of w _ _ _ _ _ fun a => by fin_cases a <;> simp <;> rfl
  | 2 => exact View.ld_unit_apply_of w _ _ _ _ _ fun a => by fin_cases a <;> simp <;> rfl
  | 3 => exact View.ld_unit_apply_of w _ _ _ _ _ fun a => by fin_cases a <;> simp <;> rfl

theorem bOf_apply (b : Vec Ideal S128x4 .f32) (g : Fin 4) (t : Fin 128) : bOf b g (ix2 t 0) = b (ix2 t g) := by
  match g with
  | 0 => exact View.ld_unit_apply_of b _ _ _ _ _ fun a => by fin_cases a <;> simp <;> rfl
  | 1 => exact View.ld_unit_apply_of b _ _ _ _ _ fun a => by fin_cases a <;> simp <;> rfl
  | 2 => exact View.ld_unit_apply_of b _ _ _ _ _ fun a => by fin_cases a <;> simp <;> rfl
  | 3 => exact View.ld_unit_apply_of b _ _ _ _ _ fun a => by fin_cases a <;> simp <;> rfl

/-- The sixteen stores that fill the mixed half, the last one first. -/
abbrev tiles (z : FVec Ideal S512x512 .bf16) (w : Vec Ideal S4x128x128 .f32) (b : Vec Ideal S128x4 .f32) :
    List (View.Piece (Elt Ideal) S512x512 .f32) :=
  [⟨Rect.unit ![384, 384] S128x128.size inb_S512x512_S128x128_384_384, k0_pay2 (k0_pay30 z k0_pay12 (wOf w 3) (bOf b 3))⟩,
    ⟨Rect.unit ![256, 384] S128x128.size inb_S512x512_S128x128_256_384, k0_pay1 (k0_pay33 z k0_pay12 (wOf w 3) (bOf b 3))⟩,
    ⟨Rect.unit ![128, 384] S128x128.size inb_S512x512_S128x128_128_384, k0_pay32 z k0_pay12 (wOf w 3) (bOf b 3)⟩,
    ⟨Rect.unit ![0, 384] S128x128.size inb_S512x512_S128x128_0_384, k0_pay31 z k0_pay12 (wOf w 3) (bOf b 3)⟩,
    ⟨Rect.unit ![384, 256] S128x128.size inb_S512x512_S128x128_384_256, k0_pay29 (k0_pay25 z k0_pay12 (wOf w 2) (bOf b 2))⟩,
    ⟨Rect.unit ![256, 256] S128x128.size inb_S512x512_S128x128_256_256, k0_pay28 (k0_pay25 z k0_pay12 (wOf w 2) (bOf b 2))⟩,
    ⟨Rect.unit ![128, 256] S128x128.size inb_S512x512_S128x128_128_256, k0_pay27 (k0_pay25 z k0_pay12 (wOf w 2) (bOf b 2))⟩,
    ⟨Rect.unit ![0, 256] S128x128.size inb_S512x512_S128x128_0_256, k0_pay26 z k0_pay12 (wOf w 2) (bOf b 2)⟩,
    ⟨Rect.unit ![384, 128] S128x128.size inb_S512x512_S128x128_384_128, k0_pay24 (k0_pay19 z k0_pay12 (wOf w 1)) (bOf b 1)⟩,
    ⟨Rect.unit ![256, 128] S128x128.size inb_S512x512_S128x128_256_128, k0_pay23 (k0_pay19 z k0_pay12 (wOf w 1)) (bOf b 1)⟩,
    ⟨Rect.unit ![128, 128] S128x128.size inb_S512x512_S128x128_128_128, k0_pay22 (k0_pay19 z k0_pay12 (wOf w 1)) (bOf b 1)⟩,
    ⟨Rect.unit ![0, 128] S128x128.size inb_S512x512_S128x128_0_128, k0_pay21 (k0_pay19 z k0_pay12 (wOf w 1)) (bOf b 1)⟩,
    ⟨Rect.unit ![384, 0] S128x128.size inb_S512x512_S128x128_384_0, k0_pay18 z (k0_pay13 (wOf w 0)) (bOf b 0)⟩,
    ⟨Rect.unit ![256, 0] S128x128.size inb_S512x512_S128x128_256_0, k0_pay17 z (k0_pay13 (wOf w 0)) (bOf b 0)⟩,
    ⟨Rect.unit ![128, 0] S128x128.size inb_S512x512_S128x128_128_0, k0_pay16 z (k0_pay13 (wOf w 0)) (bOf b 0)⟩,
    ⟨Rect.unit ![0, 0] S128x128.size inb_S512x512_S128x128_0_0, k0_pay15 z (k0_pay13 (wOf w 0)) (bOf b 0)⟩]

/-- A tile's element is the mixed half's at the tile's place. -/
theorem tile_eq (z : FVec Ideal S512x512 .bf16) (w : Vec Ideal S4x128x128 .f32) (b : Vec Ideal S128x4 .f32) (i j : Fin 512)
    (c g : Fin 4) (t d : Fin 128) (hi : i.val = c.val * 128 + t.val) (hj : j.val = g.val * 128 + d.val) :
    mixed t (fun s => wOf w g (ix3 0 t s)) (fun s => z (ix2 ⟨c.val * 128 + s.val, by clear hi hj; omega⟩ ⟨g.val * 128 + d.val, by clear hi hj; omega⟩))
      (bOf b g (ix2 t 0)) = mixedAt z w b i j := by
  have hi' : c.val * 128 + t.val < 512 := hi ▸ i.isLt
  have hj' : g.val * 128 + d.val < 512 := hj ▸ j.isLt
  have ei : i = ⟨c.val * 128 + t.val, hi'⟩ := Fin.ext hi
  have ej : j = ⟨g.val * 128 + d.val, hj'⟩ := Fin.ext hj
  rw [ei, ej]
  unfold mixedAt
  have e1 : (⟨(c.val * 128 + t.val) % 128, by omega⟩ : Fin 128) = t := Fin.ext (by dsimp only; omega)
  have e2 : (⟨(g.val * 128 + d.val) / 128, by omega⟩ : Fin 4) = g := Fin.ext (by dsimp only; omega)
  have e3 : (c.val * 128 + t.val) / 128 = c.val := by omega
  simp only [e1, e2, e3, wOf_apply, bOf_apply]

theorem tiles_apply (z : FVec Ideal S512x512 .bf16) (w : Vec Ideal S4x128x128 .f32) (b : Vec Ideal S128x4 .f32) (i j : Fin 512) :
    View.canon (tiles z w b) (ix2 i j) = mixedAt z w b i j := by
  unfold tiles
  canon_tiles x h
  · obtain ⟨t, d, rfl⟩ : ∃ (t d : Fin 128), x = ix2 t d := ⟨x 0, x 1, eq_ix2 x⟩
    rw [tile33]
    exact tile_eq z w b i j 3 3 t d h0 h1
  · obtain ⟨t, d, rfl⟩ : ∃ (t d : Fin 128), x = ix2 t d := ⟨x 0, x 1, eq_ix2 x⟩
    rw [tile23]
    exact tile_eq z w b i j 2 3 t d h0 h1
  · obtain ⟨t, d, rfl⟩ : ∃ (t d : Fin 128), x = ix2 t d := ⟨x 0, x 1, eq_ix2 x⟩
    rw [tile13]
    exact tile_eq z w b i j 1 3 t d h0 h1
  · obtain ⟨t, d, rfl⟩ : ∃ (t d : Fin 128), x = ix2 t d := ⟨x 0, x 1, eq_ix2 x⟩
    rw [tile03]
    exact tile_eq z w b i j 0 3 t d (h0.trans (Nat.zero_add t.val).symm) h1
  · obtain ⟨t, d, rfl⟩ : ∃ (t d : Fin 128), x = ix2 t d := ⟨x 0, x 1, eq_ix2 x⟩
    rw [tile32]
    exact tile_eq z w b i j 3 2 t d h0 h1
  · obtain ⟨t, d, rfl⟩ : ∃ (t d : Fin 128), x = ix2 t d := ⟨x 0, x 1, eq_ix2 x⟩
    rw [tile22]
    exact tile_eq z w b i j 2 2 t d h0 h1
  · obtain ⟨t, d, rfl⟩ : ∃ (t d : Fin 128), x = ix2 t d := ⟨x 0, x 1, eq_ix2 x⟩
    rw [tile12]
    exact tile_eq z w b i j 1 2 t d h0 h1
  · obtain ⟨t, d, rfl⟩ : ∃ (t d : Fin 128), x = ix2 t d := ⟨x 0, x 1, eq_ix2 x⟩
    rw [tile02]
    exact tile_eq z w b i j 0 2 t d (h0.trans (Nat.zero_add t.val).symm) h1
  · obtain ⟨t, d, rfl⟩ : ∃ (t d : Fin 128), x = ix2 t d := ⟨x 0, x 1, eq_ix2 x⟩
    rw [tile31]
    exact tile_eq z w b i j 3 1 t d h0 h1
  · obtain ⟨t, d, rfl⟩ : ∃ (t d : Fin 128), x = ix2 t d := ⟨x 0, x 1, eq_ix2 x⟩
    rw [tile21]
    exact tile_eq z w b i j 2 1 t d h0 h1
  · obtain ⟨t, d, rfl⟩ : ∃ (t d : Fin 128), x = ix2 t d := ⟨x 0, x 1, eq_ix2 x⟩
    rw [tile11]
    exact tile_eq z w b i j 1 1 t d h0 h1
  · obtain ⟨t, d, rfl⟩ : ∃ (t d : Fin 128), x = ix2 t d := ⟨x 0, x 1, eq_ix2 x⟩
    rw [tile01]
    exact tile_eq z w b i j 0 1 t d (h0.trans (Nat.zero_add t.val).symm) h1
  · obtain ⟨t, d, rfl⟩ : ∃ (t d : Fin 128), x = ix2 t d := ⟨x 0, x 1, eq_ix2 x⟩
    rw [tile30]
    exact tile_eq z w b i j 3 0 t d h0 (h1.trans (Nat.zero_add d.val).symm)
  · obtain ⟨t, d, rfl⟩ : ∃ (t d : Fin 128), x = ix2 t d := ⟨x 0, x 1, eq_ix2 x⟩
    rw [tile20]
    exact tile_eq z w b i j 2 0 t d h0 (h1.trans (Nat.zero_add d.val).symm)
  · obtain ⟨t, d, rfl⟩ : ∃ (t d : Fin 128), x = ix2 t d := ⟨x 0, x 1, eq_ix2 x⟩
    rw [tile10]
    exact tile_eq z w b i j 1 0 t d h0 (h1.trans (Nat.zero_add d.val).symm)
  · obtain ⟨t, d, rfl⟩ : ∃ (t d : Fin 128), x = ix2 t d := ⟨x 0, x 1, eq_ix2 x⟩
    rw [tile00]
    exact tile_eq z w b i j 0 0 t d (h0.trans (Nat.zero_add t.val).symm) (h1.trans (Nat.zero_add d.val).symm)

theorem s_read (c : Dev nD) (t : Fin cfg0.N) :
    (outsAt0 m c t).2.2.2 = k0_pay3 (k0_pay9 (rows (iblk m c 0 t) (iblk m c 1 t) (iblk m c 2 t))
        (View.ld (iblk m c 3 t) (Rect.unit ![0, 1536] S1024x512.size inb_S1024x2560_S1024x512_0_1536)))
      (fun y => mixedAt (halves (iblk m c 0 t) (iblk m c 1 t) (iblk m c 2 t) (iblk m c 3 t) (iblk m c 4 t) (iblk m c 5 t))
        (iblk m c 6 t) (iblk m c 7 t) ⟨(y 0).val, (y 0).isLt⟩ ⟨(y 1).val, (y 1).isLt⟩) (iblk m c 8 t) := by
  unfold outsAt0
  dsimp only
  unfold out0_A_12
  rw [View.read_writes_junk_eq_canon]
  unfold kernelRun0_A
  dsimp only
  sl_unfold_words
  rw [View.canon_unit_zero hz3]
  simp only [View.readAt_eq_ld, Memref.IsWhole.read_unread, View.readCov_eq_canon']
  rw [View.ld_unit_zero hz3, View.ld_unit_zero hz2, View.ld_unit_zero hz2, View.ld_unit_zero hz2, View.ld_unit_zero hz2]
  refine congrArg (fun s => k0_pay3 _ s _) (funext fun y => ?_)
  show View.canon (tiles (halves (iblk m c 0 t) (iblk m c 1 t) (iblk m c 2 t) (iblk m c 3 t) (iblk m c 4 t) (iblk m c 5 t))
    (iblk m c 6 t) (iblk m c 7 t)) _ = _
  refine Eq.trans (congrArg _ ?_) (tiles_apply _ _ _ ⟨(y 0).val, (y 0).isLt⟩ ⟨(y 1).val, (y 1).isLt⟩)
  funext a
  apply Fin.ext
  rw [Rect.idx_unit_val]
  match a with
  | ⟨0, _⟩ => exact Nat.zero_add _
  | ⟨1, _⟩ => exact Nat.zero_add _

end Cert.MixInIdeal.Block

end
-- ==== Proof.MixArray.lean ====
/- What the in-projection call's four result arrays hold after the kernel's run: every block is one function of the
   arguments read at the block's place, and the blocks fill the arrays. -/
module

public import proofs.«01_k».proof.Proof.MixRead
public import Idealize.ShloMosaic.Lib.Pipeline.Value

@[expose] public section

noncomputable section

namespace Cert.MixInIdeal.Whole

open Cert.MixInIdeal Cert.MixInIdeal.Gen Cert.MixSpec Idealize.ShloMosaic Idealize.ShloMosaic.TcCoe Idealize.SL.Sem
open Cert.MixInIdeal.Block (rows halves mixedAt)
open Idealize.ShloMosaic.Pipeline (Dat)

set_option maxRecDepth 16384

variable (m : (ℓ : Loc nD τ sig) → Buf (Elt Ideal) ℓ) (ρ : Dev nD → PrngReg)

/-- Device `c`'s nine arguments. -/
abbrev a0 (c : Dev nD) : Vec Ideal S16x4096x1024 .f32 := m ((c : Thread nD τ).loc main_arg0)
abbrev a1 (c : Dev nD) : Vec Ideal S16x6x1024 .f32 := m ((c : Thread nD τ).loc main_arg1)
abbrev a2 (c : Dev nD) : Vec Ideal S1024 .f32 := m ((c : Thread nD τ).loc main_arg2)
abbrev a3 (c : Dev nD) : Vec Ideal S1024x2560 .f32 := m ((c : Thread nD τ).loc main_arg3)
abbrev a4 (c : Dev nD) : Vec Ideal S512 .f32 := m ((c : Thread nD τ).loc main_arg4)
abbrev a5 (c : Dev nD) : Vec Ideal S512 .f32 := m ((c : Thread nD τ).loc main_arg5)
abbrev a6 (c : Dev nD) : Vec Ideal S4x128x128 .f32 := m ((c : Thread nD τ).loc main_arg6)
abbrev a7 (c : Dev nD) : Vec Ideal S4x128 .f32 := m ((c : Thread nD τ).loc main_arg7)
abbrev a8 (c : Dev nD) : Vec Ideal S512 .f32 := m ((c : Thread nD τ).loc main_arg8)

def args (c : Dev nD) : Args where
  x b s e := a0 m c (ix3 b s e)
  md b i e := a1 m c (ix3 b i e)
  g e := a2 m c (ix1 e)
  w e j := a3 m c (ix2 e j)
  lg e := a4 m c (ix1 e)
  lb e := a5 m c (ix1 e)
  ws g t s := a6 m c (ix3 g t s)
  bs g t := a7 m c (ix2 g t)
  gs e := a8 m c (ix1 e)

/-- A result array of the arguments `A`, whole. -/
def array (A : Args) (o : Fin 4) : Vec Ideal S16x4096x512 .bf16 :=
  fun i => A.out o ⟨(i 0).val, (i 0).isLt⟩ ⟨(i 1).val, (i 1).isLt⟩ ⟨(i 2).val, (i 2).isLt⟩

theorem array_apply (A : Args) (o : Fin 4) (i : S16x4096x512.Idx) (b : Fin 16) (s : Fin 4096) (j : Fin 512)
    (h0 : (i 0).val = b.val) (h1 : (i 1).val = s.val) (h2 : (i 2).val = j.val) : array A o i = A.out o b s j := by
  have e0 : (⟨(i 0).val, (i 0).isLt⟩ : Fin 16) = b := Fin.ext h0
  have e1 : (⟨(i 1).val, (i 1).isLt⟩ : Fin 4096) = s := Fin.ext h1
  have e2 : (⟨(i 2).val, (i 2).isLt⟩ : Fin 512) = j := Fin.ext h2
  rw [← e0, ← e1, ← e2]
  rfl

/-- Where each window's block sits: eight points to a batch, each taking the next 512 of its tokens. -/
theorem index_pt : ∀ t : Fin cfg0.N,
    (win0_0.index t 0 = t.val / 8 ∧ win0_0.index t 1 = t.val % 8 ∧ win0_0.index t 2 = 0)
    ∧ (win0_1.index t 0 = t.val / 8 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0 ∧ win0_6.index t 2 = 0)
    ∧ (win0_7.index t 0 = 0 ∧ win0_7.index t 1 = 0)
    ∧ (win0_8.index t 0 = 0 ∧ win0_8.index t 1 = 0) :=
  (by decide +kernel : ∀ t : Fin grid0.N, _)

theorem index_pt9 : ∀ t : Fin cfg0.N, win0_9.index t 0 = t.val / 8 ∧ win0_9.index t 1 = t.val % 8 ∧ win0_9.index t 2 = 0 :=
  (by decide +kernel : ∀ t : Fin grid0.N, _)
theorem index_pt10 : ∀ t : Fin cfg0.N, win0_10.index t 0 = t.val / 8 ∧ win0_10.index t 1 = t.val % 8 ∧ win0_10.index t 2 = 0 :=
  (by decide +kernel : ∀ t : Fin grid0.N, _)
theorem index_pt11 : ∀ t : Fin cfg0.N, win0_11.index t 0 = t.val / 8 ∧ win0_11.index t 1 = t.val % 8 ∧ win0_11.index t 2 = 0 :=
  (by decide +kernel : ∀ t : Fin grid0.N, _)
theorem index_pt12 : ∀ t : Fin cfg0.N, win0_12.index t 0 = t.val / 8 ∧ win0_12.index t 1 = t.val % 8 ∧ win0_12.index t 2 = 0 :=
  (by decide +kernel : ∀ t : Fin grid0.N, _)

theorem lt_N (t : Fin cfg0.N) : t.val < 128 := t.isLt

/-- Point `t`'s batch, and the token row `r` of its block is. -/
abbrev bat (t : Fin cfg0.N) : Fin 16 := ⟨t.val / 8, by have := lt_N t; omega⟩
abbrev tok (t : Fin cfg0.N) (r : Fin 512) : Fin 4096 := ⟨t.val % 8 * 512 + r.val, by omega⟩

/-! The arguments the call reads through a host operation. -/

theorem V2 (c : Dev nD) (d : Fin 1024) : (V m c main_v0 : Vec Ideal S1x1024 .f32) (ix2 0 d) = a2 m c (ix1 d) := by
  have e : (V m c main_v0 : Vec Ideal S1x1024 .f32) = shapeCast S1x1024 (a2 m c) shapeCasts_S1024_S1x1024 := by
    unfold V hostOps0
    after_results_simp <;> rfl
  rw [e]
  pointwise

theorem V3 (c : Dev nD) (e : Fin 1024) (j : Fin 2560) : (V m c main_v1 : Vec Ideal S1024x2560 .bf16) (ix2 e j) = a3 m c (ix2 e j) := by
  have h : @Eq (FVec Ideal S1024x2560 .bf16) (V m c main_v1) (truncf (F := Ideal) .bf16 (a3 m c : FVec Ideal S1024x2560 .f32) bitsLt_bf16_f32) := by
    unfold V hostOps0
    after_results_simp <;> rfl
  rw [h]
  pointwise

theorem V4 (c : Dev nD) (d : Fin 512) : (V m c main_v2 : Vec Ideal S1x512 .f32) (ix2 0 d) = a4 m c (ix1 d) := by
  have e : (V m c main_v2 : Vec Ideal S1x512 .f32) = shapeCast S1x512 (a4 m c) shapeCasts_S512_S1x512 := by
    unfold V hostOps0
    after_results_simp <;> rfl
  rw [e]
  pointwise

theorem V5 (c : Dev nD) (d : Fin 512) : (V m c main_v3 : Vec Ideal S1x512 .f32) (ix2 0 d) = a5 m c (ix1 d) := by
  have e : (V m c main_v3 : Vec Ideal S1x512 .f32) = shapeCast S1x512 (a5 m c) shapeCasts_S512_S1x512 := by
    unfold V hostOps0
    after_results_simp <;> rfl
  rw [e]
  pointwise

theorem V7 (c : Dev nD) (t : Fin 128) (g : Fin 4) : (V m c main_v4 : Vec Ideal S128x4 .f32) (ix2 t g) = a7 m c (ix2 g t) := by
  have e : (V m c main_v4 : Vec Ideal S128x4 .f32) = transpose S128x4 [1, 0] (a7 m c) transposes_S4x128_S128x4_1_0 := by
    unfold V hostOps0
    after_results_simp <;> rfl
  rw [e]
  pointwise

theorem V8 (c : Dev nD) (d : Fin 512) : (V m c main_v5 : Vec Ideal S1x512 .f32) (ix2 0 d) = a8 m c (ix1 d) := by
  have e : (V m c main_v5 : Vec Ideal S1x512 .f32) = shapeCast S1x512 (a8 m c) shapeCasts_S512_S1x512 := by
    unfold V hostOps0
    after_results_simp <;> rfl
  rw [e]
  pointwise

/-! The nine blocks the body reads, at an element. -/

theorem blk0 (c : Dev nD) (t : Fin cfg0.N) (r : Fin 512) (d : Fin 1024) : (iblk m c 0 t : Vec Ideal S1x512x1024 .f32) (ix3 0 r d) = a0 m c (ix3 (bat t) (tok t r) d) := by
  unfold iblk
  rw [View.read_apply]
  show V m c main_arg0 _ = _
  rw [V_main_arg0]
  congr 1
  funext a
  apply Fin.ext
  match a with
  | ⟨0, _⟩ => show win0_0.index t 0 * 1 + 1 * 0 = t.val / 8; rw [(index_pt t).1.1]; omega
  | ⟨1, _⟩ => show win0_0.index t 1 * 512 + 1 * r.val = t.val % 8 * 512 + r.val; rw [(index_pt t).1.2.1]; omega
  | ⟨2, _⟩ => show win0_0.index t 2 * 1024 + 1 * d.val = d.val; rw [(index_pt t).1.2.2]; omega

theorem blk1 (c : Dev nD) (t : Fin cfg0.N) (i : Fin 6) (d : Fin 1024) : (iblk m c 1 t : Vec Ideal S1x6x1024 .f32) (ix3 0 i d) = a1 m c (ix3 (bat t) i d) := by
  unfold iblk
  rw [View.read_apply]
  show V m c main_arg1 _ = _
  rw [V_main_arg1]
  congr 1
  funext a
  apply Fin.ext
  match a with
  | ⟨0, _⟩ => show win0_1.index t 0 * 1 + 1 * 0 = t.val / 8; rw [(index_pt t).2.1.1]; omega
  | ⟨1, _⟩ => show win0_1.index t 1 * 6 + 1 * i.val = i.val; rw [(index_pt t).2.1.2.1]; omega
  | ⟨2, _⟩ => show win0_1.index t 2 * 1024 + 1 * d.val = d.val; rw [(index_pt t).2.1.2.2]; omega

theorem blk2 (c : Dev nD) (t : Fin cfg0.N) (d : Fin 1024) : (iblk m c 2 t : Vec Ideal S1x1024 .f32) (ix2 0 d) = a2 m c (ix1 d) := by
  rw [← V2]
  unfold iblk
  rw [View.read_apply]
  show V m c main_v0 _ = V m c main_v0 _
  congr 1
  funext a
  apply Fin.ext
  match a with
  | ⟨0, _⟩ => show win0_2.index t 0 * 1 + 1 * 0 = 0; rw [(index_pt t).2.2.1.1]
  | ⟨1, _⟩ => show win0_2.index t 1 * 1024 + 1 * d.val = d.val; rw [(index_pt t).2.2.1.2]; omega

theorem blk3 (c : Dev nD) (t : Fin cfg0.N) (e : Fin 1024) (j : Fin 2560) : (iblk m c 3 t : Vec Ideal S1024x2560 .bf16) (ix2 e j) = a3 m c (ix2 e j) := by
  rw [← V3]
  unfold iblk
  rw [View.read_apply]
  show V m c main_v1 _ = V m c main_v1 _
  congr 1
  funext a
  apply Fin.ext
  match a with
  | ⟨0, _⟩ => show win0_3.index t 0 * 1024 + 1 * e.val = e.val; rw [(index_pt t).2.2.2.1.1]; omega
  | ⟨1, _⟩ => show win0_3.index t 1 * 2560 + 1 * j.val = j.val; rw [(index_pt t).2.2.2.1.2]; omega

theorem blk4 (c : Dev nD) (t : Fin cfg0.N) (d : Fin 512) : (iblk m c 4 t : Vec Ideal S1x512 .f32) (ix2 0 d) = a4 m c (ix1 d) := by
  rw [← V4]
  unfold iblk
  rw [View.read_apply]
  show V m c main_v2 _ = V m c main_v2 _
  congr 1
  funext a
  apply Fin.ext
  match a with
  | ⟨0, _⟩ => show win0_4.index t 0 * 1 + 1 * 0 = 0; rw [(index_pt t).2.2.2.2.1.1]
  | ⟨1, _⟩ => show win0_4.index t 1 * 512 + 1 * d.val = d.val; rw [(index_pt t).2.2.2.2.1.2]; omega

theorem blk5 (c : Dev nD) (t : Fin cfg0.N) (d : Fin 512) : (iblk m c 5 t : Vec Ideal S1x512 .f32) (ix2 0 d) = a5 m c (ix1 d) := by
  rw [← V5]
  unfold iblk
  rw [View.read_apply]
  show V m c main_v3 _ = V m c main_v3 _
  congr 1
  funext a
  apply Fin.ext
  match a with
  | ⟨0, _⟩ => show win0_5.index t 0 * 1 + 1 * 0 = 0; rw [(index_pt t).2.2.2.2.2.1.1]
  | ⟨1, _⟩ => show win0_5.index t 1 * 512 + 1 * d.val = d.val; rw [(index_pt t).2.2.2.2.2.1.2]; omega

theorem blk6 (c : Dev nD) (t : Fin cfg0.N) (g : Fin 4) (i s : Fin 128) : (iblk m c 6 t : Vec Ideal S4x128x128 .f32) (ix3 g i s) = a6 m c (ix3 g i s) := by
  unfold iblk
  rw [View.read_apply]
  show V m c main_arg6 _ = _
  rw [V_main_arg6]
  congr 1
  funext a
  apply Fin.ext
  match a with
  | ⟨0, _⟩ => show win0_6.index t 0 * 4 + 1 * g.val = g.val; rw [(index_pt t).2.2.2.2.2.2.1.1]; omega
  | ⟨1, _⟩ => show win0_6.index t 1 * 128 + 1 * i.val = i.val; rw [(index_pt t).2.2.2.2.2.2.1.2.1]; omega
  | ⟨2, _⟩ => show win0_6.index t 2 * 128 + 1 * s.val = s.val; rw [(index_pt t).2.2.2.2.2.2.1.2.2]; omega

theorem blk7 (c : Dev nD) (t : Fin cfg0.N) (i : Fin 128) (g : Fin 4) : (iblk m c 7 t : Vec Ideal S128x4 .f32) (ix2 i g) = a7 m c (ix2 g i) := by
  rw [← V7]
  unfold iblk
  rw [View.read_apply]
  show V m c main_v4 _ = V m c main_v4 _
  congr 1
  funext a
  apply Fin.ext
  match a with
  | ⟨0, _⟩ => show win0_7.index t 0 * 128 + 1 * i.val = i.val; rw [(index_pt t).2.2.2.2.2.2.2.1.1]; omega
  | ⟨1, _⟩ => show win0_7.index t 1 * 4 + 1 * g.val = g.val; rw [(index_pt t).2.2.2.2.2.2.2.1.2]; omega

theorem blk8 (c : Dev nD) (t : Fin cfg0.N) (d : Fin 512) : (iblk m c 8 t : Vec Ideal S1x512 .f32) (ix2 0 d) = a8 m c (ix1 d) := by
  rw [← V8]
  unfold iblk
  rw [View.read_apply]
  show V m c main_v5 _ = V m c main_v5 _
  congr 1
  funext a
  apply Fin.ext
  match a with
  | ⟨0, _⟩ => show win0_8.index t 0 * 1 + 1 * 0 = 0; rw [(index_pt t).2.2.2.2.2.2.2.2.1]
  | ⟨1, _⟩ => show win0_8.index t 1 * 512 + 1 * d.val = d.val; rw [(index_pt t).2.2.2.2.2.2.2.2.2]; omega

theorem rows_pt (c : Dev nD) (t : Fin cfg0.N) (r : Fin 512) (d : Fin 1024) :
    rows (iblk m c 0 t) (iblk m c 1 t) (iblk m c 2 t) (ix2 r d) = (args m c).n (bat t) (tok t r) d := by
  unfold rows
  rw [Block.row_apply]
  unfold Args.n
  congr 1
  · exact funext fun e => blk0 m c t r e
  · exact funext fun e => blk2 m c t e
  · exact funext fun e => (View.ld_unit_apply_of (iblk m c 1 t : Vec Ideal S1x6x1024 .f32) _ _ _ _ (ix3 0 1 e)
      fun a => by fin_cases a <;> simp <;> rfl).trans (blk1 m c t 1 e)
  · exact funext fun e => (View.ld_unit_apply_of (iblk m c 1 t : Vec Ideal S1x6x1024 .f32) _ _ _ _ (ix3 0 0 e)
      fun a => by fin_cases a <;> simp <;> rfl).trans (blk1 m c t 0 e)

/-- The product of a row with 512 columns from column `o` on. -/
theorem cols_pt (c : Dev nD) (t : Fin cfg0.N) (o : Nat) (ho : o + 512 ≤ 2560) (inb) (r j : Fin 512) :
    ∑ e : Fin 1024, rows (iblk m c 0 t) (iblk m c 1 t) (iblk m c 2 t) (ix2 r e)
        * (View.ld (iblk m c 3 t : Vec Ideal S1024x2560 .bf16) (Rect.unit ![0, o] S1024x512.size inb) : Vec Ideal S1024x512 .bf16) (ix2 e j)
      = (args m c).p (bat t) (tok t r) ⟨o + j.val, by omega⟩ := by
  unfold Args.p proj
  refine Finset.sum_congr rfl fun e _ => ?_
  rw [rows_pt]
  congr 1
  refine (View.ld_unit_apply_of (iblk m c 3 t : Vec Ideal S1024x2560 .bf16) _ _ _ _ (ix2 e ⟨o + j.val, by omega⟩) fun a => ?_).trans
    (blk3 m c t e _)
  fin_cases a
  · exact (Nat.zero_add _).symm
  · rfl

theorem halves_pt (c : Dev nD) (t : Fin cfg0.N) (r j : Fin 512) :
    halves (iblk m c 0 t) (iblk m c 1 t) (iblk m c 2 t) (iblk m c 3 t) (iblk m c 4 t) (iblk m c 5 t) (ix2 r j)
      = (args m c).z (bat t) (tok t r) j := by
  unfold halves
  rw [Block.layer_apply]
  unfold Args.z
  congr 1
  · funext e
    rw [Block.z_apply]
    exact congrArg gelu (cols_pt m c t 2048 (by omega) _ r e)
  · exact funext fun e => blk4 m c t e
  · exact funext fun e => blk5 m c t e

theorem mixed_pt (c : Dev nD) (t : Fin cfg0.N) (r j : Fin 512) :
    mixedAt (halves (iblk m c 0 t) (iblk m c 1 t) (iblk m c 2 t) (iblk m c 3 t) (iblk m c 4 t) (iblk m c 5 t))
      (iblk m c 6 t) (iblk m c 7 t) r j = (args m c).m (bat t) (tok t r) j := by
  unfold mixedAt Args.m
  have e1 : (⟨(tok t r).val % 128, by omega⟩ : Fin 128) = ⟨r.val % 128, by omega⟩ := Fin.ext (by dsimp only; omega)
  refine mixed_congr e1.symm (fun s => (blk6 m c t _ _ s).trans ?_) (fun s => (halves_pt m c t _ _).trans ?_) ((blk7 m c t _ _).trans ?_)
  · show _ = a6 m c (ix3 _ ⟨(tok t r).val % 128, _⟩ s)
    rw [e1]
  · refine congrArg (fun k => (args m c).z (bat t) k j) (Fin.ext ?_)
    dsimp only; omega
  · show _ = a7 m c (ix2 _ ⟨(tok t r).val % 128, _⟩)
    rw [e1]

theorem q_pt (c : Dev nD) (t : Fin cfg0.N) (r j : Fin 512) :
    (outsAt0 m c t).1 (ix3 0 r j) = (args m c).out 0 (bat t) (tok t r) j := by
  rw [Block.q_read]
  rw [Block.q_apply]
  show (∑ e : Fin 1024, rows (iblk m c 0 t) (iblk m c 1 t) (iblk m c 2 t) (ix2 r e) * _) * _ = _
  rw [cols_pt m c t 0 (by omega) _ r j]
  show (args m c).p _ _ _ * _ = (args m c).p _ _ _ * _
  congr 2
  exact Fin.ext (Nat.zero_add _)

theorem k_pt (c : Dev nD) (t : Fin cfg0.N) (r j : Fin 512) :
    (outsAt0 m c t).2.1 (ix3 0 r j) = (args m c).out 1 (bat t) (tok t r) j := by
  rw [Block.k_read]
  rw [Block.k_apply]
  exact cols_pt m c t 512 (by omega) _ r j

theorem v_pt (c : Dev nD) (t : Fin cfg0.N) (r j : Fin 512) :
    (outsAt0 m c t).2.2.1 (ix3 0 r j) = (args m c).out 2 (bat t) (tok t r) j := by
  rw [Block.v_read]
  rw [Block.v_apply]
  exact cols_pt m c t 1024 (by omega) _ r j

theorem s_pt (c : Dev nD) (t : Fin cfg0.N) (r j : Fin 512) :
    (outsAt0 m c t).2.2.2 (ix3 0 r j) = (args m c).out 3 (bat t) (tok t r) j := by
  rw [Block.s_read]
  rw [Block.sgu_apply]
  show _ = (args m c).s _ _ _
  unfold Args.s
  congr 1
  · funext e
    rw [Block.u_apply]
    exact congrArg₂ (· * ·) (congrArg gelu (cols_pt m c t 1536 (by omega) _ r e)) (mixed_pt m c t r e)
  · exact funext fun e => blk8 m c t e

/-- Point `t` writes back its block of result 0. -/
theorem flushed_q (c : Dev nD) (t : Fin cfg0.N) :
    (dats m 0 c).flushed 9 t = (win0_9.blk t).view.read (Elt Ideal) (array (args m c) 0) := by
  rw [Value.flushed9]
  funext y
  obtain ⟨b, r, j, rfl⟩ : ∃ (b : Fin 1) (r : Fin 512) (j : Fin 512), y = ix3 b r j := ⟨y 0, y 1, y 2, eq_ix3 y⟩
  obtain rfl : b = 0 := Subsingleton.elim _ _
  rw [View.read_apply]
  show (outsAt0 m c t).1 (ix3 0 r j) = array (args m c) 0 _
  have er : array (args m c) 0 ((win0_9.blk t).view.emb (ix3 0 r j)) = (args m c).out 0 (bat t) (tok t r) j := by
    refine array_apply _ _ _ _ _ _ ?_ ?_ ?_
    · show win0_9.index t 0 * 1 + 1 * 0 = t.val / 8; rw [(index_pt9 t).1]; omega
    · show win0_9.index t 1 * 512 + 1 * r.val = t.val % 8 * 512 + r.val; rw [(index_pt9 t).2.1]; omega
    · show win0_9.index t 2 * 512 + 1 * j.val = j.val; rw [(index_pt9 t).2.2]; omega
  exact (q_pt m c t r j).trans er.symm

theorem mem_q (t : Fin cfg0.N) (i : S16x4096x512.Idx) (h0 : (i 0 : Nat) = t.val / 8) (h1 : (i 1 : Nat) / 512 = t.val % 8) :
    i ∈ ((cfg0.win 9).blk t).view.set := by
  show i ∈ ((View.whole main_v6_0).slice (win0_9.rect t)).set
  rw [View.set_slice_whole, Rect.mem_set_unit]
  have h2 : (i 2 : Nat) < 512 := (i 2).isLt
  intro a
  match a with
  | ⟨0, _⟩ =>
    show win0_9.index t 0 * 1 ≤ (i 0 : Nat) ∧ (i 0 : Nat) < win0_9.index t 0 * 1 + 1
    rw [(index_pt9 t).1]; omega
  | ⟨1, _⟩ =>
    show win0_9.index t 1 * 512 ≤ (i 1 : Nat) ∧ (i 1 : Nat) < win0_9.index t 1 * 512 + 512
    rw [(index_pt9 t).2.1]; omega
  | ⟨2, _⟩ =>
    show win0_9.index t 2 * 512 ≤ (i 2 : Nat) ∧ (i 2 : Nat) < win0_9.index t 2 * 512 + 512
    rw [(index_pt9 t).2.2]; omega

theorem cover_q (i : S16x4096x512.Idx) : ∃ t : Fin cfg0.N, (cfg0.win 9).flush t = true ∧ i ∈ ((cfg0.win 9).blk t).view.set := by
  have h0 : (i 0 : Nat) < 16 := (i 0).isLt
  have h1 : (i 1 : Nat) < 4096 := (i 1).isLt
  have hN : cfg0.N = 128 := rfl
  refine ⟨⟨(i 0 : Nat) * 8 + (i 1 : Nat) / 512, by omega⟩, flush0_9 _, mem_q _ i ?_ ?_⟩ <;> dsimp only <;> omega

/-- Point `t` writes back its block of result 1. -/
theorem flushed_k (c : Dev nD) (t : Fin cfg0.N) :
    (dats m 0 c).flushed 10 t = (win0_10.blk t).view.read (Elt Ideal) (array (args m c) 1) := by
  rw [Value.flushed10]
  funext y
  obtain ⟨b, r, j, rfl⟩ : ∃ (b : Fin 1) (r : Fin 512) (j : Fin 512), y = ix3 b r j := ⟨y 0, y 1, y 2, eq_ix3 y⟩
  obtain rfl : b = 0 := Subsingleton.elim _ _
  rw [View.read_apply]
  show (outsAt0 m c t).2.1 (ix3 0 r j) = array (args m c) 1 _
  have er : array (args m c) 1 ((win0_10.blk t).view.emb (ix3 0 r j)) = (args m c).out 1 (bat t) (tok t r) j := by
    refine array_apply _ _ _ _ _ _ ?_ ?_ ?_
    · show win0_10.index t 0 * 1 + 1 * 0 = t.val / 8; rw [(index_pt10 t).1]; omega
    · show win0_10.index t 1 * 512 + 1 * r.val = t.val % 8 * 512 + r.val; rw [(index_pt10 t).2.1]; omega
    · show win0_10.index t 2 * 512 + 1 * j.val = j.val; rw [(index_pt10 t).2.2]; omega
  exact (k_pt m c t r j).trans er.symm

theorem mem_k (t : Fin cfg0.N) (i : S16x4096x512.Idx) (h0 : (i 0 : Nat) = t.val / 8) (h1 : (i 1 : Nat) / 512 = t.val % 8) :
    i ∈ ((cfg0.win 10).blk t).view.set := by
  show i ∈ ((View.whole main_v6_1).slice (win0_10.rect t)).set
  rw [View.set_slice_whole, Rect.mem_set_unit]
  have h2 : (i 2 : Nat) < 512 := (i 2).isLt
  intro a
  match a with
  | ⟨0, _⟩ =>
    show win0_10.index t 0 * 1 ≤ (i 0 : Nat) ∧ (i 0 : Nat) < win0_10.index t 0 * 1 + 1
    rw [(index_pt10 t).1]; omega
  | ⟨1, _⟩ =>
    show win0_10.index t 1 * 512 ≤ (i 1 : Nat) ∧ (i 1 : Nat) < win0_10.index t 1 * 512 + 512
    rw [(index_pt10 t).2.1]; omega
  | ⟨2, _⟩ =>
    show win0_10.index t 2 * 512 ≤ (i 2 : Nat) ∧ (i 2 : Nat) < win0_10.index t 2 * 512 + 512
    rw [(index_pt10 t).2.2]; omega

theorem cover_k (i : S16x4096x512.Idx) : ∃ t : Fin cfg0.N, (cfg0.win 10).flush t = true ∧ i ∈ ((cfg0.win 10).blk t).view.set := by
  have h0 : (i 0 : Nat) < 16 := (i 0).isLt
  have h1 : (i 1 : Nat) < 4096 := (i 1).isLt
  have hN : cfg0.N = 128 := rfl
  refine ⟨⟨(i 0 : Nat) * 8 + (i 1 : Nat) / 512, by omega⟩, flush0_10 _, mem_k _ i ?_ ?_⟩ <;> dsimp only <;> omega

/-- Point `t` writes back its block of result 2. -/
theorem flushed_v (c : Dev nD) (t : Fin cfg0.N) :
    (dats m 0 c).flushed 11 t = (win0_11.blk t).view.read (Elt Ideal) (array (args m c) 2) := by
  rw [Value.flushed11]
  funext y
  obtain ⟨b, r, j, rfl⟩ : ∃ (b : Fin 1) (r : Fin 512) (j : Fin 512), y = ix3 b r j := ⟨y 0, y 1, y 2, eq_ix3 y⟩
  obtain rfl : b = 0 := Subsingleton.elim _ _
  rw [View.read_apply]
  show (outsAt0 m c t).2.2.1 (ix3 0 r j) = array (args m c) 2 _
  have er : array (args m c) 2 ((win0_11.blk t).view.emb (ix3 0 r j)) = (args m c).out 2 (bat t) (tok t r) j := by
    refine array_apply _ _ _ _ _ _ ?_ ?_ ?_
    · show win0_11.index t 0 * 1 + 1 * 0 = t.val / 8; rw [(index_pt11 t).1]; omega
    · show win0_11.index t 1 * 512 + 1 * r.val = t.val % 8 * 512 + r.val; rw [(index_pt11 t).2.1]; omega
    · show win0_11.index t 2 * 512 + 1 * j.val = j.val; rw [(index_pt11 t).2.2]; omega
  exact (v_pt m c t r j).trans er.symm

theorem mem_v (t : Fin cfg0.N) (i : S16x4096x512.Idx) (h0 : (i 0 : Nat) = t.val / 8) (h1 : (i 1 : Nat) / 512 = t.val % 8) :
    i ∈ ((cfg0.win 11).blk t).view.set := by
  show i ∈ ((View.whole main_v6_2).slice (win0_11.rect t)).set
  rw [View.set_slice_whole, Rect.mem_set_unit]
  have h2 : (i 2 : Nat) < 512 := (i 2).isLt
  intro a
  match a with
  | ⟨0, _⟩ =>
    show win0_11.index t 0 * 1 ≤ (i 0 : Nat) ∧ (i 0 : Nat) < win0_11.index t 0 * 1 + 1
    rw [(index_pt11 t).1]; omega
  | ⟨1, _⟩ =>
    show win0_11.index t 1 * 512 ≤ (i 1 : Nat) ∧ (i 1 : Nat) < win0_11.index t 1 * 512 + 512
    rw [(index_pt11 t).2.1]; omega
  | ⟨2, _⟩ =>
    show win0_11.index t 2 * 512 ≤ (i 2 : Nat) ∧ (i 2 : Nat) < win0_11.index t 2 * 512 + 512
    rw [(index_pt11 t).2.2]; omega

theorem cover_v (i : S16x4096x512.Idx) : ∃ t : Fin cfg0.N, (cfg0.win 11).flush t = true ∧ i ∈ ((cfg0.win 11).blk t).view.set := by
  have h0 : (i 0 : Nat) < 16 := (i 0).isLt
  have h1 : (i 1 : Nat) < 4096 := (i 1).isLt
  have hN : cfg0.N = 128 := rfl
  refine ⟨⟨(i 0 : Nat) * 8 + (i 1 : Nat) / 512, by omega⟩, flush0_11 _, mem_v _ i ?_ ?_⟩ <;> dsimp only <;> omega

/-- Point `t` writes back its block of result 3. -/
theorem flushed_s (c : Dev nD) (t : Fin cfg0.N) :
    (dats m 0 c).flushed 12 t = (win0_12.blk t).view.read (Elt Ideal) (array (args m c) 3) := by
  rw [Value.flushed12]
  funext y
  obtain ⟨b, r, j, rfl⟩ : ∃ (b : Fin 1) (r : Fin 512) (j : Fin 512), y = ix3 b r j := ⟨y 0, y 1, y 2, eq_ix3 y⟩
  obtain rfl : b = 0 := Subsingleton.elim _ _
  rw [View.read_apply]
  show (outsAt0 m c t).2.2.2 (ix3 0 r j) = array (args m c) 3 _
  have er : array (args m c) 3 ((win0_12.blk t).view.emb (ix3 0 r j)) = (args m c).out 3 (bat t) (tok t r) j := by
    refine array_apply _ _ _ _ _ _ ?_ ?_ ?_
    · show win0_12.index t 0 * 1 + 1 * 0 = t.val / 8; rw [(index_pt12 t).1]; omega
    · show win0_12.index t 1 * 512 + 1 * r.val = t.val % 8 * 512 + r.val; rw [(index_pt12 t).2.1]; omega
    · show win0_12.index t 2 * 512 + 1 * j.val = j.val; rw [(index_pt12 t).2.2]; omega
  exact (s_pt m c t r j).trans er.symm

theorem mem_s (t : Fin cfg0.N) (i : S16x4096x512.Idx) (h0 : (i 0 : Nat) = t.val / 8) (h1 : (i 1 : Nat) / 512 = t.val % 8) :
    i ∈ ((cfg0.win 12).blk t).view.set := by
  show i ∈ ((View.whole main_v6_3).slice (win0_12.rect t)).set
  rw [View.set_slice_whole, Rect.mem_set_unit]
  have h2 : (i 2 : Nat) < 512 := (i 2).isLt
  intro a
  match a with
  | ⟨0, _⟩ =>
    show win0_12.index t 0 * 1 ≤ (i 0 : Nat) ∧ (i 0 : Nat) < win0_12.index t 0 * 1 + 1
    rw [(index_pt12 t).1]; omega
  | ⟨1, _⟩ =>
    show win0_12.index t 1 * 512 ≤ (i 1 : Nat) ∧ (i 1 : Nat) < win0_12.index t 1 * 512 + 512
    rw [(index_pt12 t).2.1]; omega
  | ⟨2, _⟩ =>
    show win0_12.index t 2 * 512 ≤ (i 2 : Nat) ∧ (i 2 : Nat) < win0_12.index t 2 * 512 + 512
    rw [(index_pt12 t).2.2]; omega

theorem cover_s (i : S16x4096x512.Idx) : ∃ t : Fin cfg0.N, (cfg0.win 12).flush t = true ∧ i ∈ ((cfg0.win 12).blk t).view.set := by
  have h0 : (i 0 : Nat) < 16 := (i 0).isLt
  have h1 : (i 1 : Nat) < 4096 := (i 1).isLt
  have hN : cfg0.N = 128 := rfl
  refine ⟨⟨(i 0 : Nat) * 8 + (i 1 : Nat) / 512, by omega⟩, flush0_12 _, mem_s _ i ?_ ?_⟩ <;> dsimp only <;> omega

/-- The run, read: the four result arrays hold the functions above, the arguments are unchanged. -/
theorem run : θ_run defs (onTc (τ := τ) (main (F := Ideal))) ⟨m, fun _ => 0, ρ⟩ fun r => ∀ c : Dev nD,
      r.2.mem ((c : Thread nD τ).loc main_v6_0) = array (args m c) 0
      ∧ r.2.mem ((c : Thread nD τ).loc main_v6_1) = array (args m c) 1
      ∧ r.2.mem ((c : Thread nD τ).loc main_v6_2) = array (args m c) 2
      ∧ r.2.mem ((c : Thread nD τ).loc main_v6_3) = array (args m c) 3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
      ⟨(h c).1.trans ((dats m 0 c).arrAt_eq_of_cover 9 (array (args m c) 0) (fun t _ => flushed_q m c t) cover_q),
        (h c).2.1.trans ((dats m 0 c).arrAt_eq_of_cover 10 (array (args m c) 1) (fun t _ => flushed_k m c t) cover_k),
        (h c).2.2.1.trans ((dats m 0 c).arrAt_eq_of_cover 11 (array (args m c) 2) (fun t _ => flushed_v m c t) cover_v),
        (h c).2.2.2.1.trans ((dats m 0 c).arrAt_eq_of_cover 12 (array (args m c) 3) (fun t _ => flushed_s m c t) cover_s),
        (h c).2.2.2.2⟩)
    (Value.run_blocks m ρ)

end Cert.MixInIdeal.Whole

end
-- ==== Proof.MixRef.lean ====
/- The reference's four arrays of the in-projection call, element by element, over the extended reals. -/
module

public import proofs.«01_k».proof.Proof.Gen.MixInReferenceIdeal.Run
public import proofs.«01_k».proof.Proof.MixSpec
public import Idealize.ShloMosaic.Lib.Pointwise

@[expose] public section

noncomputable section

namespace Cert.MixInReferenceIdeal.Whole

open Cert.MixInReferenceIdeal Cert.MixInReferenceIdeal.Gen Cert.MixInReferenceIdeal.Value Cert.MixSpec
open Idealize.ShloMosaic Idealize.ShloMosaic.TcCoe Idealize.ShloMosaic.StableHlo

set_option maxRecDepth 16384
set_option maxHeartbeats 4000000

/-- The normed and modulated rows. -/
abbrev rows (x0 : Vec Ideal S16x4096x1024 .f32) (x1 : Vec Ideal S16x6x1024 .f32) (x2 : Vec Ideal S1024 .f32) : FVec Ideal S16x4096x1024 .f32 :=
  addf (mulf (mulf (mulf x0 (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x0 x0) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 x2))) (broadcastInDim S16x4096x1024 ![0, 1, 2] bcast_S16x1x1024_S16x4096x1024_0_1_2 (addf (broadcastInDim S16x1x1024 ![] bcast_S_S16x1x1024 (constant S_ .f32 0x3F800000#32)) (broadcastInDim S16x1x1024 ![0, 2] bcast_S16x1024_S16x1x1024_0_2 (shapeCast _ (extractStridedSlice S16x1x1024 ![0, 1, 0] x1 slices_S16x6x1024_S16x1x1024_0_1_0) shapeCasts_S16x1x1024_S16x1024))))) (broadcastInDim S16x4096x1024 ![0, 1, 2] bcast_S16x1x1024_S16x4096x1024_0_1_2 (broadcastInDim S16x1x1024 ![0, 2] bcast_S16x1024_S16x1x1024_0_2 (shapeCast _ (extractStridedSlice S16x1x1024 ![0, 0, 0] x1 slices_S16x6x1024_S16x1x1024_0_0_0) shapeCasts_S16x1x1024_S16x1024)))

theorem rows_apply (x0 : Vec Ideal S16x4096x1024 .f32) (x1 : Vec Ideal S16x6x1024 .f32) (x2 : Vec Ideal S1024 .f32)
    (b : Fin 16) (s : Fin 4096) (d : Fin 1024) :
    rows x0 x1 x2 (ix3 b s d) = row (fun e => x0 (ix3 b s e)) (fun e => x2 (ix1 e)) (fun e => x1 (ix3 b 1 e)) (fun e => x1 (ix3 b 0 e)) d := by
  unfold rows
  pointwise [row]

/-- Their projection. -/
abbrev projected (n : FVec Ideal S16x4096x1024 .f32) (x3 : Vec Ideal S1024x2560 .f32) : FVec Ideal S16x4096x2560 .f32 :=
  Host.dotGeneral (F := Ideal) (φ₁ := .f32) (φ₂ := .f32) dot_S16x4096x1024_S1024x2560_S16x4096x2560_2_0_01_1_n_n none n x3

theorem projected_apply (n : FVec Ideal S16x4096x1024 .f32) (x3 : Vec Ideal S1024x2560 .f32) (b : Fin 16) (s : Fin 4096) (j : Fin 2560) :
    projected n x3 (ix3 b s j) = proj (fun e => n (ix3 b s e)) (fun e j => x3 (ix2 e j)) j := by
  unfold projected
  pointwise [proj]

/-- The gate, elementwise. -/
abbrev gated (z : FVec Ideal S16x4096x512 .f32) : FVec Ideal S16x4096x512 .f32 :=
  mulf z (mulf (broadcastInDim S16x4096x512 ![] bcast_S_S16x4096x512 (constant S_ .f32 0x3F000000#32)) (addf (broadcastInDim S16x4096x512 ![] bcast_S_S16x4096x512 (constant S_ .f32 0x3F800000#32)) (Host.tanh (mulf (broadcastInDim S16x4096x512 ![] bcast_S_S16x4096x512 (constant S_ .f32 0x3F4C422A#32)) (addf z (mulf (broadcastInDim S16x4096x512 ![] bcast_S_S16x4096x512 (constant S_ .f32 0x3D372713#32)) (mulf (mulf z z) z)))))))

theorem gated_apply (z : FVec Ideal S16x4096x512 .f32) (i : S16x4096x512.Idx) : gated z i = gelu (z i) := by
  obtain ⟨b, s, j, rfl⟩ : ∃ (b : Fin 16) (s : Fin 4096) (j : Fin 512), i = ix3 b s j := ⟨i 0, i 1, i 2, eq_ix3 i⟩
  unfold gated
  pointwise [gelu]
  generalize z (ix3 b s j) = y
  rw [← mul_assoc, mul_comm y]

/-- The rows minus their means. -/
abbrev centre (z : FVec Ideal S16x4096x512 .f32) : FVec Ideal S16x4096x512 .f32 :=
  subf z (broadcastInDim S16x4096x512 ![0, 1, 2] bcast_S16x4096x1_S16x4096x512_0_1_2 (Host.divf (broadcastInDim S16x4096x1 ![0, 1] bcast_S16x4096_S16x4096x1_0_1 (Host.reduceAdd z (constant S_ .f32 0x00000000#32) reducesTo_S16x4096x512_S16x4096_d2 h_S_)) (broadcastInDim S16x4096x1 ![] bcast_S_S16x4096x1 (constant S_ .f32 0x44000000#32))))

theorem centre_apply (z : FVec Ideal S16x4096x512 .f32) (b : Fin 16) (s : Fin 4096) (j : Fin 512) :
    centre z (ix3 b s j) = centred (fun e => z (ix3 b s e)) j := by
  unfold centre
  pointwise [centred]

/-- Scaled to unit variance, weighted and shifted. -/
abbrev scaled (z : FVec Ideal S16x4096x512 .f32) (x4 x5 : Vec Ideal S512 .f32) : FVec Ideal S16x4096x512 .f32 :=
  addf (mulf (mulf z (broadcastInDim S16x4096x512 ![0, 1, 2] bcast_S16x4096x1_S16x4096x512_0_1_2 (Host.rsqrt (addf (Host.divf (broadcastInDim S16x4096x1 ![0, 1] bcast_S16x4096_S16x4096x1_0_1 (Host.reduceAdd (mulf z z) (constant S_ .f32 0x00000000#32) reducesTo_S16x4096x512_S16x4096_d2 h_S_)) (broadcastInDim S16x4096x1 ![] bcast_S_S16x4096x1 (constant S_ .f32 0x44000000#32))) (broadcastInDim S16x4096x1 ![] bcast_S_S16x4096x1 (constant S_ .f32 0x358637BD#32)))))) (broadcastInDim S16x4096x512 ![0, 1, 2] bcast_S1x1x512_S16x4096x512_0_1_2 (broadcastInDim S1x1x512 ![2] bcast_S512_S1x1x512_2 x4))) (broadcastInDim S16x4096x512 ![0, 1, 2] bcast_S1x1x512_S16x4096x512_0_1_2 (broadcastInDim S1x1x512 ![2] bcast_S512_S1x1x512_2 x5))

theorem scaled_apply (z : FVec Ideal S16x4096x512 .f32) (x4 x5 : Vec Ideal S512 .f32) (b : Fin 16) (s : Fin 4096) (j : Fin 512) :
    scaled (centre z) x4 x5 (ix3 b s j) = layer (fun e => z (ix3 b s e)) (fun e => x4 (ix1 e)) (fun e => x5 (ix1 e)) j := by
  unfold layer
  simp only [← centre_apply]
  unfold scaled
  generalize centre z = q
  pointwise

/-- The rows mixed along their chunks. -/
abbrev mix (z : FVec Ideal S16x4096x512 .f32) (x6 : Vec Ideal S4x128x128 .f32) (x7 : Vec Ideal S4x128 .f32) : FVec Ideal S16x4096x512 .f32 :=
  shapeCast _ (addf (transpose S16x32x128x4x128 [1, 2, 4, 0, 3] (Host.dotGeneral dot_S16x32x128x4x128_S4x128x128_S4x16x32x128x128_2_2_014_1_3_0 none (shapeCast _ z shapeCasts_S16x4096x512_S16x32x128x4x128) (mulf x6 (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))) transposes_S4x16x32x128x128_S16x32x128x4x128_1_2_4_0_3) (broadcastInDim S16x32x128x4x128 ![0, 1, 2, 3, 4] bcast_S1x1x128x4x1_S16x32x128x4x128_0_1_2_3_4 (broadcastInDim S1x1x128x4x1 ![2, 3] bcast_S128x4_S1x1x128x4x1_2_3 (transpose S128x4 [1, 0] x7 transposes_S4x128_S128x4_1_0)))) shapeCasts_S16x32x128x4x128_S16x4096x512

theorem mix_apply (z : FVec Ideal S16x4096x512 .f32) (x6 : Vec Ideal S4x128x128 .f32) (x7 : Vec Ideal S4x128 .f32)
    (b : Fin 16) (s : Fin 4096) (j : Fin 512) :
    mix z x6 x7 (ix3 b s j) = mixed ⟨s.val % 128, by omega⟩ (fun t => x6 (ix3 ⟨j.val / 128, by omega⟩ ⟨s.val % 128, by omega⟩ t))
      (fun t => z (ix3 b ⟨s.val / 128 * 128 + t.val, by omega⟩ j)) (x7 (ix2 ⟨j.val / 128, by omega⟩ ⟨s.val % 128, by omega⟩)) := by
  unfold mix
  pointwise [mixed]
  refine congrArg (· + _) (Finset.sum_congr rfl fun t _ => ?_)
  have e : IntOp.addi (BitVec.ofNat 32 (s.val % 128)) 0#32 = BitVec.ofNat 32 (s.val % 128) := BitVec.add_zero _
  rw [e]
  refine (select_le ⟨s.val % 128, by omega⟩ t _ _).trans ?_
  by_cases h : t.val ≤ s.val % 128
  · rw [if_pos h, if_pos h, mul_comm]
  · rw [if_neg h, if_neg h, zero_mul]

/-- The last norm. -/
abbrev final (h : FVec Ideal S16x4096x512 .f32) (x8 : Vec Ideal S512 .f32) : FVec Ideal S16x4096x512 .f32 :=
  mulf (mulf h (broadcastInDim S16x4096x512 ![0, 1, 2] bcast_S16x4096x1_S16x4096x512_0_1_2 (Host.rsqrt (addf (Host.divf (broadcastInDim S16x4096x1 ![0, 1] bcast_S16x4096_S16x4096x1_0_1 (Host.reduceAdd (mulf h h) (constant S_ .f32 0x00000000#32) reducesTo_S16x4096x512_S16x4096_d2 h_S_)) (broadcastInDim S16x4096x1 ![] bcast_S_S16x4096x1 (constant S_ .f32 0x44000000#32))) (broadcastInDim S16x4096x1 ![] bcast_S_S16x4096x1 (constant S_ .f32 0x358637BD#32)))))) (broadcastInDim S16x4096x512 ![0, 1, 2] bcast_S1x1x512_S16x4096x512_0_1_2 (broadcastInDim S1x1x512 ![2] bcast_S512_S1x1x512_2 x8))

theorem final_apply (h : FVec Ideal S16x4096x512 .f32) (x8 : Vec Ideal S512 .f32) (b : Fin 16) (s : Fin 4096) (j : Fin 512) :
    final h x8 (ix3 b s j) = normed (fun e => h (ix3 b s e)) (fun e => x8 (ix1 e)) j := by
  unfold final
  pointwise [normed]

/-- The arguments, by their places. -/
def args (x0 : Vec Ideal S16x4096x1024 .f32) (x1 : Vec Ideal S16x6x1024 .f32) (x2 : Vec Ideal S1024 .f32) (x3 : Vec Ideal S1024x2560 .f32)
    (x4 x5 : Vec Ideal S512 .f32) (x6 : Vec Ideal S4x128x128 .f32) (x7 : Vec Ideal S4x128 .f32) (x8 : Vec Ideal S512 .f32) : Args where
  x b s e := x0 (ix3 b s e)
  md b i e := x1 (ix3 b i e)
  g e := x2 (ix1 e)
  w e j := x3 (ix2 e j)
  lg e := x4 (ix1 e)
  lb e := x5 (ix1 e)
  ws g t s := x6 (ix3 g t s)
  bs g t := x7 (ix2 g t)
  gs e := x8 (ix1 e)

section Results
variable (V0 : Valuation τ sig (Elt Ideal))
  (x0 : Vec Ideal S16x4096x1024 .f32) (x1 : Vec Ideal S16x6x1024 .f32) (x2 : Vec Ideal S1024 .f32) (x3 : Vec Ideal S1024x2560 .f32)
  (x4 x5 : Vec Ideal S512 .f32) (x6 : Vec Ideal S4x128x128 .f32) (x7 : Vec Ideal S4x128 .f32) (x8 : Vec Ideal S512 .f32)

theorem projected_args (b : Fin 16) (s : Fin 4096) (j : Fin 2560) :
    projected (rows x0 x1 x2) x3 (ix3 b s j) = (args x0 x1 x2 x3 x4 x5 x6 x7 x8).p b s j := by
  rw [projected_apply]
  unfold Args.p Args.n
  exact congrArg (fun n => proj n _ j) (funext fun e => rows_apply x0 x1 x2 b s e)

/-- Columns `o` to `o + 511` of the projection. -/
theorem slice_apply (o : Nat) (ho : o + 512 ≤ 2560) (p : FVec Ideal S16x4096x2560 .f32) (h : S16x4096x2560.Slices ![0, 0, o] S16x4096x512)
    (b : Fin 16) (s : Fin 4096) (j : Fin 512) :
    extractStridedSlice S16x4096x512 ![0, 0, o] p h (ix3 b s j) = p (ix3 b s ⟨o + j.val, by omega⟩) := by
  refine congrArg p (funext fun a => Fin.ext ?_)
  match a with
  | ⟨0, _⟩ => exact Nat.zero_add _
  | ⟨1, _⟩ => exact Nat.zero_add _
  | ⟨2, _⟩ => rfl

theorem v25_apply (h0 : V0 (Proc.devRef .tc main_arg0) = x0) (h1 : V0 (Proc.devRef .tc main_arg1) = x1) (h2 : V0 (Proc.devRef .tc main_arg2) = x2) (h3 : V0 (Proc.devRef .tc main_arg3) = x3) (h4 : V0 (Proc.devRef .tc main_arg4) = x4) (h5 : V0 (Proc.devRef .tc main_arg5) = x5) (h6 : V0 (Proc.devRef .tc main_arg6) = x6) (h7 : V0 (Proc.devRef .tc main_arg7) = x7) (h8 : V0 (Proc.devRef .tc main_arg8) = x8) (b : Fin 16) (s : Fin 4096) (j : Fin 2560) :
    res_main_v25 V0 (ix3 b s j) = (args x0 x1 x2 x3 x4 x5 x6 x7 x8).p b s j := by
  rw [← projected_args, ← h0, ← h1, ← h2, ← h3]
  rfl

theorem v30_apply (h0 : V0 (Proc.devRef .tc main_arg0) = x0) (h1 : V0 (Proc.devRef .tc main_arg1) = x1) (h2 : V0 (Proc.devRef .tc main_arg2) = x2) (h3 : V0 (Proc.devRef .tc main_arg3) = x3) (h4 : V0 (Proc.devRef .tc main_arg4) = x4) (h5 : V0 (Proc.devRef .tc main_arg5) = x5) (h6 : V0 (Proc.devRef .tc main_arg6) = x6) (h7 : V0 (Proc.devRef .tc main_arg7) = x7) (h8 : V0 (Proc.devRef .tc main_arg8) = x8) (b : Fin 16) (s : Fin 4096) (j : Fin 512) :
    res_main_v30 V0 (ix3 b s j) = (args x0 x1 x2 x3 x4 x5 x6 x7 x8).p b s ⟨2048 + j.val, by omega⟩ := by
  rw [← v25_apply V0 x0 x1 x2 x3 x4 x5 x6 x7 x8 h0 h1 h2 h3 h4 h5 h6 h7 h8]
  exact slice_apply 2048 (by omega) _ _ b s j

theorem v29_apply (h0 : V0 (Proc.devRef .tc main_arg0) = x0) (h1 : V0 (Proc.devRef .tc main_arg1) = x1) (h2 : V0 (Proc.devRef .tc main_arg2) = x2) (h3 : V0 (Proc.devRef .tc main_arg3) = x3) (h4 : V0 (Proc.devRef .tc main_arg4) = x4) (h5 : V0 (Proc.devRef .tc main_arg5) = x5) (h6 : V0 (Proc.devRef .tc main_arg6) = x6) (h7 : V0 (Proc.devRef .tc main_arg7) = x7) (h8 : V0 (Proc.devRef .tc main_arg8) = x8) (b : Fin 16) (s : Fin 4096) (j : Fin 512) :
    res_main_v29 V0 (ix3 b s j) = (args x0 x1 x2 x3 x4 x5 x6 x7 x8).p b s ⟨1536 + j.val, by omega⟩ := by
  rw [← v25_apply V0 x0 x1 x2 x3 x4 x5 x6 x7 x8 h0 h1 h2 h3 h4 h5 h6 h7 h8]
  exact slice_apply 1536 (by omega) _ _ b s j

theorem v43_eq : res_main_v43 V0 = gated (res_main_v30 V0) := rfl

theorem v49_eq : res_main_v49 V0 = centre (res_main_v43 V0) := rfl

theorem v92_eq : res_main_v92 V0 = mulf (gated (res_main_v29 V0)) (mix (scaled (res_main_v49 V0)
    (V0 (Proc.devRef .tc main_arg4)) (V0 (Proc.devRef .tc main_arg5))) (V0 (Proc.devRef .tc main_arg6)) (V0 (Proc.devRef .tc main_arg7))) := rfl

theorem layer_apply (h0 : V0 (Proc.devRef .tc main_arg0) = x0) (h1 : V0 (Proc.devRef .tc main_arg1) = x1) (h2 : V0 (Proc.devRef .tc main_arg2) = x2) (h3 : V0 (Proc.devRef .tc main_arg3) = x3) (h4 : V0 (Proc.devRef .tc main_arg4) = x4) (h5 : V0 (Proc.devRef .tc main_arg5) = x5) (h6 : V0 (Proc.devRef .tc main_arg6) = x6) (h7 : V0 (Proc.devRef .tc main_arg7) = x7) (h8 : V0 (Proc.devRef .tc main_arg8) = x8) (b : Fin 16) (s : Fin 4096) (j : Fin 512) :
    scaled (res_main_v49 V0) x4 x5 (ix3 b s j) = (args x0 x1 x2 x3 x4 x5 x6 x7 x8).z b s j := by
  rw [v49_eq, scaled_apply]
  unfold Args.z
  refine congrArg (fun z => layer z _ _ j) (funext fun e => ?_)
  rw [v43_eq, gated_apply, v30_apply V0 x0 x1 x2 x3 x4 x5 x6 x7 x8 h0 h1 h2 h3 h4 h5 h6 h7 h8]

theorem v92_apply (h0 : V0 (Proc.devRef .tc main_arg0) = x0) (h1 : V0 (Proc.devRef .tc main_arg1) = x1) (h2 : V0 (Proc.devRef .tc main_arg2) = x2) (h3 : V0 (Proc.devRef .tc main_arg3) = x3) (h4 : V0 (Proc.devRef .tc main_arg4) = x4) (h5 : V0 (Proc.devRef .tc main_arg5) = x5) (h6 : V0 (Proc.devRef .tc main_arg6) = x6) (h7 : V0 (Proc.devRef .tc main_arg7) = x7) (h8 : V0 (Proc.devRef .tc main_arg8) = x8) (b : Fin 16) (s : Fin 4096) (j : Fin 512) :
    res_main_v92 V0 (ix3 b s j) = gelu ((args x0 x1 x2 x3 x4 x5 x6 x7 x8).p b s ⟨1536 + j.val, by omega⟩) * (args x0 x1 x2 x3 x4 x5 x6 x7 x8).m b s j := by
  rw [v92_eq, h4, h5, h6, h7]
  show gated (res_main_v29 V0) (ix3 b s j) * mix (scaled (res_main_v49 V0) x4 x5) x6 x7 (ix3 b s j) = _
  rw [gated_apply, v29_apply V0 x0 x1 x2 x3 x4 x5 x6 x7 x8 h0 h1 h2 h3 h4 h5 h6 h7 h8, mix_apply]
  refine congrArg (_ * ·) (mixed_congr rfl (fun _ => rfl) (fun t => ?_) rfl)
  exact layer_apply V0 x0 x1 x2 x3 x4 x5 x6 x7 x8 h0 h1 h2 h3 h4 h5 h6 h7 h8 b _ j

theorem q_apply (h0 : V0 (Proc.devRef .tc main_arg0) = x0) (h1 : V0 (Proc.devRef .tc main_arg1) = x1) (h2 : V0 (Proc.devRef .tc main_arg2) = x2) (h3 : V0 (Proc.devRef .tc main_arg3) = x3) (h4 : V0 (Proc.devRef .tc main_arg4) = x4) (h5 : V0 (Proc.devRef .tc main_arg5) = x5) (h6 : V0 (Proc.devRef .tc main_arg6) = x6) (h7 : V0 (Proc.devRef .tc main_arg7) = x7) (h8 : V0 (Proc.devRef .tc main_arg8) = x8) (b : Fin 16) (s : Fin 4096) (j : Fin 512) :
    (truncf .bf16 (mulf (extractStridedSlice S16x4096x512 ![0, 0, 0] (res_main_v25 V0) slices_S16x4096x2560_S16x4096x512_0_0_0)
      (broadcastInDim S16x4096x512 ![] bcast_S_S16x4096x512 (constant S_ .f32 0x3E000000#32))) bitsLt_bf16_f32 : FVec Ideal S16x4096x512 .bf16) (ix3 b s j)
      = (args x0 x1 x2 x3 x4 x5 x6 x7 x8).out 0 b s j := by
  have e : (args x0 x1 x2 x3 x4 x5 x6 x7 x8).p b s ⟨0 + j.val, by omega⟩ = (args x0 x1 x2 x3 x4 x5 x6 x7 x8).p b s ⟨j.val, by omega⟩ :=
    congrArg ((args x0 x1 x2 x3 x4 x5 x6 x7 x8).p b s) (Fin.ext (Nat.zero_add _))
  exact congrArg (fun p : Ideal .f32 => p * Ideal.ofBits .f32 0x3E000000#32)
    (((slice_apply 0 (by omega) (res_main_v25 V0) slices_S16x4096x2560_S16x4096x512_0_0_0 b s j).trans (v25_apply V0 x0 x1 x2 x3 x4 x5 x6 x7 x8 h0 h1 h2 h3 h4 h5 h6 h7 h8 b s _)).trans e)

theorem k_apply (h0 : V0 (Proc.devRef .tc main_arg0) = x0) (h1 : V0 (Proc.devRef .tc main_arg1) = x1) (h2 : V0 (Proc.devRef .tc main_arg2) = x2) (h3 : V0 (Proc.devRef .tc main_arg3) = x3) (h4 : V0 (Proc.devRef .tc main_arg4) = x4) (h5 : V0 (Proc.devRef .tc main_arg5) = x5) (h6 : V0 (Proc.devRef .tc main_arg6) = x6) (h7 : V0 (Proc.devRef .tc main_arg7) = x7) (h8 : V0 (Proc.devRef .tc main_arg8) = x8) (b : Fin 16) (s : Fin 4096) (j : Fin 512) :
    (truncf .bf16 (extractStridedSlice S16x4096x512 ![0, 0, 512] (res_main_v25 V0) slices_S16x4096x2560_S16x4096x512_0_0_512) bitsLt_bf16_f32 :
      FVec Ideal S16x4096x512 .bf16) (ix3 b s j) = (args x0 x1 x2 x3 x4 x5 x6 x7 x8).out 1 b s j := by
  exact (slice_apply 512 (by omega) (res_main_v25 V0) slices_S16x4096x2560_S16x4096x512_0_0_512 b s j).trans (v25_apply V0 x0 x1 x2 x3 x4 x5 x6 x7 x8 h0 h1 h2 h3 h4 h5 h6 h7 h8 b s _)

theorem v_apply (h0 : V0 (Proc.devRef .tc main_arg0) = x0) (h1 : V0 (Proc.devRef .tc main_arg1) = x1) (h2 : V0 (Proc.devRef .tc main_arg2) = x2) (h3 : V0 (Proc.devRef .tc main_arg3) = x3) (h4 : V0 (Proc.devRef .tc main_arg4) = x4) (h5 : V0 (Proc.devRef .tc main_arg5) = x5) (h6 : V0 (Proc.devRef .tc main_arg6) = x6) (h7 : V0 (Proc.devRef .tc main_arg7) = x7) (h8 : V0 (Proc.devRef .tc main_arg8) = x8) (b : Fin 16) (s : Fin 4096) (j : Fin 512) :
    (truncf .bf16 (extractStridedSlice S16x4096x512 ![0, 0, 1024] (res_main_v25 V0) slices_S16x4096x2560_S16x4096x512_0_0_1024) bitsLt_bf16_f32 :
      FVec Ideal S16x4096x512 .bf16) (ix3 b s j) = (args x0 x1 x2 x3 x4 x5 x6 x7 x8).out 2 b s j := by
  exact (slice_apply 1024 (by omega) (res_main_v25 V0) slices_S16x4096x2560_S16x4096x512_0_0_1024 b s j).trans (v25_apply V0 x0 x1 x2 x3 x4 x5 x6 x7 x8 h0 h1 h2 h3 h4 h5 h6 h7 h8 b s _)

theorem s_apply (h0 : V0 (Proc.devRef .tc main_arg0) = x0) (h1 : V0 (Proc.devRef .tc main_arg1) = x1) (h2 : V0 (Proc.devRef .tc main_arg2) = x2) (h3 : V0 (Proc.devRef .tc main_arg3) = x3) (h4 : V0 (Proc.devRef .tc main_arg4) = x4) (h5 : V0 (Proc.devRef .tc main_arg5) = x5) (h6 : V0 (Proc.devRef .tc main_arg6) = x6) (h7 : V0 (Proc.devRef .tc main_arg7) = x7) (h8 : V0 (Proc.devRef .tc main_arg8) = x8) (b : Fin 16) (s : Fin 4096) (j : Fin 512) :
    (truncf .bf16 (final (res_main_v92 V0) (V0 (Proc.devRef .tc main_arg8))) bitsLt_bf16_f32 : FVec Ideal S16x4096x512 .bf16) (ix3 b s j)
      = (args x0 x1 x2 x3 x4 x5 x6 x7 x8).out 3 b s j := by
  show final (res_main_v92 V0) (V0 (Proc.devRef .tc main_arg8)) (ix3 b s j) = _
  rw [final_apply, h8]
  show _ = (args x0 x1 x2 x3 x4 x5 x6 x7 x8).s b s j
  unfold Args.s
  refine congrArg (fun h => normed h _ j) (funext fun e => ?_)
  exact v92_apply V0 x0 x1 x2 x3 x4 x5 x6 x7 x8 h0 h1 h2 h3 h4 h5 h6 h7 h8 b s e

end Results

end Cert.MixInReferenceIdeal.Whole

end
-- ==== Proof.PostSpec.lean ====
/- What the call after the mixing computes of one token, over the extended reals: the normed attention row and the gated row
   through the out-projection onto the token, the modulated norm of the sum, and the shared feed-forward added to it. -/
module

public import proofs.«01_k».proof.Proof.MixSpec
public import proofs.«01_k».proof.Proof.ExpertsSpec

@[expose] public section

noncomputable section

namespace Cert.PostSpec

open Idealize.ShloMosaic
open Cert.MixSpec (row normed)
open Cert.ExpertsSpec (silu sum_halves)

/-- Column `d` of the out-projection: the normed attention row meets the first 512 rows of the weights, the gated row the rest. -/
def joined (a s : Fin 512 → EReal) (w : Fin 1024 → Fin 1024 → EReal) (d : Fin 1024) : EReal :=
  ∑ e : Fin 512, a e * w ⟨e.val, by omega⟩ d + ∑ e : Fin 512, s e * w ⟨512 + e.val, by omega⟩ d

/-- Column `f` of a row of 1024 times a matrix of 256 columns. -/
def up (n : Fin 1024 → EReal) (w : Fin 1024 → Fin 256 → EReal) (f : Fin 256) : EReal := ∑ e : Fin 1024, n e * w e f

/-- Column `d` of the shared feed-forward of a row. -/
def shared (n : Fin 1024 → EReal) (wg wu : Fin 1024 → Fin 256 → EReal) (wd : Fin 256 → Fin 1024 → EReal) (d : Fin 1024) : EReal :=
  ∑ f : Fin 256, silu (up n wg f) * up n wu f * wd f d

/-- The arguments the two claimed results depend on, by their places. -/
structure Args where
  att : Fin 16 → Fin 4096 → Fin 512 → EReal
  sg : Fin 16 → Fin 4096 → Fin 512 → EReal
  x : Fin 16 → Fin 4096 → Fin 1024 → EReal
  md : Fin 16 → Fin 6 → Fin 1024 → EReal
  ga : Fin 512 → EReal
  wo : Fin 1024 → Fin 1024 → EReal
  gf : Fin 1024 → EReal
  wg : Fin 1024 → Fin 256 → EReal
  wu : Fin 1024 → Fin 256 → EReal
  wd : Fin 256 → Fin 1024 → EReal

/-- Token `s` of batch `b` with the projected rows added. -/
def Args.h (A : Args) (b : Fin 16) (s : Fin 4096) (d : Fin 1024) : EReal :=
  A.x b s d + A.md b 2 d * joined (normed (A.att b s) A.ga) (A.sg b s) A.wo d

/-- Its modulated norm. -/
def Args.n (A : Args) (b : Fin 16) (s : Fin 4096) : Fin 1024 → EReal := row (A.h b s) A.gf (A.md b 4) (A.md b 3)

/-- The token with the shared feed-forward added. -/
def Args.y (A : Args) (b : Fin 16) (s : Fin 4096) (d : Fin 1024) : EReal :=
  A.h b s d + A.md b 5 d * shared (A.n b s) A.wg A.wu A.wd d

end Cert.PostSpec

end
-- ==== Proof.PostBlock.lean ====
/- What the payloads of the call after the mixing hold, element by element, over the extended reals: those that reach its
   first two results. -/
module

public import proofs.«01_k».proof.Proof.Gen.PostMixIdeal.Skeleton
public import proofs.«01_k».proof.Proof.PostSpec
public import Idealize.ShloMosaic.Lib.Pointwise

@[expose] public section

noncomputable section

namespace Cert.PostMixIdeal.Block

open Cert.PostMixIdeal Cert.PostMixIdeal.Gen Cert.PostSpec Idealize.ShloMosaic
open Cert.MixSpec (row normed)
open Cert.ExpertsSpec (silu)

set_option maxRecDepth 16384
set_option maxHeartbeats 4000000

theorem joined_apply (a : Vec Ideal S1x512x512 .bf16) (g : Vec Ideal S1x512 .f32) (w : Vec Ideal S512x1024 .bf16)
    (s : Vec Ideal S1x512x512 .bf16) (w' : Vec Ideal S512x1024 .bf16) (r : Fin 512) (d : Fin 1024) :
    k0_pay4 a g w s w' (ix2 r d)
      = ∑ e : Fin 512, normed (fun e => a (ix3 0 r e)) (fun e => g (ix2 0 e)) e * w (ix2 e d)
        + ∑ e : Fin 512, (s (ix3 0 r e) : EReal) * w' (ix2 e d) := by
  unfold k0_pay4
  pointwise [normed]

theorem h_apply (j : FVec Ideal S512x1024 .f32) (x : Vec Ideal S1x512x1024 .f32) (md : Vec Ideal S1x1x1024 .f32) (r : Fin 512) (d : Fin 1024) :
    k0_pay6 j (k0_pay5 x) md (ix2 r d) = x (ix3 0 r d) + md (ix3 0 0 d) * j (ix2 r d) := by
  unfold k0_pay6 k0_pay5
  pointwise

theorem n_apply (j x : FVec Ideal S512x1024 .f32) (md : Vec Ideal S1x1x1024 .f32) (g : Vec Ideal S1x1024 .f32)
    (sc sh : Vec Ideal S1x1x1024 .f32) (r : Fin 512) (d : Fin 1024) :
    k0_pay7 j x md g sc sh (ix2 r d)
      = row (fun e => k0_pay6 j x md (ix2 r e)) (fun e => g (ix2 0 e)) (fun e => sc (ix3 0 0 e)) (fun e => sh (ix3 0 0 e)) d := by
  unfold k0_pay7
  generalize k0_pay6 j x md = h
  pointwise [row]

theorem stored_apply (j x : FVec Ideal S512x1024 .f32) (md : Vec Ideal S1x1x1024 .f32) (g : Vec Ideal S1x1024 .f32)
    (sc sh : Vec Ideal S1x1x1024 .f32) (r : Fin 512) (d : Fin 1024) :
    k0_pay10 j x md g sc sh (ix2 r d) = k0_pay7 j x md g sc sh (ix2 r d) := rfl

theorem gu_apply (j x : FVec Ideal S512x1024 .f32) (md : Vec Ideal S1x1x1024 .f32) (g : Vec Ideal S1x1024 .f32)
    (sc sh : Vec Ideal S1x1x1024 .f32) (w : Vec Ideal S1024x512 .bf16) (r f : Fin 512) :
    k0_pay11 j x md g sc sh w (ix2 r f) = ∑ e : Fin 1024, k0_pay7 j x md g sc sh (ix2 r e) * w (ix2 e f) := by
  unfold k0_pay11 k0_pay8
  generalize k0_pay7 j x md g sc sh = n
  pointwise

theorem g_apply (j x : FVec Ideal S512x1024 .f32) (md : Vec Ideal S1x1x1024 .f32) (g : Vec Ideal S1x1024 .f32)
    (sc sh : Vec Ideal S1x1x1024 .f32) (w : Vec Ideal S1024x512 .bf16) (r : Fin 512) (f : Fin 256) :
    k0_pay12 j x md g sc sh w (ix2 r f) = k0_pay11 j x md g sc sh w (ix2 r ⟨f.val, by omega⟩) := by
  unfold k0_pay12
  generalize k0_pay11 j x md g sc sh w = q
  pointwise

theorem y_apply (h : FVec Ideal S512x1024 .f32) (gu : FVec Ideal S512x512 .f32) (g : FVec Ideal S512x256 .f32)
    (w : Vec Ideal S256x1024 .bf16) (md : Vec Ideal S1x1x1024 .f32) (r : Fin 512) (d : Fin 1024) :
    k0_pay13 h gu g w md (ix3 0 r d) = h (ix2 r d) + md (ix3 0 0 d)
      * ∑ f : Fin 256, silu (g (ix2 r f)) * gu (ix2 r ⟨256 + f.val, by omega⟩) * w (ix2 f d) := by
  unfold k0_pay13
  pointwise [silu]
  simp only [zero_sub]

end Cert.PostMixIdeal.Block

end
-- ==== Proof.PostRead.lean ====
/- What the first two staging buffers of the call after the mixing hold after one grid point: the stores read back as
   functions of the blocks the body reads. -/
module

public import proofs.«01_k».proof.Proof.PostBlock
public import proofs.«01_k».proof.Proof.Gen.PostMixIdeal.Value
public import Idealize.ShloMosaic.Lib.Pipeline.ValueKit

@[expose] public section

noncomputable section

namespace Cert.PostMixIdeal.Block

open Cert.PostMixIdeal Cert.PostMixIdeal.Gen Idealize.ShloMosaic Idealize.ShloMosaic.TcCoe

set_option maxRecDepth 16384
set_option maxHeartbeats 4000000

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The out-projected rows of the block. -/
abbrev joinedB (x0 x1 : Vec Ideal S1x512x512 .bf16) (x4 : Vec Ideal S1x512 .f32) (x5 : Vec Ideal S1024x1024 .bf16) : FVec Ideal S512x1024 .f32 :=
  k0_pay4 x0 x4 (View.ld x5 (Rect.unit ![0, 0] S512x1024.size inb_S1024x1024_S512x1024_0_0)) x1
    (View.ld x5 (Rect.unit ![512, 0] S512x1024.size inb_S1024x1024_S512x1024_512_0))

/-- Row `2`, `3`, `4` or `5` of the block's modulations. -/
abbrev md2 (x3 : Vec Ideal S1x6x1024 .f32) : Vec Ideal S1x1x1024 .f32 := View.ld x3 (Rect.unit ![0, 2, 0] S1x1x1024.size inb_S1x6x1024_S1x1x1024_0_2_0)
abbrev md3 (x3 : Vec Ideal S1x6x1024 .f32) : Vec Ideal S1x1x1024 .f32 := View.ld x3 (Rect.unit ![0, 3, 0] S1x1x1024.size inb_S1x6x1024_S1x1x1024_0_3_0)
abbrev md4 (x3 : Vec Ideal S1x6x1024 .f32) : Vec Ideal S1x1x1024 .f32 := View.ld x3 (Rect.unit ![0, 4, 0] S1x1x1024.size inb_S1x6x1024_S1x1x1024_0_4_0)
abbrev md5 (x3 : Vec Ideal S1x6x1024 .f32) : Vec Ideal S1x1x1024 .f32 := View.ld x3 (Rect.unit ![0, 5, 0] S1x1x1024.size inb_S1x6x1024_S1x1x1024_0_5_0)

section Blocks
variable (x0 x1 : Vec Ideal S1x512x512 .bf16) (x2 : Vec Ideal S1x512x1024 .f32) (x3 : Vec Ideal S1x6x1024 .f32) (x4 : Vec Ideal S1x512 .f32)
  (x5 : Vec Ideal S1024x1024 .bf16) (x6 : Vec Ideal S1x1024 .f32) (x10 : Vec Ideal S1024x512 .bf16) (x11 : Vec Ideal S256x1024 .bf16)

/-- The block's tokens with the projected rows added. -/
abbrev hB : FVec Ideal S512x1024 .f32 := k0_pay6 (joinedB x0 x1 x4 x5) (k0_pay5 x2) (md2 x3)

/-- What the block writes back to the second result. -/
abbrev nB : Vec Ideal S512x1024 .bf16 := k0_pay10 (joinedB x0 x1 x4 x5) (k0_pay5 x2) (md2 x3) x6 (md4 x3) (md3 x3)

/-- What the block writes back to the first. -/
abbrev yB : Vec Ideal S1x512x1024 .f32 :=
  k0_pay13 (hB x0 x1 x2 x3 x4 x5) (k0_pay11 (joinedB x0 x1 x4 x5) (k0_pay5 x2) (md2 x3) x6 (md4 x3) (md3 x3) x10)
    (k0_pay12 (joinedB x0 x1 x4 x5) (k0_pay5 x2) (md2 x3) x6 (md4 x3) (md3 x3) x10) x11 (md5 x3)

end Blocks

section Loads
variable {e : EltTy}
theorem ld_half (x : Vec Ideal S1x512x512 e) (h) : View.ld (Val := Elt Ideal) x (Rect.unit ![0, 0, 0] ![1, 512, 512] h) = x := View.ld_unit_zero (S := S1x512x512) hz3 h x
theorem ld_gain (x : Vec Ideal S1x512 e) (h) : View.ld (Val := Elt Ideal) x (Rect.unit ![0, 0] ![1, 512] h) = x := View.ld_unit_zero (S := S1x512) hz2 h x
theorem ld_tokens (x : Vec Ideal S1x512x1024 e) (h) : View.ld (Val := Elt Ideal) x (Rect.unit ![0, 0, 0] ![1, 512, 1024] h) = x := View.ld_unit_zero (S := S1x512x1024) hz3 h x
theorem ld_row (x : Vec Ideal S1x1024 e) (h) : View.ld (Val := Elt Ideal) x (Rect.unit ![0, 0] ![1, 1024] h) = x := View.ld_unit_zero (S := S1x1024) hz2 h x
theorem ld_up (x : Vec Ideal S1024x512 e) (h) : View.ld (Val := Elt Ideal) x (Rect.unit ![0, 0] ![1024, 512] h) = x := View.ld_unit_zero (S := S1024x512) hz2 h x
theorem ld_down (x : Vec Ideal S256x1024 e) (h) : View.ld (Val := Elt Ideal) x (Rect.unit ![0, 0] ![256, 1024] h) = x := View.ld_unit_zero (S := S256x1024) hz2 h x
end Loads

theorem canon_A_12 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x6x1024 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1 .f32) (harg11 : arg11.IsWhole) (arg12 : Memref sig .tc .vmem S1024x512 .bf16) (harg12 : arg12.IsWhole) (arg13 : Memref sig .tc .vmem S256x1024 .bf16) (harg13 : arg13.IsWhole) (arg14 : Memref sig .tc .vmem S1x512x1024 .f32) (harg14 : arg14.IsWhole) (arg15 : Memref sig .tc .vmem S512x1024 .bf16) (harg15 : arg15.IsWhole) (arg16 : Memref sig .tc .vmem S8x512 .i32) (harg16 : arg16.IsWhole) (arg17 : Memref sig .tc .vmem S8x512 .f32) (harg17 : arg17.IsWhole) (arg18 : Memref sig .tc .vmem S8x512 .i32) (harg18 : arg18.IsWhole) (arg19 : Memref sig .tc .vmem S256x1 .f32) (harg19 : arg19.IsWhole) (arg20 : Memref sig .tc .vmem S256x1 .f32) (harg20 : arg20.IsWhole) (hc0 : cond0_0 i)
    (x0 : Vec Ideal S1x512x512 .bf16) (x1 : Vec Ideal S1x512x512 .bf16) (x2 : Vec Ideal S1x512x1024 .f32) (x3 : Vec Ideal S1x6x1024 .f32) (x4 : Vec Ideal S1x512 .f32) (x5 : Vec Ideal S1024x1024 .bf16) (x6 : Vec Ideal S1x1024 .f32) (x7 : Vec Ideal S256x1024 .bf16) (x8 : Vec Ideal S256x1024 .bf16) (x9 : Vec Ideal S256x1 .f32) (x10 : Vec Ideal S1024x512 .bf16) (x11 : Vec Ideal S256x1024 .bf16) :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11).1 = yB x0 x1 x2 x3 x4 x5 x6 x10 x11 := by
  unfold kernelRun0_A
  dsimp only
  sl_unfold_words
  rw [View.canon_unit_zero hz3]
  simp only [View.readAt_eq_ld, Memref.IsWhole.read_unread, ld_half, ld_gain, ld_tokens, ld_row, ld_up, ld_down]

theorem canon_A_13 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x6x1024 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1 .f32) (harg11 : arg11.IsWhole) (arg12 : Memref sig .tc .vmem S1024x512 .bf16) (harg12 : arg12.IsWhole) (arg13 : Memref sig .tc .vmem S256x1024 .bf16) (harg13 : arg13.IsWhole) (arg14 : Memref sig .tc .vmem S1x512x1024 .f32) (harg14 : arg14.IsWhole) (arg15 : Memref sig .tc .vmem S512x1024 .bf16) (harg15 : arg15.IsWhole) (arg16 : Memref sig .tc .vmem S8x512 .i32) (harg16 : arg16.IsWhole) (arg17 : Memref sig .tc .vmem S8x512 .f32) (harg17 : arg17.IsWhole) (arg18 : Memref sig .tc .vmem S8x512 .i32) (harg18 : arg18.IsWhole) (arg19 : Memref sig .tc .vmem S256x1 .f32) (harg19 : arg19.IsWhole) (arg20 : Memref sig .tc .vmem S256x1 .f32) (harg20 : arg20.IsWhole) (hc0 : cond0_0 i)
    (x0 : Vec Ideal S1x512x512 .bf16) (x1 : Vec Ideal S1x512x512 .bf16) (x2 : Vec Ideal S1x512x1024 .f32) (x3 : Vec Ideal S1x6x1024 .f32) (x4 : Vec Ideal S1x512 .f32) (x5 : Vec Ideal S1024x1024 .bf16) (x6 : Vec Ideal S1x1024 .f32) (x7 : Vec Ideal S256x1024 .bf16) (x8 : Vec Ideal S256x1024 .bf16) (x9 : Vec Ideal S256x1 .f32) (x10 : Vec Ideal S1024x512 .bf16) (x11 : Vec Ideal S256x1024 .bf16) :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11).2.1 = nB x0 x1 x2 x3 x4 x5 x6 := by
  unfold kernelRun0_A
  dsimp only
  sl_unfold_words
  rw [View.canon_unit_zero hz2]
  simp only [View.readAt_eq_ld, Memref.IsWhole.read_unread, ld_half, ld_gain, ld_tokens, ld_row, ld_up, ld_down]

theorem canon_B_12 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x6x1024 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1 .f32) (harg11 : arg11.IsWhole) (arg12 : Memref sig .tc .vmem S1024x512 .bf16) (harg12 : arg12.IsWhole) (arg13 : Memref sig .tc .vmem S256x1024 .bf16) (harg13 : arg13.IsWhole) (arg14 : Memref sig .tc .vmem S1x512x1024 .f32) (harg14 : arg14.IsWhole) (arg15 : Memref sig .tc .vmem S512x1024 .bf16) (harg15 : arg15.IsWhole) (arg16 : Memref sig .tc .vmem S8x512 .i32) (harg16 : arg16.IsWhole) (arg17 : Memref sig .tc .vmem S8x512 .f32) (harg17 : arg17.IsWhole) (arg18 : Memref sig .tc .vmem S8x512 .i32) (harg18 : arg18.IsWhole) (arg19 : Memref sig .tc .vmem S256x1 .f32) (harg19 : arg19.IsWhole) (arg20 : Memref sig .tc .vmem S256x1 .f32) (harg20 : arg20.IsWhole) (hc0 : ¬cond0_0 i)
    (x0 : Vec Ideal S1x512x512 .bf16) (x1 : Vec Ideal S1x512x512 .bf16) (x2 : Vec Ideal S1x512x1024 .f32) (x3 : Vec Ideal S1x6x1024 .f32) (x4 : Vec Ideal S1x512 .f32) (x5 : Vec Ideal S1024x1024 .bf16) (x6 : Vec Ideal S1x1024 .f32) (x7 : Vec Ideal S256x1024 .bf16) (x8 : Vec Ideal S256x1024 .bf16) (x9 : Vec Ideal S256x1 .f32) (x10 : Vec Ideal S1024x512 .bf16) (x11 : Vec Ideal S256x1024 .bf16) (xs0 : Vec Ideal S256x1 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0).1 = yB x0 x1 x2 x3 x4 x5 x6 x10 x11 := by
  unfold kernelRun0_B
  dsimp only
  sl_unfold_words
  rw [View.canon_unit_zero hz3]
  simp only [View.readAt_eq_ld, Memref.IsWhole.read_unread, ld_half, ld_gain, ld_tokens, ld_row, ld_up, ld_down]

theorem canon_B_13 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x6x1024 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1 .f32) (harg11 : arg11.IsWhole) (arg12 : Memref sig .tc .vmem S1024x512 .bf16) (harg12 : arg12.IsWhole) (arg13 : Memref sig .tc .vmem S256x1024 .bf16) (harg13 : arg13.IsWhole) (arg14 : Memref sig .tc .vmem S1x512x1024 .f32) (harg14 : arg14.IsWhole) (arg15 : Memref sig .tc .vmem S512x1024 .bf16) (harg15 : arg15.IsWhole) (arg16 : Memref sig .tc .vmem S8x512 .i32) (harg16 : arg16.IsWhole) (arg17 : Memref sig .tc .vmem S8x512 .f32) (harg17 : arg17.IsWhole) (arg18 : Memref sig .tc .vmem S8x512 .i32) (harg18 : arg18.IsWhole) (arg19 : Memref sig .tc .vmem S256x1 .f32) (harg19 : arg19.IsWhole) (arg20 : Memref sig .tc .vmem S256x1 .f32) (harg20 : arg20.IsWhole) (hc0 : ¬cond0_0 i)
    (x0 : Vec Ideal S1x512x512 .bf16) (x1 : Vec Ideal S1x512x512 .bf16) (x2 : Vec Ideal S1x512x1024 .f32) (x3 : Vec Ideal S1x6x1024 .f32) (x4 : Vec Ideal S1x512 .f32) (x5 : Vec Ideal S1024x1024 .bf16) (x6 : Vec Ideal S1x1024 .f32) (x7 : Vec Ideal S256x1024 .bf16) (x8 : Vec Ideal S256x1024 .bf16) (x9 : Vec Ideal S256x1 .f32) (x10 : Vec Ideal S1024x512 .bf16) (x11 : Vec Ideal S256x1024 .bf16) (xs0 : Vec Ideal S256x1 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 xs0).2.1 = nB x0 x1 x2 x3 x4 x5 x6 := by
  unfold kernelRun0_B
  dsimp only
  sl_unfold_words
  rw [View.canon_unit_zero hz2]
  simp only [View.readAt_eq_ld, Memref.IsWhole.read_unread, ld_half, ld_gain, ld_tokens, ld_row, ld_up, ld_down]

theorem y_read (c : Dev nD) (t : Fin cfg0.N) :
    (outsAt0 m c t.val t.isLt).1 = yB (iblk m c 0 t) (iblk m c 1 t) (iblk m c 2 t) (iblk m c 3 t) (iblk m c 4 t) (iblk m c 5 t)
      (iblk m c 6 t) (iblk m c 10 t) (iblk m c 11 t) := by
  by_cases h0 : t.val % 128 = 0
  · rw [outsAt0_A m c t h0]
    dsimp only
    unfold out0_A_12
    rw [View.read_writes_junk_eq_canon]
    exact canon_A_12 _ _ _ _ _ _ _ _ _ _ _ _ _ _ _ _ _ _ _ _ _ _ _ _ _ _ _ _ _ _ _ _ _ _ _ _ _ _ _ _ _ _ _ _ _ _ _ _ _ _ _ _ _
  · rw [outsAt0_B m c t h0]
    dsimp only
    unfold out0_B_12
    rw [View.read_writes_junk_eq_canon]
    exact canon_B_12 _ _ _ _ _ _ _ _ _ _ _ _ _ _ _ _ _ _ _ _ _ _ _ _ _ _ _ _ _ _ _ _ _ _ _ _ _ _ _ _ _ _ _ _ _ _ _ _ _ _ _ _ _ _

theorem n_read (c : Dev nD) (t : Fin cfg0.N) :
    (outsAt0 m c t.val t.isLt).2.1 = nB (iblk m c 0 t) (iblk m c 1 t) (iblk m c 2 t) (iblk m c 3 t) (iblk m c 4 t) (iblk m c 5 t)
      (iblk m c 6 t) := by
  by_cases h0 : t.val % 128 = 0
  · rw [outsAt0_A m c t h0]
    dsimp only
    unfold out0_A_13
    rw [View.read_writes_junk_eq_canon]
    exact canon_A_13 _ _ _ _ _ _ _ _ _ _ _ _ _ _ _ _ _ _ _ _ _ _ _ _ _ _ _ _ _ _ _ _ _ _ _ _ _ _ _ _ _ _ _ _ _ _ _ _ _ _ _ _ _
  · rw [outsAt0_B m c t h0]
    dsimp only
    unfold out0_B_13
    rw [View.read_writes_junk_eq_canon]
    exact canon_B_13 _ _ _ _ _ _ _ _ _ _ _ _ _ _ _ _ _ _ _ _ _ _ _ _ _ _ _ _ _ _ _ _ _ _ _ _ _ _ _ _ _ _ _ _ _ _ _ _ _ _ _ _ _ _

end Cert.PostMixIdeal.Block

end
-- ==== Proof.PostArray.lean ====
/- What the first two result arrays of the call after the mixing hold after the kernel's run: every block is one function
   of the arguments read at the block's place, and the blocks fill the arrays. -/
module

public import proofs.«01_k».proof.Proof.PostRead
public import proofs.«01_k».proof.Proof.PostSpec
public import Idealize.ShloMosaic.Lib.Pipeline.Value
public import Idealize.ShloMosaic.Lib.Pointwise

@[expose] public section

noncomputable section

namespace Cert.PostMixIdeal.Whole

open Cert.PostMixIdeal Cert.PostMixIdeal.Gen Cert.PostSpec Idealize.ShloMosaic Idealize.ShloMosaic.TcCoe Idealize.SL.Sem
open Cert.PostMixIdeal.Block (joinedB hB nB yB md2 md3 md4 md5)
open Cert.MixSpec (row normed)
open Cert.ExpertsSpec (silu)

set_option maxRecDepth 16384
set_option maxHeartbeats 1000000

variable (m : (ℓ : Loc nD τ sig) → Buf (Elt Ideal) ℓ)

/-- Device `c`'s arguments. -/
abbrev a0 (c : Dev nD) : Vec Ideal S16x4096x512 .bf16 := m ((c : Thread nD τ).loc main_arg0)
abbrev a1 (c : Dev nD) : Vec Ideal S16x4096x512 .bf16 := m ((c : Thread nD τ).loc main_arg1)
abbrev a2 (c : Dev nD) : Vec Ideal S16x4096x1024 .f32 := m ((c : Thread nD τ).loc main_arg2)
abbrev a3 (c : Dev nD) : Vec Ideal S16x6x1024 .f32 := m ((c : Thread nD τ).loc main_arg3)
abbrev a4 (c : Dev nD) : Vec Ideal S512 .f32 := m ((c : Thread nD τ).loc main_arg4)
abbrev a5 (c : Dev nD) : Vec Ideal S1024x1024 .f32 := m ((c : Thread nD τ).loc main_arg5)
abbrev a6 (c : Dev nD) : Vec Ideal S1024 .f32 := m ((c : Thread nD τ).loc main_arg6)
abbrev a9 (c : Dev nD) : Vec Ideal S1024x256 .f32 := m ((c : Thread nD τ).loc main_arg9)
abbrev a10 (c : Dev nD) : Vec Ideal S1024x256 .f32 := m ((c : Thread nD τ).loc main_arg10)
abbrev a11 (c : Dev nD) : Vec Ideal S256x1024 .f32 := m ((c : Thread nD τ).loc main_arg11)

def args (c : Dev nD) : Args where
  att b s e := a0 m c (ix3 b s e)
  sg b s e := a1 m c (ix3 b s e)
  x b s e := a2 m c (ix3 b s e)
  md b i e := a3 m c (ix3 b i e)
  ga e := a4 m c (ix1 e)
  wo e d := a5 m c (ix2 e d)
  gf e := a6 m c (ix1 e)
  wg e f := a9 m c (ix2 e f)
  wu e f := a10 m c (ix2 e f)
  wd f d := a11 m c (ix2 f d)

/-- Where each window's block sits: eight points to a batch, each taking the next 512 of its tokens. -/
theorem index_tokens : ∀ t : Fin cfg0.N,
    (win0_0.index t 0 = t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = t.val / 8 ∧ win0_2.index t 1 = t.val % 8 ∧ win0_2.index t 2 = 0)
    ∧ (win0_3.index t 0 = t.val / 8 ∧ win0_3.index t 1 = 0 ∧ win0_3.index t 2 = 0) :=
  (by decide +kernel : ∀ t : Fin grid0.N, _)

theorem index_weights : ∀ t : Fin cfg0.N,
    (win0_4.index t 0 = 0 ∧ win0_4.index t 1 = 0)
    ∧ (win0_5.index t 0 = 0 ∧ win0_5.index t 1 = 0)
    ∧ (win0_6.index t 0 = 0 ∧ win0_6.index t 1 = 0)
    ∧ (win0_10.index t 0 = 0 ∧ win0_10.index t 1 = 0)
    ∧ (win0_11.index t 0 = 0 ∧ win0_11.index t 1 = 0) :=
  (by decide +kernel : ∀ t : Fin grid0.N, _)

theorem lt_N (t : Fin cfg0.N) : t.val < 128 := t.isLt

/-- Point `t`'s batch, and the token row `r` of its block is. -/
abbrev bat (t : Fin cfg0.N) : Fin 16 := ⟨t.val / 8, by have := lt_N t; omega⟩
abbrev tok (t : Fin cfg0.N) (r : Fin 512) : Fin 4096 := ⟨t.val % 8 * 512 + r.val, by omega⟩

/-! The arguments the call reads through a host operation. -/

theorem V4 (c : Dev nD) (d : Fin 512) : (V m c main_v7 : Vec Ideal S1x512 .f32) (ix2 0 d) = a4 m c (ix1 d) := by
  have e : (V m c main_v7 : Vec Ideal S1x512 .f32) = shapeCast S1x512 (a4 m c) shapeCasts_S512_S1x512 := by
    unfold V hostOps0
    after_results_simp <;> rfl
  rw [e]
  pointwise

theorem V5 (c : Dev nD) (e : Fin 1024) (j : Fin 1024) : (V m c main_v8 : Vec Ideal S1024x1024 .bf16) (ix2 e j) = a5 m c (ix2 e j) := by
  have h : @Eq (FVec Ideal S1024x1024 .bf16) (V m c main_v8) (truncf (F := Ideal) .bf16 (a5 m c : FVec Ideal S1024x1024 .f32) bitsLt_bf16_f32) := by
    unfold V hostOps0
    after_results_simp <;> rfl
  rw [h]
  pointwise

theorem V6 (c : Dev nD) (d : Fin 1024) : (V m c main_v9 : Vec Ideal S1x1024 .f32) (ix2 0 d) = a6 m c (ix1 d) := by
  have e : (V m c main_v9 : Vec Ideal S1x1024 .f32) = shapeCast S1x1024 (a6 m c) shapeCasts_S1024_S1x1024 := by
    unfold V hostOps0
    after_results_simp <;> rfl
  rw [e]
  pointwise

theorem V11 (c : Dev nD) (e : Fin 256) (j : Fin 1024) : (V m c main_v11 : Vec Ideal S256x1024 .bf16) (ix2 e j) = a11 m c (ix2 e j) := by
  have h : @Eq (FVec Ideal S256x1024 .bf16) (V m c main_v11) (truncf (F := Ideal) .bf16 (a11 m c : FVec Ideal S256x1024 .f32) bitsLt_bf16_f32) := by
    unfold V hostOps0
    after_results_simp <;> rfl
  rw [h]
  pointwise

/-- The two up-projections side by side. -/
theorem V10_eq (c : Dev nD) : @Eq (FVec Ideal S1024x512 .bf16) (V m c main_v6) (truncf (F := Ideal) .bf16
    (concatenate S1024x512 1 [⟨S1024x256, (a9 m c : FVec Ideal S1024x256 .f32)⟩, ⟨S1024x256, (a10 m c : FVec Ideal S1024x256 .f32)⟩]
      concatenates_S1024x256_S1024x256_S1024x512_d1 : FVec Ideal S1024x512 .f32) bitsLt_bf16_f32) := by
  unfold V hostOps0
  after_results_simp <;> rfl

theorem V10_low (c : Dev nD) (e : Fin 1024) (f : Fin 256) :
    (V m c main_v6 : Vec Ideal S1024x512 .bf16) (ix2 e ⟨f.val, by omega⟩) = a9 m c (ix2 e f) := by
  rw [V10_eq]
  pointwise

theorem V10_high (c : Dev nD) (e : Fin 1024) (f : Fin 256) :
    (V m c main_v6 : Vec Ideal S1024x512 .bf16) (ix2 e ⟨256 + f.val, by omega⟩) = a10 m c (ix2 e f) := by
  rw [V10_eq]
  pointwise

/-! The blocks the body reads, at an element. -/

theorem blk0 (c : Dev nD) (t : Fin cfg0.N) (r : Fin 512) (d : Fin 512) : (iblk m c 0 t : Vec Ideal S1x512x512 .bf16) (ix3 0 r d) = a0 m c (ix3 (bat t) (tok t r) d) := by
  unfold iblk
  rw [View.read_apply]
  show V m c main_arg0 _ = _
  rw [V_main_arg0]
  congr 1
  funext a
  apply Fin.ext
  match a with
  | ⟨0, _⟩ => show win0_0.index t 0 * 1 + 1 * 0 = t.val / 8; rw [(index_tokens t).1.1]; omega
  | ⟨1, _⟩ => show win0_0.index t 1 * 512 + 1 * r.val = t.val % 8 * 512 + r.val; rw [(index_tokens t).1.2.1]; omega
  | ⟨2, _⟩ => show win0_0.index t 2 * 512 + 1 * d.val = d.val; rw [(index_tokens t).1.2.2]; omega

theorem blk1 (c : Dev nD) (t : Fin cfg0.N) (r : Fin 512) (d : Fin 512) : (iblk m c 1 t : Vec Ideal S1x512x512 .bf16) (ix3 0 r d) = a1 m c (ix3 (bat t) (tok t r) d) := by
  unfold iblk
  rw [View.read_apply]
  show V m c main_arg1 _ = _
  rw [V_main_arg1]
  congr 1
  funext a
  apply Fin.ext
  match a with
  | ⟨0, _⟩ => show win0_1.index t 0 * 1 + 1 * 0 = t.val / 8; rw [(index_tokens t).2.1.1]; omega
  | ⟨1, _⟩ => show win0_1.index t 1 * 512 + 1 * r.val = t.val % 8 * 512 + r.val; rw [(index_tokens t).2.1.2.1]; omega
  | ⟨2, _⟩ => show win0_1.index t 2 * 512 + 1 * d.val = d.val; rw [(index_tokens t).2.1.2.2]; omega

theorem blk2 (c : Dev nD) (t : Fin cfg0.N) (r : Fin 512) (d : Fin 1024) : (iblk m c 2 t : Vec Ideal S1x512x1024 .f32) (ix3 0 r d) = a2 m c (ix3 (bat t) (tok t r) d) := by
  unfold iblk
  rw [View.read_apply]
  show V m c main_arg2 _ = _
  rw [V_main_arg2]
  congr 1
  funext a
  apply Fin.ext
  match a with
  | ⟨0, _⟩ => show win0_2.index t 0 * 1 + 1 * 0 = t.val / 8; rw [(index_tokens t).2.2.1.1]; omega
  | ⟨1, _⟩ => show win0_2.index t 1 * 512 + 1 * r.val = t.val % 8 * 512 + r.val; rw [(index_tokens t).2.2.1.2.1]; omega
  | ⟨2, _⟩ => show win0_2.index t 2 * 1024 + 1 * d.val = d.val; rw [(index_tokens t).2.2.1.2.2]; omega

theorem blk3 (c : Dev nD) (t : Fin cfg0.N) (i : Fin 6) (d : Fin 1024) : (iblk m c 3 t : Vec Ideal S1x6x1024 .f32) (ix3 0 i d) = a3 m c (ix3 (bat t) i d) := by
  unfold iblk
  rw [View.read_apply]
  show V m c main_arg3 _ = _
  rw [V_main_arg3]
  congr 1
  funext a
  apply Fin.ext
  match a with
  | ⟨0, _⟩ => show win0_3.index t 0 * 1 + 1 * 0 = t.val / 8; rw [(index_tokens t).2.2.2.1]; omega
  | ⟨1, _⟩ => show win0_3.index t 1 * 6 + 1 * i.val = i.val; rw [(index_tokens t).2.2.2.2.1]; omega
  | ⟨2, _⟩ => show win0_3.index t 2 * 1024 + 1 * d.val = d.val; rw [(index_tokens t).2.2.2.2.2]; omega

theorem blk4 (c : Dev nD) (t : Fin cfg0.N) (d : Fin 512) : (iblk m c 4 t : Vec Ideal S1x512 .f32) (ix2 0 d) = a4 m c (ix1 d) := by
  rw [← V4]
  unfold iblk
  rw [View.read_apply]
  show V m c main_v7 _ = V m c main_v7 _
  congr 1
  funext a
  apply Fin.ext
  match a with
  | ⟨0, _⟩ => show win0_4.index t 0 * 1 + 1 * 0 = 0; rw [(index_weights t).1.1]
  | ⟨1, _⟩ => show win0_4.index t 1 * 512 + 1 * d.val = d.val; rw [(index_weights t).1.2]; omega

theorem blk5 (c : Dev nD) (t : Fin cfg0.N) (e : Fin 1024) (j : Fin 1024) : (iblk m c 5 t : Vec Ideal S1024x1024 .bf16) (ix2 e j) = a5 m c (ix2 e j) := by
  rw [← V5]
  unfold iblk
  rw [View.read_apply]
  show V m c main_v8 _ = V m c main_v8 _
  congr 1
  funext a
  apply Fin.ext
  match a with
  | ⟨0, _⟩ => show win0_5.index t 0 * 1024 + 1 * e.val = e.val; rw [(index_weights t).2.1.1]; omega
  | ⟨1, _⟩ => show win0_5.index t 1 * 1024 + 1 * j.val = j.val; rw [(index_weights t).2.1.2]; omega

theorem blk6 (c : Dev nD) (t : Fin cfg0.N) (d : Fin 1024) : (iblk m c 6 t : Vec Ideal S1x1024 .f32) (ix2 0 d) = a6 m c (ix1 d) := by
  rw [← V6]
  unfold iblk
  rw [View.read_apply]
  show V m c main_v9 _ = V m c main_v9 _
  congr 1
  funext a
  apply Fin.ext
  match a with
  | ⟨0, _⟩ => show win0_6.index t 0 * 1 + 1 * 0 = 0; rw [(index_weights t).2.2.1.1]
  | ⟨1, _⟩ => show win0_6.index t 1 * 1024 + 1 * d.val = d.val; rw [(index_weights t).2.2.1.2]; omega

theorem blk10 (c : Dev nD) (t : Fin cfg0.N) (e : Fin 1024) (j : Fin 512) : (iblk m c 10 t : Vec Ideal S1024x512 .bf16) (ix2 e j) = (V m c main_v6 : Vec Ideal S1024x512 .bf16) (ix2 e j) := by
  unfold iblk
  rw [View.read_apply]
  show V m c main_v6 _ = V m c main_v6 _
  congr 1
  funext a
  apply Fin.ext
  match a with
  | ⟨0, _⟩ => show win0_10.index t 0 * 1024 + 1 * e.val = e.val; rw [(index_weights t).2.2.2.1.1]; omega
  | ⟨1, _⟩ => show win0_10.index t 1 * 512 + 1 * j.val = j.val; rw [(index_weights t).2.2.2.1.2]; omega

theorem blk11 (c : Dev nD) (t : Fin cfg0.N) (e : Fin 256) (j : Fin 1024) : (iblk m c 11 t : Vec Ideal S256x1024 .bf16) (ix2 e j) = a11 m c (ix2 e j) := by
  rw [← V11]
  unfold iblk
  rw [View.read_apply]
  show V m c main_v11 _ = V m c main_v11 _
  congr 1
  funext a
  apply Fin.ext
  match a with
  | ⟨0, _⟩ => show win0_11.index t 0 * 256 + 1 * e.val = e.val; rw [(index_weights t).2.2.2.2.1]; omega
  | ⟨1, _⟩ => show win0_11.index t 1 * 1024 + 1 * j.val = j.val; rw [(index_weights t).2.2.2.2.2]; omega

theorem md2_pt (c : Dev nD) (t : Fin cfg0.N) (d : Fin 1024) : md2 (iblk m c 3 t) (ix3 0 0 d) = a3 m c (ix3 (bat t) 2 d) :=
  (View.ld_unit_apply_of (iblk m c 3 t : Vec Ideal S1x6x1024 .f32) _ _ _ _ (ix3 0 2 d) fun a => by fin_cases a <;> simp <;> rfl).trans
    (blk3 m c t 2 d)

theorem md3_pt (c : Dev nD) (t : Fin cfg0.N) (d : Fin 1024) : md3 (iblk m c 3 t) (ix3 0 0 d) = a3 m c (ix3 (bat t) 3 d) :=
  (View.ld_unit_apply_of (iblk m c 3 t : Vec Ideal S1x6x1024 .f32) _ _ _ _ (ix3 0 3 d) fun a => by fin_cases a <;> simp <;> rfl).trans
    (blk3 m c t 3 d)

theorem md4_pt (c : Dev nD) (t : Fin cfg0.N) (d : Fin 1024) : md4 (iblk m c 3 t) (ix3 0 0 d) = a3 m c (ix3 (bat t) 4 d) :=
  (View.ld_unit_apply_of (iblk m c 3 t : Vec Ideal S1x6x1024 .f32) _ _ _ _ (ix3 0 4 d) fun a => by fin_cases a <;> simp <;> rfl).trans
    (blk3 m c t 4 d)

theorem md5_pt (c : Dev nD) (t : Fin cfg0.N) (d : Fin 1024) : md5 (iblk m c 3 t) (ix3 0 0 d) = a3 m c (ix3 (bat t) 5 d) :=
  (View.ld_unit_apply_of (iblk m c 3 t : Vec Ideal S1x6x1024 .f32) _ _ _ _ (ix3 0 5 d) fun a => by fin_cases a <;> simp <;> rfl).trans
    (blk3 m c t 5 d)

/-- The out-projected rows of point `t`'s block. -/
theorem joined_pt (c : Dev nD) (t : Fin cfg0.N) (r : Fin 512) (d : Fin 1024) :
    joinedB (iblk m c 0 t) (iblk m c 1 t) (iblk m c 4 t) (iblk m c 5 t) (ix2 r d)
      = joined (normed ((args m c).att (bat t) (tok t r)) (args m c).ga) ((args m c).sg (bat t) (tok t r)) (args m c).wo d := by
  unfold joinedB
  rw [Block.joined_apply]
  unfold joined
  refine congrArg₂ (· + ·) (Finset.sum_congr rfl fun e _ => congrArg₂ (· * ·) ?_ ?_) (Finset.sum_congr rfl fun e _ => congrArg₂ (· * ·) (blk1 m c t r e) ?_)
  · exact congrArg₂ (fun a g => normed a g e) (funext fun e => blk0 m c t r e) (funext fun e => blk4 m c t e)
  · refine (View.ld_unit_apply_of (iblk m c 5 t : Vec Ideal S1024x1024 .bf16) _ _ _ _ (ix2 ⟨e.val, by omega⟩ d) fun a => ?_).trans
      (blk5 m c t _ d)
    fin_cases a
    · exact (Nat.zero_add _).symm
    · exact (Nat.zero_add _).symm
  · refine (View.ld_unit_apply_of (iblk m c 5 t : Vec Ideal S1024x1024 .bf16) _ _ _ _ (ix2 ⟨512 + e.val, by omega⟩ d) fun a => ?_).trans
      (blk5 m c t _ d)
    fin_cases a
    · rfl
    · exact (Nat.zero_add _).symm

theorem h_pt (c : Dev nD) (t : Fin cfg0.N) (r : Fin 512) (d : Fin 1024) :
    hB (iblk m c 0 t) (iblk m c 1 t) (iblk m c 2 t) (iblk m c 3 t) (iblk m c 4 t) (iblk m c 5 t) (ix2 r d)
      = (args m c).h (bat t) (tok t r) d := by
  unfold hB
  rw [Block.h_apply]
  unfold Args.h
  rw [joined_pt, md2_pt]
  exact congrArg (· + _) (blk2 m c t r d)

/-- The normed rows of point `t`'s block. -/
theorem normed_pt (c : Dev nD) (t : Fin cfg0.N) (r : Fin 512) (d : Fin 1024) :
    k0_pay7 (joinedB (iblk m c 0 t) (iblk m c 1 t) (iblk m c 4 t) (iblk m c 5 t)) (k0_pay5 (iblk m c 2 t)) (md2 (iblk m c 3 t)) (iblk m c 6 t)
      (md4 (iblk m c 3 t)) (md3 (iblk m c 3 t)) (ix2 r d) = (args m c).n (bat t) (tok t r) d := by
  rw [Block.n_apply]
  unfold Args.n
  congr 1
  · exact funext fun e => h_pt m c t r e
  · exact funext fun e => blk6 m c t e
  · exact funext fun e => md4_pt m c t e
  · exact funext fun e => md3_pt m c t e

/-- A column of a normed row's product with the two up-projections. -/
theorem up_pt (c : Dev nD) (t : Fin cfg0.N) (r f : Fin 512) :
    k0_pay11 (joinedB (iblk m c 0 t) (iblk m c 1 t) (iblk m c 4 t) (iblk m c 5 t)) (k0_pay5 (iblk m c 2 t)) (md2 (iblk m c 3 t)) (iblk m c 6 t)
      (md4 (iblk m c 3 t)) (md3 (iblk m c 3 t)) (iblk m c 10 t) (ix2 r f)
      = ∑ e : Fin 1024, (args m c).n (bat t) (tok t r) e * (V m c main_v6 : Vec Ideal S1024x512 .bf16) (ix2 e f) := by
  rw [Block.gu_apply]
  exact Finset.sum_congr rfl fun e _ => congrArg₂ (· * ·) (normed_pt m c t r e) (blk10 m c t e f)

theorem n_pt (c : Dev nD) (t : Fin cfg0.N) (r : Fin 512) (d : Fin 1024) :
    (outsAt0 m c t.val t.isLt).2.1 (ix2 r d) = (args m c).n (bat t) (tok t r) d := by
  rw [Block.n_read]
  exact (Block.stored_apply _ _ _ _ _ _ r d).trans (normed_pt m c t r d)

theorem y_pt (c : Dev nD) (t : Fin cfg0.N) (r : Fin 512) (d : Fin 1024) :
    (outsAt0 m c t.val t.isLt).1 (ix3 0 r d) = (args m c).y (bat t) (tok t r) d := by
  rw [Block.y_read]
  unfold yB
  rw [Block.y_apply, h_pt, md5_pt]
  unfold Args.y shared
  refine congrArg (_ + a3 m c (ix3 (bat t) 5 d) * ·) (Finset.sum_congr rfl fun f _ => ?_)
  rw [Block.g_apply, up_pt, up_pt]
  refine congrArg₂ (· * ·) (congrArg₂ (fun g u => silu g * u) ?_ ?_) (blk11 m c t f d)
  · exact Finset.sum_congr rfl fun e _ => congrArg (_ * ·) (V10_low m c e f)
  · exact Finset.sum_congr rfl fun e _ => congrArg (_ * ·) (V10_high m c e f)

/-- The first result array, at an element. -/
theorem first_apply (c : Dev nD) (b : Fin 16) (s : Fin 4096) (d : Fin 1024) :
    (Value.G12 m c : Vec Ideal S16x4096x1024 .f32) (ix3 b s d) = (args m c).y b s d := by
  have hN : cfg0.N = 128 := N_0
  have hp : Value.pt12Of (ix3 b s d) = 8 * b.val + s.val / 512 := by
    show 8 * (b.val / 1 - 0) + 1 * (s.val / 512 - 0) + 1 * (d.val / 1024 - 0) = _
    omega
  have hlt : Value.pt12Of (ix3 b s d) < cfg0.N := by rw [hp, hN]; omega
  unfold Value.G12
  rw [dif_pos hlt, ← Value.outsAt0_sweep m c _ hlt]
  have hl : Value.loc12Of (ix3 b s d) = ix3 0 ⟨s.val % 512, by omega⟩ d := by
    funext a
    apply Fin.ext
    match a with
    | ⟨0, _⟩ => show b.val % 1 = 0; omega
    | ⟨1, _⟩ => rfl
    | ⟨2, _⟩ => show d.val % 1024 = d.val; omega
  rw [hl]
  refine (y_pt m c ⟨_, hlt⟩ _ d).trans ?_
  refine congrArg₂ (fun b s => (args m c).y b s d) (Fin.ext ?_) (Fin.ext ?_)
  · show Value.pt12Of (ix3 b s d) / 8 = b.val
    rw [hp]; omega
  · show Value.pt12Of (ix3 b s d) % 8 * 512 + s.val % 512 = s.val
    rw [hp]; omega

/-- The second. -/
theorem second_apply (c : Dev nD) (r : Fin 65536) (d : Fin 1024) :
    (Value.G13 m c : Vec Ideal S65536x1024 .bf16) (ix2 r d)
      = (args m c).n ⟨r.val / 4096, by omega⟩ ⟨r.val % 4096, by omega⟩ d := by
  have hN : cfg0.N = 128 := N_0
  have hp : Value.pt13Of (ix2 r d) = r.val / 512 := by
    show 1 * (r.val / 512 - 0) + 1 * (d.val / 1024 - 0) = _
    omega
  have hlt : Value.pt13Of (ix2 r d) < cfg0.N := by rw [hp, hN]; omega
  unfold Value.G13
  rw [dif_pos hlt, ← Value.outsAt0_sweep m c _ hlt]
  have hl : Value.loc13Of (ix2 r d) = ix2 ⟨r.val % 512, by omega⟩ d := by
    funext a
    apply Fin.ext
    match a with
    | ⟨0, _⟩ => rfl
    | ⟨1, _⟩ => show d.val % 1024 = d.val; omega
  rw [hl]
  refine (n_pt m c ⟨_, hlt⟩ _ d).trans ?_
  refine congrArg₂ (fun b s => (args m c).n b s d) (Fin.ext ?_) (Fin.ext ?_)
  · show Value.pt13Of (ix2 r d) / 8 = r.val / 4096
    rw [hp]; omega
  · show Value.pt13Of (ix2 r d) % 8 * 512 + r.val % 512 = r.val % 4096
    rw [hp]; omega

end Cert.PostMixIdeal.Whole

end
-- ==== Proof.PostRef.lean ====
/- What the reference of the call after the mixing leaves in its first two results, element by element, over the extended
   reals. -/
module

public import proofs.«01_k».proof.Proof.Gen.PostMixReferenceIdeal.Run
public import proofs.«01_k».proof.Proof.PostSpec
public import Idealize.ShloMosaic.Lib.Pointwise

@[expose] public section

noncomputable section

namespace Cert.PostMixReferenceIdeal.Whole

open Cert.PostMixReferenceIdeal Cert.PostMixReferenceIdeal.Gen Cert.PostMixReferenceIdeal.Value Cert.PostSpec
open Idealize.ShloMosaic Idealize.ShloMosaic.TcCoe Idealize.ShloMosaic.StableHlo
open Cert.MixSpec (row normed)
open Cert.ExpertsSpec (silu sum_halves)

set_option maxRecDepth 16384
set_option maxHeartbeats 4000000

/-- The attention rows, normed. -/
abbrev attention (x0 : Vec Ideal S16x4096x512 .bf16) (x4 : Vec Ideal S512 .f32) : FVec Ideal S16x4096x512 .f32 :=
  mulf (mulf (extf .f32 x0 bitsLt_bf16_f32) (broadcastInDim S16x4096x512 ![0, 1, 2] bcast_S16x4096x1_S16x4096x512_0_1_2 (Host.rsqrt (addf (Host.divf (broadcastInDim S16x4096x1 ![0, 1] bcast_S16x4096_S16x4096x1_0_1 (Host.reduceAdd (mulf (extf .f32 x0 bitsLt_bf16_f32) (extf .f32 x0 bitsLt_bf16_f32)) (constant S_ .f32 0x00000000#32) reducesTo_S16x4096x512_S16x4096_d2 h_S_)) (broadcastInDim S16x4096x1 ![] bcast_S_S16x4096x1 (constant S_ .f32 0x44000000#32))) (broadcastInDim S16x4096x1 ![] bcast_S_S16x4096x1 (constant S_ .f32 0x358637BD#32)))))) (broadcastInDim S16x4096x512 ![0, 1, 2] bcast_S1x1x512_S16x4096x512_0_1_2 (broadcastInDim S1x1x512 ![2] bcast_S512_S1x1x512_2 x4))

theorem attention_apply (x0 : Vec Ideal S16x4096x512 .bf16) (x4 : Vec Ideal S512 .f32) (b : Fin 16) (s : Fin 4096) (e : Fin 512) :
    attention x0 x4 (ix3 b s e) = normed (fun e => x0 (ix3 b s e)) (fun e => x4 (ix1 e)) e := by
  unfold attention
  pointwise [normed]

/-- Both halves of a mixed row. -/
abbrev halves (a : FVec Ideal S16x4096x512 .f32) (x1 : Vec Ideal S16x4096x512 .bf16) : FVec Ideal S16x4096x1024 .f32 :=
  concatenate S16x4096x1024 2 [⟨S16x4096x512, a⟩, ⟨S16x4096x512, (extf .f32 x1 bitsLt_bf16_f32)⟩] concatenates_S16x4096x512_S16x4096x512_S16x4096x1024_d2

theorem halves_low (a : FVec Ideal S16x4096x512 .f32) (x1 : Vec Ideal S16x4096x512 .bf16) (b : Fin 16) (s : Fin 4096) (e : Fin 512) :
    halves a x1 (ix3 b s ⟨e.val, by omega⟩) = a (ix3 b s e) := by
  unfold halves
  pointwise

theorem halves_high (a : FVec Ideal S16x4096x512 .f32) (x1 : Vec Ideal S16x4096x512 .bf16) (b : Fin 16) (s : Fin 4096) (e : Fin 512) :
    halves a x1 (ix3 b s ⟨512 + e.val, by omega⟩) = x1 (ix3 b s e) := by
  unfold halves
  pointwise

/-- The tokens with the projected rows added. -/
abbrev sums (k : FVec Ideal S16x4096x1024 .f32) (x2 : Vec Ideal S16x4096x1024 .f32) (x3 : Vec Ideal S16x6x1024 .f32)
    (x5 : Vec Ideal S1024x1024 .f32) : FVec Ideal S16x4096x1024 .f32 :=
  addf x2 (mulf (broadcastInDim S16x4096x1024 ![0, 1, 2] bcast_S16x1x1024_S16x4096x1024_0_1_2 (broadcastInDim S16x1x1024 ![0, 2] bcast_S16x1024_S16x1x1024_0_2 (shapeCast _ (extractStridedSlice S16x1x1024 ![0, 2, 0] x3 slices_S16x6x1024_S16x1x1024_0_2_0) shapeCasts_S16x1x1024_S16x1024))) (Host.dotGeneral (F := Ideal) (φ₁ := .f32) (φ₂ := .f32) dot_S16x4096x1024_S1024x1024_S16x4096x1024_2_0_01_1_n_n none k x5))

theorem sums_apply (k : FVec Ideal S16x4096x1024 .f32) (x2 : Vec Ideal S16x4096x1024 .f32) (x3 : Vec Ideal S16x6x1024 .f32)
    (x5 : Vec Ideal S1024x1024 .f32) (b : Fin 16) (s : Fin 4096) (d : Fin 1024) :
    sums k x2 x3 x5 (ix3 b s d) = x2 (ix3 b s d) + x3 (ix3 b 2 d) * ∑ e : Fin 1024, k (ix3 b s e) * x5 (ix2 e d) := by
  unfold sums
  pointwise

/-- Their modulated norms. -/
abbrev modulated (h : FVec Ideal S16x4096x1024 .f32) (x3 : Vec Ideal S16x6x1024 .f32) (x6 : Vec Ideal S1024 .f32) : FVec Ideal S16x4096x1024 .f32 :=
  addf (mulf (mulf (mulf h (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf h h) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 x6))) (broadcastInDim S16x4096x1024 ![0, 1, 2] bcast_S16x1x1024_S16x4096x1024_0_1_2 (addf (broadcastInDim S16x1x1024 ![] bcast_S_S16x1x1024 (constant S_ .f32 0x3F800000#32)) (broadcastInDim S16x1x1024 ![0, 2] bcast_S16x1024_S16x1x1024_0_2 (shapeCast _ (extractStridedSlice S16x1x1024 ![0, 4, 0] x3 slices_S16x6x1024_S16x1x1024_0_4_0) shapeCasts_S16x1x1024_S16x1024))))) (broadcastInDim S16x4096x1024 ![0, 1, 2] bcast_S16x1x1024_S16x4096x1024_0_1_2 (broadcastInDim S16x1x1024 ![0, 2] bcast_S16x1024_S16x1x1024_0_2 (shapeCast _ (extractStridedSlice S16x1x1024 ![0, 3, 0] x3 slices_S16x6x1024_S16x1x1024_0_3_0) shapeCasts_S16x1x1024_S16x1024)))

theorem modulated_apply (h : FVec Ideal S16x4096x1024 .f32) (x3 : Vec Ideal S16x6x1024 .f32) (x6 : Vec Ideal S1024 .f32)
    (b : Fin 16) (s : Fin 4096) (d : Fin 1024) :
    modulated h x3 x6 (ix3 b s d) = row (fun e => h (ix3 b s e)) (fun e => x6 (ix1 e)) (fun e => x3 (ix3 b 4 e)) (fun e => x3 (ix3 b 3 e)) d := by
  unfold modulated
  pointwise [row]

/-- Rows of 1024 times a matrix of 256 columns. -/
abbrev ups (n : FVec Ideal S16x4096x1024 .f32) (w : Vec Ideal S1024x256 .f32) : FVec Ideal S16x4096x256 .f32 :=
  Host.dotGeneral (F := Ideal) (φ₁ := .f32) (φ₂ := .f32) dot_S16x4096x1024_S1024x256_S16x4096x256_2_0_01_1_n_n none n w

theorem ups_apply (n : FVec Ideal S16x4096x1024 .f32) (w : Vec Ideal S1024x256 .f32) (b : Fin 16) (s : Fin 4096) (f : Fin 256) :
    ups n w (ix3 b s f) = up (fun e => n (ix3 b s e)) (fun e f => w (ix2 e f)) f := by
  unfold ups
  pointwise [up]

/-- The tokens with the shared feed-forward added, from its two projections. -/
abbrev added (h : FVec Ideal S16x4096x1024 .f32) (g u : FVec Ideal S16x4096x256 .f32) (x3 : Vec Ideal S16x6x1024 .f32)
    (x11 : Vec Ideal S256x1024 .f32) : FVec Ideal S16x4096x1024 .f32 :=
  addf h (mulf (broadcastInDim S16x4096x1024 ![0, 1, 2] bcast_S16x1x1024_S16x4096x1024_0_1_2 (broadcastInDim S16x1x1024 ![0, 2] bcast_S16x1024_S16x1x1024_0_2 (shapeCast _ (extractStridedSlice S16x1x1024 ![0, 5, 0] x3 slices_S16x6x1024_S16x1x1024_0_5_0) shapeCasts_S16x1x1024_S16x1024))) (Host.dotGeneral (F := Ideal) (φ₁ := .f32) (φ₂ := .f32) dot_S16x4096x256_S256x1024_S16x4096x1024_2_0_01_1_n_n none (mulf (mulf g (Host.divf (broadcastInDim S16x4096x256 ![] bcast_S_S16x4096x256 (constant S_ .f32 0x3F800000#32)) (addf (broadcastInDim S16x4096x256 ![] bcast_S_S16x4096x256 (constant S_ .f32 0x3F800000#32)) (Host.exp (Host.negf g))))) u) x11))

theorem added_apply (h : FVec Ideal S16x4096x1024 .f32) (g u : FVec Ideal S16x4096x256 .f32) (x3 : Vec Ideal S16x6x1024 .f32)
    (x11 : Vec Ideal S256x1024 .f32) (b : Fin 16) (s : Fin 4096) (d : Fin 1024) :
    added h g u x3 x11 (ix3 b s d) = h (ix3 b s d) + x3 (ix3 b 5 d)
      * ∑ f : Fin 256, silu (g (ix3 b s f)) * u (ix3 b s f) * x11 (ix2 f d) := by
  unfold added
  pointwise [silu]

/-- The arguments, by their places. -/
def args (x0 x1 : Vec Ideal S16x4096x512 .bf16) (x2 : Vec Ideal S16x4096x1024 .f32) (x3 : Vec Ideal S16x6x1024 .f32) (x4 : Vec Ideal S512 .f32)
    (x5 : Vec Ideal S1024x1024 .f32) (x6 : Vec Ideal S1024 .f32) (x9 x10 : Vec Ideal S1024x256 .f32) (x11 : Vec Ideal S256x1024 .f32) : Args where
  att b s e := x0 (ix3 b s e)
  sg b s e := x1 (ix3 b s e)
  x b s e := x2 (ix3 b s e)
  md b i e := x3 (ix3 b i e)
  ga e := x4 (ix1 e)
  wo e d := x5 (ix2 e d)
  gf e := x6 (ix1 e)
  wg e f := x9 (ix2 e f)
  wu e f := x10 (ix2 e f)
  wd f d := x11 (ix2 f d)

section Results
variable (x0 x1 : Vec Ideal S16x4096x512 .bf16) (x2 : Vec Ideal S16x4096x1024 .f32) (x3 : Vec Ideal S16x6x1024 .f32) (x4 : Vec Ideal S512 .f32)
    (x5 : Vec Ideal S1024x1024 .f32) (x6 : Vec Ideal S1024 .f32) (x9 x10 : Vec Ideal S1024x256 .f32) (x11 : Vec Ideal S256x1024 .f32)

theorem h_apply (b : Fin 16) (s : Fin 4096) (d : Fin 1024) :
    sums (halves (attention x0 x4) x1) x2 x3 x5 (ix3 b s d) = (args x0 x1 x2 x3 x4 x5 x6 x9 x10 x11).h b s d := by
  rw [sums_apply, sum_halves]
  unfold Args.h joined
  refine congrArg (x2 (ix3 b s d) + x3 (ix3 b 2 d) * ·) (congrArg₂ (· + ·) (Finset.sum_congr rfl fun e _ => ?_) (Finset.sum_congr rfl fun e _ => ?_))
  · rw [halves_low, attention_apply]
    rfl
  · rw [halves_high]
    rfl

theorem n_apply (b : Fin 16) (s : Fin 4096) (d : Fin 1024) :
    modulated (sums (halves (attention x0 x4) x1) x2 x3 x5) x3 x6 (ix3 b s d) = (args x0 x1 x2 x3 x4 x5 x6 x9 x10 x11).n b s d := by
  rw [modulated_apply]
  unfold Args.n
  exact congrArg (fun h => row h _ _ _ d) (funext fun e => h_apply x0 x1 x2 x3 x4 x5 x6 x9 x10 x11 b s e)

theorem y_apply (b : Fin 16) (s : Fin 4096) (d : Fin 1024) :
    added (sums (halves (attention x0 x4) x1) x2 x3 x5)
      (ups (modulated (sums (halves (attention x0 x4) x1) x2 x3 x5) x3 x6) x9)
      (ups (modulated (sums (halves (attention x0 x4) x1) x2 x3 x5) x3 x6) x10) x3 x11 (ix3 b s d)
      = (args x0 x1 x2 x3 x4 x5 x6 x9 x10 x11).y b s d := by
  rw [added_apply, h_apply x0 x1 x2 x3 x4 x5 x6 x9 x10 x11]
  unfold Args.y shared
  refine congrArg (_ + x3 (ix3 b 5 d) * ·) (Finset.sum_congr rfl fun f _ => ?_)
  rw [ups_apply, ups_apply, show (fun e => modulated (sums (halves (attention x0 x4) x1) x2 x3 x5) x3 x6 (ix3 b s e))
    = (args x0 x1 x2 x3 x4 x5 x6 x9 x10 x11).n b s from funext fun e => n_apply x0 x1 x2 x3 x4 x5 x6 x9 x10 x11 b s e]
  rfl

end Results

section Printed
variable (V0 : Valuation τ sig (Elt Ideal))

theorem v28_eq : res_main_v28 V0 = sums (halves (attention (V0 (Proc.devRef .tc main_arg0)) (V0 (Proc.devRef .tc main_arg4)))
    (V0 (Proc.devRef .tc main_arg1))) (V0 (Proc.devRef .tc main_arg2)) (V0 (Proc.devRef .tc main_arg3)) (V0 (Proc.devRef .tc main_arg5)) := rfl

theorem v49_eq : res_main_v49 V0 = modulated (res_main_v28 V0) (V0 (Proc.devRef .tc main_arg3)) (V0 (Proc.devRef .tc main_arg6)) := rfl

theorem v50_eq : res_main_v50 V0 = ups (res_main_v49 V0) (V0 (Proc.devRef .tc main_arg9)) := rfl

theorem flat_apply (n : FVec Ideal S16x4096x1024 .f32) (r : Fin 65536) (d : Fin 1024) :
    (truncf .bf16 (shapeCast S65536x1024 n shapeCasts_S16x4096x1024_S65536x1024) bitsLt_bf16_f32 : FVec Ideal S65536x1024 .bf16) (ix2 r d)
      = n (ix3 ⟨r.val / 4096, by omega⟩ ⟨r.val % 4096, by omega⟩ d) := by
  pointwise

end Printed

end Cert.PostMixReferenceIdeal.Whole

end
-- ==== Proof.AdaSpec.lean ====
/- What the conditioning projection computes at one place, over the extended reals, and why the kernel's two correction
   products vanish there when the row and the column are finite. -/
module

public import Idealize.ShloMosaic.Lib.Pointwise
public import Idealize.ShloMosaic.PureOps.Ideal

@[expose] public section

noncomputable section

namespace Cert.AdaSpec

open Idealize.ShloMosaic

/-- A value by its own logistic function. -/
def silu (x : EReal) : EReal :=
  x * Ideal.div (Ideal.ofBits .f32 0x3F800000#32) (Ideal.ofBits .f32 0x3F800000#32 + Ideal.exp (-x))

/-- One place of the projection: the gated row against the column, and the column's bias. -/
def entry (c w : Fin 1024 → EReal) (b : EReal) : EReal := ∑ e : Fin 1024, silu (c e) * w e + b

/-- The same place in three products: each factor split into a leading part and what that leaves over. -/
def split (c w : Fin 1024 → EReal) (b : EReal) : EReal :=
  ∑ e : Fin 1024, silu (c e) * w e + ∑ e : Fin 1024, silu (c e) * (w e - w e)
    + ∑ e : Fin 1024, (silu (c e) - silu (c e)) * w e + b

theorem one_f32 : Ideal.ofBits .f32 0x3F800000#32 = ((1 : ℝ) : EReal) := by
  simp [Ideal.ofBits, Ideal.ieee, -EReal.coe_mul]; norm_num

/-- The gate of a real number is a real number. -/
theorem silu_coe (x : ℝ) : ∃ y : ℝ, silu (x : EReal) = (y : EReal) := by
  refine ⟨x * (1 * (1 + Real.exp (-x))⁻¹), ?_⟩
  have hp : (1 + Real.exp (-x)) ≠ 0 := by positivity
  have hexp : Ideal.exp (-(x : EReal)) = ((Real.exp (-x) : ℝ) : EReal) := rfl
  unfold silu
  rw [hexp, one_f32, ← EReal.coe_add]
  unfold Ideal.div
  rw [if_neg (by exact_mod_cast hp), ← EReal.coe_inv, ← EReal.coe_mul, ← EReal.coe_mul]

/-- A value that is no infinity, by the test `|x| < +∞`. -/
theorem real_of_test {x : EReal} (h : Ideal.cmp .olt (max x (-x)) (Ideal.ofBits .f32 0x7F800000#32) = 1#1) :
    ∃ y : ℝ, x = (y : EReal) := by
  have htop : Ideal.ofBits .f32 0x7F800000#32 = ⊤ := by simp [Ideal.ofBits, Ideal.ieee]
  rw [htop] at h
  induction x using EReal.rec with
  | bot => simp [Ideal.cmp] at h
  | coe y => exact ⟨y, rfl⟩
  | top => simp [Ideal.cmp] at h

/-- On finite rows and columns nothing is left over. -/
theorem split_eq (c w : Fin 1024 → EReal) (b : EReal) (hc : ∀ e, ∃ y : ℝ, c e = (y : EReal)) (hw : ∀ e, ∃ y : ℝ, w e = (y : EReal)) :
    split c w b = entry c w b := by
  unfold split entry
  have h1 : ∑ e : Fin 1024, silu (c e) * (w e - w e) = 0 := Finset.sum_eq_zero fun e _ => by
    obtain ⟨y, hy⟩ := hw e
    rw [hy, ← EReal.coe_sub, sub_self, EReal.coe_zero, mul_zero]
  have h2 : ∑ e : Fin 1024, (silu (c e) - silu (c e)) * w e = 0 := Finset.sum_eq_zero fun e _ => by
    obtain ⟨x, hx⟩ := hc e
    obtain ⟨y, hy⟩ := silu_coe x
    rw [hx, hy, ← EReal.coe_sub, sub_self, EReal.coe_zero, zero_mul]
  rw [h1, h2, add_zero, add_zero]

end Cert.AdaSpec

end
-- ==== Proof.AdaMask.lean ====
/- The mask read: where it holds, the row of the condition and the column of the weights are finite. -/
module

public import proofs.«01_k».proof.Proof.Gen.On_finite_rows
public import proofs.«01_k».proof.Proof.AdaSpec
public import Idealize.ShloMosaic.Lib.ReduceAll

@[expose] public section

noncomputable section

namespace Cert.AdaMask

open Cert.On_finite_rows Cert.On_finite_rows.Gen Cert.AdaSpec
open Idealize.ShloMosaic Idealize.ShloMosaic.StableHlo

set_option maxRecDepth 16384

theorem row_apply (r : IVec S16 1) (b : Fin 16) (j : Fin 6144) :
    broadcastInDim S16x6144 ![0, 1] bcast_S16x1_S16x6144_0_1 (broadcastInDim S16x1 ![0] bcast_S16_S16x1_0 r) (ix2 b j) = r (ix1 b) := by
  pointwise

theorem col_apply (r : IVec S6144 1) (b : Fin 16) (j : Fin 6144) :
    broadcastInDim S16x6144 ![0, 1] bcast_S1x6144_S16x6144_0_1 (broadcastInDim S1x6144 ![1] bcast_S6144_S1x6144_1 r) (ix2 b j) = r (ix1 j) := by
  pointwise

theorem row_drop (b : Fin 16) (e : Fin 1024) : Shape.ReducesTo.drop reducesTo_S16x1024_S16_d1 (ix2 b e) = ix1 b :=
  funext fun a => Fin.ext (match a with | ⟨0, _⟩ => rfl)

theorem col_drop (e : Fin 1024) (j : Fin 6144) : Shape.ReducesTo.drop reducesTo_S1024x6144_S6144_d0 (ix2 e j) = ix1 j :=
  funext fun a => Fin.ext (match a with | ⟨0, _⟩ => rfl)

theorem finite (x0 : FVec Ideal S16x1024 .f32) (x1 : FVec Ideal S1024x6144 .f32) (x2 : FVec Ideal S6144 .f32) (b : Fin 16) (j : Fin 6144)
    (h : fn (F := Ideal) x0 x1 x2 (ix2 b j) = 1#1) :
    (∀ e : Fin 1024, ∃ y : ℝ, x0 (ix2 b e) = (y : EReal)) ∧ ∀ e : Fin 1024, ∃ y : ℝ, x1 (ix2 e j) = (y : EReal) := by
  obtain ⟨h1, h2⟩ := IntOp.andi_eq_one.1 h
  exact ⟨fun e => real_of_test (Host.reduce_andi_eq_one _ _ _ _ _ ((row_apply _ b j).symm.trans h1) (ix2 b e) (row_drop b e)),
    fun e => real_of_test (Host.reduce_andi_eq_one _ _ _ _ _ ((col_apply _ b j).symm.trans h2) (ix2 e j) (col_drop e j))⟩

end Cert.AdaMask

end
-- ==== Proof.AdaArray.lean ====
/- What the conditioning projection's array holds after the kernel's run: every block is one function of the arguments
   read at the block's place, and the blocks fill the array. -/
module

public import proofs.«01_k».proof.Proof.Gen.AdaIdeal.Value
public import proofs.«01_k».proof.Proof.AdaSpec
public import Idealize.ShloMosaic.Lib.Pointwise
public import Idealize.ShloMosaic.Lib.Pipeline.ValueKit
public import Idealize.ShloMosaic.Lib.Pipeline.Value

@[expose] public section

noncomputable section

namespace Cert.AdaIdeal.Whole

open Cert.AdaIdeal Cert.AdaIdeal.Gen Cert.AdaSpec Idealize.ShloMosaic Idealize.ShloMosaic.TcCoe Idealize.SL.Sem
open Idealize.ShloMosaic.Pipeline (Dat)

set_option maxRecDepth 16384
set_option maxHeartbeats 4000000

variable (m : (ℓ : Loc nD τ sig) → Buf (Elt Ideal) ℓ) (ρ : Dev nD → PrngReg)

/-- Device `c`'s three arguments. -/
abbrev a0 (c : Dev nD) : Vec Ideal S16x1024 .f32 := m ((c : Thread nD τ).loc main_arg0)
abbrev a1 (c : Dev nD) : Vec Ideal S1024x6144 .f32 := m ((c : Thread nD τ).loc main_arg1)
abbrev a2 (c : Dev nD) : Vec Ideal S6144 .f32 := m ((c : Thread nD τ).loc main_arg2)

/-- The body's stored block, at an element. -/
theorem pay_apply (x : Vec Ideal S16x1024 .f32) (w : Vec Ideal S1024x1024 .f32) (b : Vec Ideal S1x1024 .f32) (r : Fin 16) (j : Fin 1024) :
    k0_pay1 x w b (ix2 r j) = split (fun e => x (ix2 r e)) (fun e => w (ix2 e j)) (b (ix2 0 j)) := by
  unfold k0_pay1
  pointwise [split, silu]
  simp only [sub_eq_add_neg, zero_add]

/-- The result array, whole. -/
def array (c : Dev nD) : Vec Ideal S16x6144 .f32 :=
  fun i => split (fun e => a0 m c (ix2 ⟨(i 0).val, (i 0).isLt⟩ e)) (fun e => a1 m c (ix2 e ⟨(i 1).val, (i 1).isLt⟩))
    (a2 m c (ix1 ⟨(i 1).val, (i 1).isLt⟩))

theorem array_apply (c : Dev nD) (i : S16x6144.Idx) (r : Fin 16) (j : Fin 6144) (h0 : (i 0).val = r.val) (h1 : (i 1).val = j.val) :
    array m c i = split (fun e => a0 m c (ix2 r e)) (fun e => a1 m c (ix2 e j)) (a2 m c (ix1 j)) := by
  have e0 : (⟨(i 0).val, (i 0).isLt⟩ : Fin 16) = r := Fin.ext h0
  have e1 : (⟨(i 1).val, (i 1).isLt⟩ : Fin 6144) = j := Fin.ext h1
  rw [← e0, ← e1]
  rfl

/-- Where each window's block sits: point `t` takes the next 1024 columns. -/
theorem index_pt : ∀ t : Fin cfg0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val) :=
  (by decide +kernel : ∀ t : Fin grid0.N, _)

theorem lt_N (t : Fin cfg0.N) : t.val < 6 := t.isLt

/-- The column that column `j` of point `t`'s block is. -/
abbrev col (t : Fin cfg0.N) (j : Fin 1024) : Fin 6144 := ⟨t.val * 1024 + j.val, by have := lt_N t; omega⟩

theorem V2 (c : Dev nD) (d : Fin 6144) : (V m c main_v0 : Vec Ideal S1x6144 .f32) (ix2 0 d) = a2 m c (ix1 d) := by
  have e : (V m c main_v0 : Vec Ideal S1x6144 .f32) = shapeCast S1x6144 (a2 m c) shapeCasts_S6144_S1x6144 := by
    unfold V hostOps0
    after_results_simp <;> rfl
  rw [e]
  pointwise

theorem blk0 (c : Dev nD) (t : Fin cfg0.N) (r : Fin 16) (e : Fin 1024) : (iblk m c 0 t : Vec Ideal S16x1024 .f32) (ix2 r e) = a0 m c (ix2 r e) := by
  unfold iblk
  rw [View.read_apply]
  show V m c main_arg0 _ = _
  rw [V_main_arg0]
  congr 1
  funext a
  apply Fin.ext
  match a with
  | ⟨0, _⟩ => show win0_0.index t 0 * 16 + 1 * r.val = r.val; rw [(index_pt t).1.1]; omega
  | ⟨1, _⟩ => show win0_0.index t 1 * 1024 + 1 * e.val = e.val; rw [(index_pt t).1.2]; omega

theorem blk1 (c : Dev nD) (t : Fin cfg0.N) (e j : Fin 1024) : (iblk m c 1 t : Vec Ideal S1024x1024 .f32) (ix2 e j) = a1 m c (ix2 e (col t j)) := by
  unfold iblk
  rw [View.read_apply]
  show V m c main_arg1 _ = _
  rw [V_main_arg1]
  congr 1
  funext a
  apply Fin.ext
  match a with
  | ⟨0, _⟩ => show win0_1.index t 0 * 1024 + 1 * e.val = e.val; rw [(index_pt t).2.1.1]; omega
  | ⟨1, _⟩ => show win0_1.index t 1 * 1024 + 1 * j.val = t.val * 1024 + j.val; rw [(index_pt t).2.1.2]; omega

theorem blk2 (c : Dev nD) (t : Fin cfg0.N) (j : Fin 1024) : (iblk m c 2 t : Vec Ideal S1x1024 .f32) (ix2 0 j) = a2 m c (ix1 (col t j)) := by
  rw [← V2]
  unfold iblk
  rw [View.read_apply]
  show V m c main_v0 _ = V m c main_v0 _
  congr 1
  funext a
  apply Fin.ext
  match a with
  | ⟨0, _⟩ => show win0_2.index t 0 * 1 + 1 * 0 = 0; rw [(index_pt t).2.2.1.1]
  | ⟨1, _⟩ => show win0_2.index t 1 * 1024 + 1 * j.val = t.val * 1024 + j.val; rw [(index_pt t).2.2.1.2]; omega

theorem hz2 : (![0, 0] : Fin 2 → Nat) = fun _ => 0 := funext fun a => by fin_cases a <;> rfl

theorem out_eq (x : Vec Ideal S16x1024 .f32) (w : Vec Ideal S1024x1024 .f32) (b : Vec Ideal S1x1024 .f32) :
    out0_3 x w b = k0_pay1 x w b := by
  unfold out0_3
  rw [View.canon_unit_zero hz2]
  rw [View.ld_unit_zero hz2, View.ld_unit_zero hz2, View.ld_unit_zero hz2]

/-- Point `t` writes back its block of the array. -/
theorem flushed (c : Dev nD) (t : Fin cfg0.N) : (dats m 0 c).flushed 3 t = (win0_3.blk t).view.read (Elt Ideal) (array m c) := by
  rw [Value.flushed3]
  funext y
  obtain ⟨r, j, rfl⟩ : ∃ (r : Fin 16) (j : Fin 1024), y = ix2 r j := ⟨y 0, y 1, eq_ix2 y⟩
  rw [View.read_apply]
  show out0_3 (iblk m c 0 t) (iblk m c 1 t) (iblk m c 2 t) (ix2 r j) = array m c _
  have er : array m c ((win0_3.blk t).view.emb (ix2 r j))
      = split (fun e => a0 m c (ix2 r e)) (fun e => a1 m c (ix2 e (col t j))) (a2 m c (ix1 (col t j))) := by
    refine array_apply m c _ _ _ ?_ ?_
    · show win0_3.index t 0 * 16 + 1 * r.val = r.val; rw [(index_pt t).2.2.2.1]; omega
    · show win0_3.index t 1 * 1024 + 1 * j.val = t.val * 1024 + j.val; rw [(index_pt t).2.2.2.2]; omega
  rw [er, out_eq, pay_apply]
  congr 1
  · exact funext fun e => blk0 m c t r e
  · exact funext fun e => blk1 m c t e j
  · exact blk2 m c t j

theorem mem_blk (t : Fin cfg0.N) (i : S16x6144.Idx) (h1 : (i 1 : Nat) / 1024 = t.val) : i ∈ ((cfg0.win 3).blk t).view.set := by
  show i ∈ ((View.whole main_v1).slice (win0_3.rect t)).set
  rw [View.set_slice_whole, Rect.mem_set_unit]
  have h0 : (i 0 : Nat) < 16 := (i 0).isLt
  intro a
  match a with
  | ⟨0, _⟩ =>
    show win0_3.index t 0 * 16 ≤ (i 0 : Nat) ∧ (i 0 : Nat) < win0_3.index t 0 * 16 + 16
    rw [(index_pt t).2.2.2.1]; omega
  | ⟨1, _⟩ =>
    show win0_3.index t 1 * 1024 ≤ (i 1 : Nat) ∧ (i 1 : Nat) < win0_3.index t 1 * 1024 + 1024
    rw [(index_pt t).2.2.2.2]; omega

theorem cover (i : S16x6144.Idx) : ∃ t : Fin cfg0.N, (cfg0.win 3).flush t = true ∧ i ∈ ((cfg0.win 3).blk t).view.set := by
  have h1 : (i 1 : Nat) < 6144 := (i 1).isLt
  have hN : cfg0.N = 6 := rfl
  exact ⟨⟨(i 1 : Nat) / 1024, by omega⟩, flush0_3 _, mem_blk _ i rfl⟩

/-- The run, read: the result array holds the function above, the arguments are unchanged. -/
theorem run : θ_run defs (onTc (τ := τ) (main (F := Ideal))) ⟨m, fun _ => 0, ρ⟩ fun r => ∀ c : Dev nD,
      r.2.mem ((c : Thread nD τ).loc main_v1) = array m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨(h c).1.trans ((dats m 0 c).arrAt_eq_of_cover 3 (array m c) (fun t _ => flushed m c t) cover), (h c).2⟩)
    (Value.run_blocks m ρ)

end Cert.AdaIdeal.Whole

end
-- ==== Proof.AdaRef.lean ====
/- The reference's array of the conditioning projection, element by element, over the extended reals. -/
module

public import proofs.«01_k».proof.Proof.Gen.AdaReferenceIdeal.Run
public import proofs.«01_k».proof.Proof.AdaSpec
public import Idealize.ShloMosaic.Lib.Pointwise

@[expose] public section

noncomputable section

namespace Cert.AdaReferenceIdeal.Whole

open Cert.AdaReferenceIdeal Cert.AdaReferenceIdeal.Gen Cert.AdaReferenceIdeal.Value Cert.AdaSpec
open Idealize.ShloMosaic Idealize.ShloMosaic.TcCoe Idealize.ShloMosaic.StableHlo

set_option maxRecDepth 16384
set_option maxHeartbeats 4000000

/-- The reference's result as its operations compose it. -/
abbrev res (x0 : FVec Ideal S16x1024 .f32) (x1 : FVec Ideal S1024x6144 .f32) (x2 : FVec Ideal S6144 .f32) : FVec Ideal S16x6144 .f32 :=
  addf (Host.dotGeneral (F := Ideal) (φ₁ := .f32) (φ₂ := .f32) dot_S16x1024_S1024x6144_S16x6144_1_0_0_1_n_n none (mulf x0 (Host.divf (broadcastInDim S16x1024 ![] bcast_S_S16x1024 (constant S_ .f32 0x3F800000#32)) (addf (broadcastInDim S16x1024 ![] bcast_S_S16x1024 (constant S_ .f32 0x3F800000#32)) (Host.exp (Host.negf x0))))) x1) (broadcastInDim S16x6144 ![0, 1] bcast_S1x6144_S16x6144_0_1 (broadcastInDim S1x6144 ![1] bcast_S6144_S1x6144_1 x2))

theorem res_apply (x0 : Vec Ideal S16x1024 .f32) (x1 : Vec Ideal S1024x6144 .f32) (x2 : Vec Ideal S6144 .f32) (b : Fin 16) (j : Fin 6144) :
    res x0 x1 x2 (ix2 b j) = entry (fun e => x0 (ix2 b e)) (fun e => x1 (ix2 e j)) (x2 (ix1 j)) := by
  unfold res
  pointwise [entry, silu]

end Cert.AdaReferenceIdeal.Whole

end
-- ==== Proof.lean ====
/- The proof of the claims about the expert call, the in-projection call, the call after the mixing and the
   conditioning projection. The expert call's frame holds where the tables are in their ranges and is proved once for
   both printings; the other calls' frames are the generated ones; each reference's frame is its run read at its
   arguments; and each value claim reads both sides' result arrays against one function of the arguments. -/
module

public import proofs.«01_k».proof.Defs
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_routed
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Frame
public import proofs.«01_k».proof.Proof.Gen.MixInIdeal.Value
public import proofs.«01_k».proof.Proof.Gen.MixInReferenceIdeal
public import proofs.«01_k».proof.Proof.Gen.MixInReferenceIdeal.Run
public import proofs.«01_k».proof.Proof.Gen.PostMix
public import proofs.«01_k».proof.Proof.Gen.PostMix.Skeleton
public import proofs.«01_k».proof.Proof.Gen.PostMix.Launch
public import proofs.«01_k».proof.Proof.Gen.PostMix.Points
public import proofs.«01_k».proof.Proof.Gen.PostMix.Frame
public import proofs.«01_k».proof.Proof.Gen.PostMixIdeal
public import proofs.«01_k».proof.Proof.Gen.PostMixIdeal.Frame
public import proofs.«01_k».proof.Proof.Gen.PostMixIdeal.Value
public import proofs.«01_k».proof.Proof.Gen.PostMixReferenceIdeal
public import proofs.«01_k».proof.Proof.Gen.PostMixReferenceIdeal.Run
public import proofs.«01_k».proof.Proof.Gen.On_token_rows
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Gen.On_finite_rows
public import proofs.«01_k».proof.Proof.ExpertsRange
public import proofs.«01_k».proof.Proof.ExpertsSame
public import proofs.«01_k».proof.Proof.ExpertsArray
public import proofs.«01_k».proof.Proof.ExpertsRef
public import proofs.«01_k».proof.Proof.MixSpec
public import proofs.«01_k».proof.Proof.MixBlock
public import proofs.«01_k».proof.Proof.MixRead
public import proofs.«01_k».proof.Proof.MixArray
public import proofs.«01_k».proof.Proof.MixRef
public import proofs.«01_k».proof.Proof.PostSpec
public import proofs.«01_k».proof.Proof.PostBlock
public import proofs.«01_k».proof.Proof.PostRead
public import proofs.«01_k».proof.Proof.PostArray
public import proofs.«01_k».proof.Proof.PostRef
public import proofs.«01_k».proof.Proof.AdaSpec
public import proofs.«01_k».proof.Proof.AdaMask
public import proofs.«01_k».proof.Proof.AdaArray
public import proofs.«01_k».proof.Proof.AdaRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

variable {F : FTy → Type} [FloatOps F]

/-- The precondition, at a memory's two tables. -/
theorem ranged (m : (ℓ : Loc Cert.ExpertsIdeal.nD Cert.ExpertsIdeal.τ Cert.ExpertsIdeal.sig) → Buf (Elt F) ℓ)
    (h : Cert.Pre_routed.fn (F := F)
        (m (((0 : Dev Cert.ExpertsIdeal.nD).tc : Thread Cert.ExpertsIdeal.nD Cert.ExpertsIdeal.τ).loc Cert.ExpertsIdeal.main_arg0))
        (m (((0 : Dev Cert.ExpertsIdeal.nD).tc : Thread Cert.ExpertsIdeal.nD Cert.ExpertsIdeal.τ).loc Cert.ExpertsIdeal.main_arg1))
        (m (((0 : Dev Cert.ExpertsIdeal.nD).tc : Thread Cert.ExpertsIdeal.nD Cert.ExpertsIdeal.τ).loc Cert.ExpertsIdeal.main_arg2))
        (m (((0 : Dev Cert.ExpertsIdeal.nD).tc : Thread Cert.ExpertsIdeal.nD Cert.ExpertsIdeal.τ).loc Cert.ExpertsIdeal.main_arg3))
        (m (((0 : Dev Cert.ExpertsIdeal.nD).tc : Thread Cert.ExpertsIdeal.nD Cert.ExpertsIdeal.τ).loc Cert.ExpertsIdeal.main_arg4))
        (m (((0 : Dev Cert.ExpertsIdeal.nD).tc : Thread Cert.ExpertsIdeal.nD Cert.ExpertsIdeal.τ).loc Cert.ExpertsIdeal.main_arg5))
      = fun _ => 1#1) : Cert.ExpertsIdeal.Ranged (Cert.ExpertsIdeal.tbl (F := F) m) := by
  obtain ⟨h1, h2⟩ := Cert.ExpertsRange.routed_range _ _ _ _ _ _ finZeroElim (congrFun h finZeroElim)
  exact ⟨fun n => h1 _, (h2 _).1, (h2 _).2⟩

/-- The expert call's frame, as printed for bits. -/
theorem experts_frame : Cert.quiescent_Experts := fun m ρ h => Cert.ExpertsSame.frame m (ranged (F := Bits) m (h 0)) ρ

/-- The expert call's frame, as printed for the extended reals. -/
theorem experts_ideal_frame : Cert.quiescent_ExpertsIdeal := fun m ρ h => Cert.ExpertsIdeal.frame m (ranged (F := Ideal) m (h 0)) ρ

/-- The expert call's reference runs on the host, where it declares no semaphore. -/
theorem experts_reference_frame : Cert.quiescent_ExpertsReferenceIdeal := fun m ρ _ =>
  (θ_run Cert.ExpertsReferenceIdeal.defs _ _).mono (fun r h => ⟨fun c => (h c).2,
      Idealize.ShloMosaic.sem_eq_zero_of_no_sems (by decide) r.2⟩)
    (Cert.ExpertsReferenceIdeal.Value.run (F := Ideal) m ρ)

/-- The expert call's result array is the reference's. -/
theorem experts : Cert.algebraic_ExpertsIdeal_ExpertsReferenceIdeal := by
  intro m ρ m' ρ' hpre hagree
  have R := ranged (F := Ideal) m (hpre 0)
  refine ⟨fun c => Cert.ExpertsIdeal.Whole.array m R c, Cert.ExpertsIdeal.Whole.run m ρ R, ?_⟩
  refine (θ_run Cert.ExpertsReferenceIdeal.defs _ _).mono (fun _ h c => ⟨(h c).1.trans ?_, (h c).2⟩)
    (Cert.ExpertsReferenceIdeal.Value.run (F := Ideal) m' ρ')
  obtain rfl : c = 0 := Subsingleton.elim _ _
  funext i
  have hi : (i 0).val < 655360 := (i 0).isLt
  obtain ⟨n, r, j, hn, rfl⟩ : ∃ (n : Fin 1280) (r : Fin 512) (j : Fin 1024) (hn : n.val * 512 + r.val < 655360),
      i = ix2 ⟨n.val * 512 + r.val, hn⟩ j :=
    ⟨⟨(i 0).val / 512, by omega⟩, ⟨(i 0).val % 512, by omega⟩, i 1, by dsimp only; omega,
      (eq_ix2 i).trans (congrArg (fun k => ix2 k (i 1)) (Fin.ext (by dsimp only; omega)))⟩
  refine Eq.trans ?_ (Cert.ExpertsIdeal.Whole.array_apply m R 0 (ix2 ⟨n.val * 512 + r.val, hn⟩ j) n r j rfl rfl).symm
  have e1 : (ix1 n : Cert.ExpertsIdeal.S1280.Idx) = Fin.cons n finZeroElim := funext fun a => match a with | ⟨0, _⟩ => rfl
  have e2 : (ix1 (0 : Fin 1) : Cert.ExpertsIdeal.S1.Idx) = Fin.cons (0 : Fin 1) finZeroElim := funext fun a => match a with | ⟨0, _⟩ => rfl
  have hc : (Cert.ExpertsIdeal.Whole.a2 m 0 (ix1 0)).toNat = (Cert.ExpertsIdeal.nuOf (Cert.ExpertsIdeal.tbl m)).toNat := by
    rw [e2]; rfl
  refine (Cert.ExpertsReferenceIdeal.Whole.res_apply m' 0 (Cert.ExpertsIdeal.Whole.a0 m 0) (Cert.ExpertsIdeal.Whole.a1 m 0)
    (Cert.ExpertsIdeal.Whole.a2 m 0) (Cert.ExpertsIdeal.Whole.a3 m 0) (Cert.ExpertsIdeal.Whole.a4 m 0) (Cert.ExpertsIdeal.Whole.a5 m 0)
    (hagree 0).1 (hagree 0).2.1 (hagree 0).2.2.1 (hagree 0).2.2.2.1 (hagree 0).2.2.2.2.1 (hagree 0).2.2.2.2.2 n r j
    (Cert.ExpertsIdeal.Whole.expertOf m R n) (by rw [e1]; rfl) (hc.trans_le R.nu2)).trans ?_
  unfold Cert.ExpertsIdeal.Whole.entry
  rw [hc]

/-- The same of the in-projection call's reference. -/
theorem mix_reference_frame : Cert.quiescent_MixInReferenceIdeal := fun m ρ _ =>
  (θ_run Cert.MixInReferenceIdeal.defs _ _).mono (fun r h => ⟨fun c => (h c).2.2.2.2,
      Idealize.ShloMosaic.sem_eq_zero_of_no_sems (by decide) r.2⟩)
    (Cert.MixInReferenceIdeal.Value.run (F := Ideal) m ρ)

/-- An array that agrees with the kernel's result `o` at every place is that result. -/
theorem mix_whole (m : (ℓ : Loc Cert.MixInIdeal.nD Cert.MixInIdeal.τ Cert.MixInIdeal.sig) → Buf (Elt Ideal) ℓ)
    (c : Dev Cert.MixInIdeal.nD) (o : Fin 4) (u : Vec Ideal Cert.MixInIdeal.S16x4096x512 .bf16)
    (h : ∀ (b : Fin 16) (s : Fin 4096) (j : Fin 512), u (ix3 b s j) = (Cert.MixInIdeal.Whole.args m c).out o b s j) :
    u = Cert.MixInIdeal.Whole.array (Cert.MixInIdeal.Whole.args m c) o := by
  funext i
  obtain ⟨b, s, j, rfl⟩ : ∃ (b : Fin 16) (s : Fin 4096) (j : Fin 512), i = ix3 b s j := ⟨i 0, i 1, i 2, eq_ix3 i⟩
  exact (h b s j).trans (Cert.MixInIdeal.Whole.array_apply _ o (ix3 b s j) b s j rfl rfl rfl).symm

/-- The in-projection call's four result arrays are the reference's. -/
theorem mix_in : Cert.algebraic_MixInIdeal_MixInReferenceIdeal := by
  intro m ρ m' ρ' _ hagree
  refine ⟨fun c => Cert.MixInIdeal.Whole.array (Cert.MixInIdeal.Whole.args m c) 0,
    fun c => Cert.MixInIdeal.Whole.array (Cert.MixInIdeal.Whole.args m c) 1,
    fun c => Cert.MixInIdeal.Whole.array (Cert.MixInIdeal.Whole.args m c) 2,
    fun c => Cert.MixInIdeal.Whole.array (Cert.MixInIdeal.Whole.args m c) 3, Cert.MixInIdeal.Whole.run m ρ, ?_⟩
  refine (θ_run Cert.MixInReferenceIdeal.defs _ _).mono (fun _ h c => ⟨(h c).1.trans ?_, (h c).2.1.trans ?_,
      (h c).2.2.1.trans ?_, (h c).2.2.2.1.trans ?_, (h c).2.2.2.2⟩)
    (Cert.MixInReferenceIdeal.Value.run (F := Ideal) m' ρ')
  · exact mix_whole m c 0 _ fun b s j => Cert.MixInReferenceIdeal.Whole.q_apply _ _ _ _ _ _ _ _ _ _
        (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2 b s j
  · exact mix_whole m c 1 _ fun b s j => Cert.MixInReferenceIdeal.Whole.k_apply _ _ _ _ _ _ _ _ _ _
        (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2 b s j
  · exact mix_whole m c 2 _ fun b s j => Cert.MixInReferenceIdeal.Whole.v_apply _ _ _ _ _ _ _ _ _ _
        (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2 b s j
  · exact mix_whole m c 3 _ fun b s j => Cert.MixInReferenceIdeal.Whole.s_apply _ _ _ _ _ _ _ _ _ _
        (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2 b s j

theorem post_reference_frame : Cert.quiescent_PostMixReferenceIdeal := fun m ρ _ =>
  (θ_run Cert.PostMixReferenceIdeal.defs _ _).mono (fun r h => ⟨fun c => (h c).2.2.2.2.2.2,
      Idealize.ShloMosaic.sem_eq_zero_of_no_sems (by decide) r.2⟩)
    (Cert.PostMixReferenceIdeal.Value.run (F := Ideal) m ρ)

/-- The reference's arguments, by their places, are the kernel's. -/
theorem post_args (m : (ℓ : Loc Cert.PostMixIdeal.nD Cert.PostMixIdeal.τ Cert.PostMixIdeal.sig) → Buf (Elt Ideal) ℓ)
    (c : Dev Cert.PostMixIdeal.nD) (x0 : Vec Ideal Cert.PostMixIdeal.S16x4096x512 .bf16) (x1 : Vec Ideal Cert.PostMixIdeal.S16x4096x512 .bf16) (x2 : Vec Ideal Cert.PostMixIdeal.S16x4096x1024 .f32) (x3 : Vec Ideal Cert.PostMixIdeal.S16x6x1024 .f32) (x4 : Vec Ideal Cert.PostMixIdeal.S512 .f32) (x5 : Vec Ideal Cert.PostMixIdeal.S1024x1024 .f32) (x6 : Vec Ideal Cert.PostMixIdeal.S1024 .f32) (x9 : Vec Ideal Cert.PostMixIdeal.S1024x256 .f32) (x10 : Vec Ideal Cert.PostMixIdeal.S1024x256 .f32) (x11 : Vec Ideal Cert.PostMixIdeal.S256x1024 .f32)
    (e0 : x0 = Cert.PostMixIdeal.Whole.a0 m c) (e1 : x1 = Cert.PostMixIdeal.Whole.a1 m c) (e2 : x2 = Cert.PostMixIdeal.Whole.a2 m c) (e3 : x3 = Cert.PostMixIdeal.Whole.a3 m c) (e4 : x4 = Cert.PostMixIdeal.Whole.a4 m c) (e5 : x5 = Cert.PostMixIdeal.Whole.a5 m c) (e6 : x6 = Cert.PostMixIdeal.Whole.a6 m c) (e9 : x9 = Cert.PostMixIdeal.Whole.a9 m c) (e10 : x10 = Cert.PostMixIdeal.Whole.a10 m c) (e11 : x11 = Cert.PostMixIdeal.Whole.a11 m c) :
    Cert.PostMixReferenceIdeal.Whole.args x0 x1 x2 x3 x4 x5 x6 x9 x10 x11 = Cert.PostMixIdeal.Whole.args m c := by
  subst e0 e1 e2 e3 e4 e5 e6 e9 e10 e11
  rfl

/-- The two token arrays the call after the mixing leaves are the reference's. -/
theorem post_mix : Cert.algebraic_PostMixIdeal_PostMixReferenceIdeal_on_token_rows := by
  intro m ρ m' ρ' _ hagree
  have hA : ∀ c, _ := fun c => post_args m c _ _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.2.2.1 (hagree c).2.2.2.2.2.2.2.2.2.2.1 (hagree c).2.2.2.2.2.2.2.2.2.2.2
  refine ⟨fun c => Cert.PostMixIdeal.Value.G12 m c, fun c => Cert.PostMixIdeal.Value.G13 m c, fun c => Cert.PostMixIdeal.Value.G14 m c,
    fun c => Cert.PostMixIdeal.Value.G15 m c, fun c => Cert.PostMixIdeal.Value.G16 m c, fun c => Cert.PostMixIdeal.Value.G17 m c, ?_, ?_⟩
  · exact (θ_run Cert.PostMixIdeal.defs _ _).mono (fun _ h c => ⟨fun i _ => congrFun (h c).1 i, fun i _ => congrFun (h c).2.1 i,
        fun i _ => congrFun (h c).2.2.1 i, fun i _ => congrFun (h c).2.2.2.1 i, fun i _ => congrFun (h c).2.2.2.2.1 i,
        fun i _ => congrFun (h c).2.2.2.2.2.1 i, (h c).2.2.2.2.2.2⟩)
      (Cert.PostMixIdeal.Value.run (F := Ideal) m ρ)
  · refine (θ_run Cert.PostMixReferenceIdeal.defs _ _).mono (fun _ h c => ⟨fun i _ => (congrFun (h c).1 i).trans ?_,
        fun i _ => (congrFun (h c).2.1 i).trans ?_,
        fun _ h => absurd (show (0#1 : BitVec 1) = 1#1 from h) (by decide), fun _ h => absurd (show (0#1 : BitVec 1) = 1#1 from h) (by decide),
        fun _ h => absurd (show (0#1 : BitVec 1) = 1#1 from h) (by decide), fun _ h => absurd (show (0#1 : BitVec 1) = 1#1 from h) (by decide),
        (h c).2.2.2.2.2.2⟩)
      (Cert.PostMixReferenceIdeal.Value.run (F := Ideal) m' ρ')
    · obtain ⟨b, s, d, rfl⟩ : ∃ (b : Fin 16) (s : Fin 4096) (d : Fin 1024), i = ix3 b s d := ⟨i 0, i 1, i 2, eq_ix3 i⟩
      refine Eq.trans ?_ (Cert.PostMixIdeal.Whole.first_apply m c b s d).symm
      rw [← hA c]
      refine Eq.trans ?_ (Cert.PostMixReferenceIdeal.Whole.y_apply _ _ _ _ _ _ _ _ _ _ b s d)
      rw [Cert.PostMixReferenceIdeal.Whole.v50_eq, Cert.PostMixReferenceIdeal.Whole.v49_eq, Cert.PostMixReferenceIdeal.Whole.v28_eq]
    · obtain ⟨r, d, rfl⟩ : ∃ (r : Fin 65536) (d : Fin 1024), i = ix2 r d := ⟨i 0, i 1, eq_ix2 i⟩
      refine Eq.trans ?_ (Cert.PostMixIdeal.Whole.second_apply m c r d).symm
      rw [← hA c]
      refine Eq.trans ?_ (Cert.PostMixReferenceIdeal.Whole.n_apply _ _ _ _ _ _ _ _ _ _ _ _ d)
      refine (Cert.PostMixReferenceIdeal.Whole.flat_apply _ r d).trans ?_
      rw [Cert.PostMixReferenceIdeal.Whole.v49_eq, Cert.PostMixReferenceIdeal.Whole.v28_eq]

/-- The conditioning projection's reference runs on the host, where it declares no semaphore. -/
theorem ada_reference_frame : Cert.quiescent_AdaReferenceIdeal := fun m ρ _ =>
  (θ_run Cert.AdaReferenceIdeal.defs _ _).mono (fun r h => ⟨fun c => (h c).2,
      Idealize.ShloMosaic.sem_eq_zero_of_no_sems (by decide) r.2⟩)
    (Cert.AdaReferenceIdeal.Value.run (F := Ideal) m ρ)

/-- The conditioning projection's result is the reference's wherever its row and its column are finite. -/
theorem ada : Cert.algebraic_AdaIdeal_AdaReferenceIdeal_on_finite_rows := by
  intro m ρ m' ρ' _ hagree
  refine ⟨fun c => Cert.AdaIdeal.Whole.array m c, ?_, ?_⟩
  · exact (θ_run Cert.AdaIdeal.defs _ _).mono (fun _ h c => ⟨fun i _ => congrFun (h c).1 i, (h c).2⟩)
      (Cert.AdaIdeal.Whole.run m ρ)
  · refine (θ_run Cert.AdaReferenceIdeal.defs _ _).mono (fun _ h c => ⟨fun i hi => (congrFun (h c).1 i).trans ?_, (h c).2⟩)
      (Cert.AdaReferenceIdeal.Value.run (F := Ideal) m' ρ')
    obtain ⟨b, j, rfl⟩ : ∃ (b : Fin 16) (j : Fin 6144), i = ix2 b j := ⟨i 0, i 1, eq_ix2 i⟩
    obtain ⟨hc, hw⟩ := Cert.AdaMask.finite _ _ _ b j hi
    refine (Cert.AdaReferenceIdeal.Whole.res_apply _ _ _ b j).trans ?_
    refine Eq.trans ?_ (Cert.AdaIdeal.Whole.array_apply m c (ix2 b j) b j rfl rfl).symm
    rw [Cert.AdaSpec.split_eq _ _ _ hc hw, (hagree c).1, (hagree c).2.1, (hagree c).2.2]

theorem claim : Cert.Claim :=
  ⟨Cert.Experts.Gen.facts, Cert.ExpertsIdeal.Gen.facts, Cert.ExpertsReferenceIdeal.Gen.facts,
    Cert.MixIn.Gen.facts, Cert.MixInIdeal.Gen.facts, Cert.MixInReferenceIdeal.Gen.facts,
    Cert.PostMix.Gen.facts, Cert.PostMixIdeal.Gen.facts, Cert.PostMixReferenceIdeal.Gen.facts,
    Cert.Ada.Gen.facts, Cert.AdaIdeal.Gen.facts, Cert.AdaReferenceIdeal.Gen.facts, Cert.Pre_routed.Gen.facts,
    Cert.On_token_rows.Gen.facts, Cert.On_finite_rows.Gen.facts,
    experts_frame, experts_ideal_frame, experts_reference_frame, fun m ρ _ => experts_reference_frame m ρ trivial,
    fun m ρ _ => Cert.MixIn.Gen.frame m ρ, fun m ρ _ => Cert.MixInIdeal.Gen.frame m ρ, mix_reference_frame,
    fun m ρ _ => Cert.PostMix.Gen.frame m ρ, fun m ρ _ => Cert.PostMixIdeal.Gen.frame m ρ, post_reference_frame,
    fun m ρ _ => Cert.Ada.Gen.frame m ρ, fun m ρ _ => Cert.AdaIdeal.Gen.frame m ρ, ada_reference_frame,
    trivial, experts, trivial, mix_in, trivial, post_mix, trivial, ada⟩

end Cert.Proof

end
